-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_idx_in_range : Cert.Pre_idx_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ preserves_Kernel_KernelIdeal
    ∧ algebraic_KernelIdeal_ReferenceIdeal (hKernelIdeal := hKernelIdeal) (hReferenceIdeal := hReferenceIdeal) (hPre_idx_in_range := hPre_idx_in_range)
-- ==== Pre_idx_in_range.lean ====
abbrev S1000000x64 : Shape := ⟨2, ![1000000, 64]⟩
abbrev S1000000x16 : Shape := ⟨2, ![1000000, 16]⟩
abbrev S1000000x1 : Shape := ⟨2, ![1000000, 1]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S1000000x64 .f32) (main_arg1 : FVec F S1000000x64 .f32) (main_arg2 : FVec F S1000000x16 .f32) (main_arg3 : FVec F S1000000x1 .f32) (main_arg4 : IVec S1000000x1 32) (main_arg5 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg5 main_v0
  let main_c_0 : IVec S_ 32 := constantI S_ 32 1000000#32
  let main_v2 : IVec S4096 32 := broadcastInDim S4096 ![] bcast_S_S4096 main_c_0
  let main_v3 : IVec S4096 1 := cmpi .slt main_arg5 main_v2
  let main_v4 : IVec S4096 1 := andi main_v1 main_v3
  main_v4
-- ==== Kernel.lean ====
abbrev S1000000x64 : Shape := ⟨2, ![1000000, 64]⟩
abbrev S1000000x16 : Shape := ⟨2, ![1000000, 16]⟩
abbrev S1000000x1 : Shape := ⟨2, ![1000000, 1]⟩
abbrev S4096 : Shape := ⟨1, ![4096]⟩
abbrev S62500x16 : Shape := ⟨2, ![62500, 16]⟩
abbrev S4096x64 : Shape := ⟨2, ![4096, 64]⟩
abbrev S4096x16 : Shape := ⟨2, ![4096, 16]⟩
abbrev S128 : Shape := ⟨1, ![128]⟩
abbrev S128x64 : Shape := ⟨2, ![128, 64]⟩
abbrev S128x16 : Shape := ⟨2, ![128, 16]⟩
abbrev S_ : Shape := ⟨0, ![]⟩
abbrev S16 : Shape := ⟨1, ![16]⟩
abbrev S1x64 : Shape := ⟨2, ![1, 64]⟩
abbrev S64 : Shape := ⟨1, ![64]⟩
abbrev S1x16 : Shape := ⟨2, ![1, 16]⟩
abbrev S4096x1 : Shape := ⟨2, ![4096, 1]⟩

abbrev nBuf : Table → Nat
  | .hbm => 15
  | .local .scVector .vmem => 10
  | _ => 0

abbrev bufTy : (tb : Table) → Fin (nBuf tb) → BufTy
  | .hbm, ⟨0, _⟩ => ⟨S1000000x64, .f32⟩
  | .hbm, ⟨1, _⟩ => ⟨S1000000x64, .f32⟩
  | .hbm, ⟨2, _⟩ => ⟨S1000000x16, .f32⟩
  | .hbm, ⟨3, _⟩ => ⟨S1000000x1, .f32⟩
  | .hbm, ⟨4, _⟩ => ⟨S1000000x1, .i32⟩
  | .hbm, ⟨5, _⟩ => ⟨S4096, .i32⟩
  | .hbm, ⟨6, _⟩ => ⟨S62500x16, .f32⟩
  | .hbm, ⟨7, _⟩ => ⟨S62500x16, .i32⟩
  | .hbm, ⟨8, _⟩ => ⟨S4096x64, .f32⟩
  | .hbm, ⟨9, _⟩ => ⟨S4096x64, .f32⟩
  | .hbm, ⟨10, _⟩ => ⟨S4096x16, .f32⟩
  | .hbm, ⟨11, _⟩ => ⟨S4096, .f32⟩
  | .hbm, ⟨12, _⟩ => ⟨S4096, .i32⟩
  | .hbm, ⟨13, _⟩ => ⟨S4096x1, .f32⟩
  | .hbm, ⟨14, _⟩ => ⟨S4096x1, .i32⟩
  | .local .scVector .vmem, ⟨0, _⟩ => ⟨S128, .i32⟩
  | .local .scVector .vmem, ⟨1, _⟩ => ⟨S128x64, .f32⟩
  | .local .scVector .vmem, ⟨2, _⟩ => ⟨S128x64, .f32⟩
  | .local .scVector .vmem, ⟨3, _⟩ => ⟨S128x16, .f32⟩
  | .local .scVector .vmem, ⟨4, _⟩ => ⟨S128, .i32⟩
  | .local .scVector .vmem, ⟨5, _⟩ => ⟨S128, .i32⟩
  | .local .scVector .vmem, ⟨6, _⟩ => ⟨S128x16, .f32⟩
  | .local .scVector .vmem, ⟨7, _⟩ => ⟨S128x16, .i32⟩
  | .local .scVector .vmem, ⟨8, _⟩ => ⟨S128, .f32⟩
  | .local .scVector .vmem, ⟨9, _⟩ => ⟨S128, .i32⟩
  | _, _ => ⟨S1000000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg5_scv : Ref sig .scVector := ⟨.hbm, 5, rfl⟩
abbrev main_v2_0_scv : Ref sig .scVector := ⟨.hbm, 8, rfl⟩
abbrev main_v2_1_scv : Ref sig .scVector := ⟨.hbm, 9, rfl⟩
abbrev main_v2_2_scv : Ref sig .scVector := ⟨.hbm, 10, rfl⟩
abbrev main_v0_scv : Ref sig .scVector := ⟨.hbm, 6, rfl⟩
abbrev main_v1_scv : Ref sig .scVector := ⟨.hbm, 7, rfl⟩
abbrev main_v3_0_scv : Ref sig .scVector := ⟨.hbm, 11, rfl⟩
abbrev main_v3_1_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc1_scratch5 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (v11 : BitVec 32) : Fin 2 → Nat :=
  let c0_i32_3 : BitVec 32 := 0#32
  ![v11.toNat, 0]

def k0_off3 (v11 : BitVec 32) : Fin 2 → Nat :=
  let c0_i32_13 : BitVec 32 := 0#32
  ![v11.toNat, 0]

def k0_chk1 (v11 : BitVec 32) : Prop :=
  (∀ a, (k0_off2 v11) a + S1x64.size a ≤ S1000000x64.size a) ∧
  (∀ a, (k0_off3 v11) a + S1x16.size a ≤ S1000000x16.size a)
theorem k0_off2_inb : ∀ (v11 : BitVec 32) (k0_hw1 : k0_chk1 v11), ∀ a, (k0_off2 v11) a + S1x64.size a ≤ S1000000x64.size a := fun v11 k0_hw1 => k0_hw1.1
theorem k0_off3_inb : ∀ (v11 : BitVec 32) (k0_hw1 : k0_chk1 v11), ∀ a, (k0_off3 v11) a + S1x16.size a ≤ S1000000x16.size a := fun v11 k0_hw1 => k0_hw1.2

def k0_off4 (v42 : BitVec 32) : Fin 2 → Nat :=
  let c0_i32_20 : BitVec 32 := 0#32
  ![v42.toNat, 0]

def k0_off5 (v42 : BitVec 32) : Fin 2 → Nat :=
  let c0_i32_30 : BitVec 32 := 0#32
  ![v42.toNat, 0]

def k0_chk2 (v42 : BitVec 32) : Prop :=
  (∀ a, (k0_off4 v42) a + S1x64.size a ≤ S1000000x64.size a) ∧
  (∀ a, (k0_off5 v42) a + S1x16.size a ≤ S1000000x16.size a)
theorem k0_off4_inb : ∀ (v42 : BitVec 32) (k0_hw2 : k0_chk2 v42), ∀ a, (k0_off4 v42) a + S1x64.size a ≤ S1000000x64.size a := fun v42 k0_hw2 => k0_hw2.1
theorem k0_off5_inb : ∀ (v42 : BitVec 32) (k0_hw2 : k0_chk2 v42), ∀ a, (k0_off5 v42) a + S1x16.size a ≤ S1000000x16.size a := fun v42 k0_hw2 => k0_hw2.2

def k0_off6 (v73 : BitVec 32) : Fin 2 → Nat :=
  let c0_i32_38 : BitVec 32 := 0#32
  ![v73.toNat, 0]

def k0_off7 (v73 : BitVec 32) : Fin 2 → Nat :=
  let c0_i32_48 : BitVec 32 := 0#32
  ![v73.toNat, 0]

def k0_chk3 (v73 : BitVec 32) : Prop :=
  (∀ a, (k0_off6 v73) a + S1x64.size a ≤ S1000000x64.size a) ∧
  (∀ a, (k0_off7 v73) a + S1x16.size a ≤ S1000000x16.size a)
theorem k0_off6_inb : ∀ (v73 : BitVec 32) (k0_hw3 : k0_chk3 v73), ∀ a, (k0_off6 v73) a + S1x64.size a ≤ S1000000x64.size a := fun v73 k0_hw3 => k0_hw3.1
theorem k0_off7_inb : ∀ (v73 : BitVec 32) (k0_hw3 : k0_chk3 v73), ∀ a, (k0_off7 v73) a + S1x16.size a ≤ S1000000x16.size a := fun v73 k0_hw3 => k0_hw3.2

def k0_off8 (v104 : BitVec 32) : Fin 2 → Nat :=
  let c0_i32_55 : BitVec 32 := 0#32
  ![v104.toNat, 0]

def k0_off9 (v104 : BitVec 32) : Fin 2 → Nat :=
  let c0_i32_65 : BitVec 32 := 0#32
  ![v104.toNat, 0]

def k0_chk4 (v104 : BitVec 32) : Prop :=
  (∀ a, (k0_off8 v104) a + S1x64.size a ≤ S1000000x64.size a) ∧
  (∀ a, (k0_off9 v104) a + S1x16.size a ≤ S1000000x16.size a)
theorem k0_off8_inb : ∀ (v104 : BitVec 32) (k0_hw4 : k0_chk4 v104), ∀ a, (k0_off8 v104) a + S1x64.size a ≤ S1000000x64.size a := fun v104 k0_hw4 => k0_hw4.1
theorem k0_off9_inb : ∀ (v104 : BitVec 32) (k0_hw4 : k0_chk4 v104), ∀ a, (k0_off9 v104) a + S1x16.size a ≤ S1000000x16.size a := fun v104 k0_hw4 => k0_hw4.2

def k0_off10 (v135 : BitVec 32) : Fin 2 → Nat :=
  let c0_i32_72 : BitVec 32 := 0#32
  ![v135.toNat, 0]

def k0_off11 (v135 : BitVec 32) : Fin 2 → Nat :=
  let c0_i32_82 : BitVec 32 := 0#32
  ![v135.toNat, 0]

def k0_chk5 (v135 : BitVec 32) : Prop :=
  (∀ a, (k0_off10 v135) a + S1x64.size a ≤ S1000000x64.size a) ∧
  (∀ a, (k0_off11 v135) a + S1x16.size a ≤ S1000000x16.size a)
theorem k0_off10_inb : ∀ (v135 : BitVec 32) (k0_hw5 : k0_chk5 v135), ∀ a, (k0_off10 v135) a + S1x64.size a ≤ S1000000x64.size a := fun v135 k0_hw5 => k0_hw5.1
theorem k0_off11_inb : ∀ (v135 : BitVec 32) (k0_hw5 : k0_chk5 v135), ∀ a, (k0_off11 v135) a + S1x16.size a ≤ S1000000x16.size a := fun v135 k0_hw5 => k0_hw5.2

def k0_off12 (v166 : BitVec 32) : Fin 2 → Nat :=
  let c0_i32_89 : BitVec 32 := 0#32
  ![v166.toNat, 0]

def k0_off13 (v166 : BitVec 32) : Fin 2 → Nat :=
  let c0_i32_99 : BitVec 32 := 0#32
  ![v166.toNat, 0]

def k0_chk6 (v166 : BitVec 32) : Prop :=
  (∀ a, (k0_off12 v166) a + S1x64.size a ≤ S1000000x64.size a) ∧
  (∀ a, (k0_off13 v166) a + S1x16.size a ≤ S1000000x16.size a)
theorem k0_off12_inb : ∀ (v166 : BitVec 32) (k0_hw6 : k0_chk6 v166), ∀ a, (k0_off12 v166) a + S1x64.size a ≤ S1000000x64.size a := fun v166 k0_hw6 => k0_hw6.1
theorem k0_off13_inb : ∀ (v166 : BitVec 32) (k0_hw6 : k0_chk6 v166), ∀ a, (k0_off13 v166) a + S1x16.size a ≤ S1000000x16.size a := fun v166 k0_hw6 => k0_hw6.2

def k0_off14 (v197 : BitVec 32) : Fin 2 → Nat :=
  let c0_i32_106 : BitVec 32 := 0#32
  ![v197.toNat, 0]

def k0_off15 (v197 : BitVec 32) : Fin 2 → Nat :=
  let c0_i32_116 : BitVec 32 := 0#32
  ![v197.toNat, 0]

def k0_chk7 (v197 : BitVec 32) : Prop :=
  (∀ a, (k0_off14 v197) a + S1x64.size a ≤ S1000000x64.size a) ∧
  (∀ a, (k0_off15 v197) a + S1x16.size a ≤ S1000000x16.size a)
theorem k0_off14_inb : ∀ (v197 : BitVec 32) (k0_hw7 : k0_chk7 v197), ∀ a, (k0_off14 v197) a + S1x64.size a ≤ S1000000x64.size a := fun v197 k0_hw7 => k0_hw7.1
theorem k0_off15_inb : ∀ (v197 : BitVec 32) (k0_hw7 : k0_chk7 v197), ∀ a, (k0_off15 v197) a + S1x16.size a ≤ S1000000x16.size a := fun v197 k0_hw7 => k0_hw7.2

def k0_off16 (v228 : BitVec 32) : Fin 2 → Nat :=
  let c0_i32_123 : BitVec 32 := 0#32
  ![v228.toNat, 0]

def k0_off17 (v228 : BitVec 32) : Fin 2 → Nat :=
  let c0_i32_133 : BitVec 32 := 0#32
  ![v228.toNat, 0]

def k0_chk8 (v228 : BitVec 32) : Prop :=
  (∀ a, (k0_off16 v228) a + S1x64.size a ≤ S1000000x64.size a) ∧
  (∀ a, (k0_off17 v228) a + S1x16.size a ≤ S1000000x16.size a)
theorem k0_off16_inb : ∀ (v228 : BitVec 32) (k0_hw8 : k0_chk8 v228), ∀ a, (k0_off16 v228) a + S1x64.size a ≤ S1000000x64.size a := fun v228 k0_hw8 => k0_hw8.1
theorem k0_off17_inb : ∀ (v228 : BitVec 32) (k0_hw8 : k0_chk8 v228), ∀ a, (k0_off17 v228) a + S1x16.size a ≤ S1000000x16.size a := fun v228 k0_hw8 => k0_hw8.2

def k0_off18 (v259 : BitVec 32) : Fin 2 → Nat :=
  let c0_i32_140 : BitVec 32 := 0#32
  ![v259.toNat, 0]

def k0_off19 (v259 : BitVec 32) : Fin 2 → Nat :=
  let c0_i32_150 : BitVec 32 := 0#32
  ![v259.toNat, 0]

def k0_chk9 (v259 : BitVec 32) : Prop :=
  (∀ a, (k0_off18 v259) a + S1x64.size a ≤ S1000000x64.size a) ∧
  (∀ a, (k0_off19 v259) a + S1x16.size a ≤ S1000000x16.size a)
theorem k0_off18_inb : ∀ (v259 : BitVec 32) (k0_hw9 : k0_chk9 v259), ∀ a, (k0_off18 v259) a + S1x64.size a ≤ S1000000x64.size a := fun v259 k0_hw9 => k0_hw9.1
theorem k0_off19_inb : ∀ (v259 : BitVec 32) (k0_hw9 : k0_chk9 v259), ∀ a, (k0_off19 v259) a + S1x16.size a ≤ S1000000x16.size a := fun v259 k0_hw9 => k0_hw9.2

def k0_off20 (v290 : BitVec 32) : Fin 2 → Nat :=
  let c0_i32_157 : BitVec 32 := 0#32
  ![v290.toNat, 0]

def k0_off21 (v290 : BitVec 32) : Fin 2 → Nat :=
  let c0_i32_167 : BitVec 32 := 0#32
  ![v290.toNat, 0]

def k0_chk10 (v290 : BitVec 32) : Prop :=
  (∀ a, (k0_off20 v290) a + S1x64.size a ≤ S1000000x64.size a) ∧
  (∀ a, (k0_off21 v290) a + S1x16.size a ≤ S1000000x16.size a)
theorem k0_off20_inb : ∀ (v290 : BitVec 32) (k0_hw10 : k0_chk10 v290), ∀ a, (k0_off20 v290) a + S1x64.size a ≤ S1000000x64.size a := fun v290 k0_hw10 => k0_hw10.1
theorem k0_off21_inb : ∀ (v290 : BitVec 32) (k0_hw10 : k0_chk10 v290), ∀ a, (k0_off21 v290) a + S1x16.size a ≤ S1000000x16.size a := fun v290 k0_hw10 => k0_hw10.2

def k0_off22 (v321 : BitVec 32) : Fin 2 → Nat :=
  let c0_i32_174 : BitVec 32 := 0#32
  ![v321.toNat, 0]

def k0_off23 (v321 : BitVec 32) : Fin 2 → Nat :=
  let c0_i32_184 : BitVec 32 := 0#32
  ![v321.toNat, 0]

def k0_chk11 (v321 : BitVec 32) : Prop :=
  (∀ a, (k0_off22 v321) a + S1x64.size a ≤ S1000000x64.size a) ∧
  (∀ a, (k0_off23 v321) a + S1x16.size a ≤ S1000000x16.size a)
theorem k0_off22_inb : ∀ (v321 : BitVec 32) (k0_hw11 : k0_chk11 v321), ∀ a, (k0_off22 v321) a + S1x64.size a ≤ S1000000x64.size a := fun v321 k0_hw11 => k0_hw11.1
theorem k0_off23_inb : ∀ (v321 : BitVec 32) (k0_hw11 : k0_chk11 v321), ∀ a, (k0_off23 v321) a + S1x16.size a ≤ S1000000x16.size a := fun v321 k0_hw11 => k0_hw11.2

def k0_off24 (v352 : BitVec 32) : Fin 2 → Nat :=
  let c0_i32_191 : BitVec 32 := 0#32
  ![v352.toNat, 0]

def k0_off25 (v352 : BitVec 32) : Fin 2 → Nat :=
  let c0_i32_201 : BitVec 32 := 0#32
  ![v352.toNat, 0]

def k0_chk12 (v352 : BitVec 32) : Prop :=
  (∀ a, (k0_off24 v352) a + S1x64.size a ≤ S1000000x64.size a) ∧
  (∀ a, (k0_off25 v352) a + S1x16.size a ≤ S1000000x16.size a)
theorem k0_off24_inb : ∀ (v352 : BitVec 32) (k0_hw12 : k0_chk12 v352), ∀ a, (k0_off24 v352) a + S1x64.size a ≤ S1000000x64.size a := fun v352 k0_hw12 => k0_hw12.1
theorem k0_off25_inb : ∀ (v352 : BitVec 32) (k0_hw12 : k0_chk12 v352), ∀ a, (k0_off25 v352) a + S1x16.size a ≤ S1000000x16.size a := fun v352 k0_hw12 => k0_hw12.2

def k0_off26 (v383 : BitVec 32) : Fin 2 → Nat :=
  let c0_i32_208 : BitVec 32 := 0#32
  ![v383.toNat, 0]

def k0_off27 (v383 : BitVec 32) : Fin 2 → Nat :=
  let c0_i32_218 : BitVec 32 := 0#32
  ![v383.toNat, 0]

def k0_chk13 (v383 : BitVec 32) : Prop :=
  (∀ a, (k0_off26 v383) a + S1x64.size a ≤ S1000000x64.size a) ∧
  (∀ a, (k0_off27 v383) a + S1x16.size a ≤ S1000000x16.size a)
theorem k0_off26_inb : ∀ (v383 : BitVec 32) (k0_hw13 : k0_chk13 v383), ∀ a, (k0_off26 v383) a + S1x64.size a ≤ S1000000x64.size a := fun v383 k0_hw13 => k0_hw13.1
theorem k0_off27_inb : ∀ (v383 : BitVec 32) (k0_hw13 : k0_chk13 v383), ∀ a, (k0_off27 v383) a + S1x16.size a ≤ S1000000x16.size a := fun v383 k0_hw13 => k0_hw13.2

def k0_off28 (v414 : BitVec 32) : Fin 2 → Nat :=
  let c0_i32_225 : BitVec 32 := 0#32
  ![v414.toNat, 0]

def k0_off29 (v414 : BitVec 32) : Fin 2 → Nat :=
  let c0_i32_235 : BitVec 32 := 0#32
  ![v414.toNat, 0]

def k0_chk14 (v414 : BitVec 32) : Prop :=
  (∀ a, (k0_off28 v414) a + S1x64.size a ≤ S1000000x64.size a) ∧
  (∀ a, (k0_off29 v414) a + S1x16.size a ≤ S1000000x16.size a)
theorem k0_off28_inb : ∀ (v414 : BitVec 32) (k0_hw14 : k0_chk14 v414), ∀ a, (k0_off28 v414) a + S1x64.size a ≤ S1000000x64.size a := fun v414 k0_hw14 => k0_hw14.1
theorem k0_off29_inb : ∀ (v414 : BitVec 32) (k0_hw14 : k0_chk14 v414), ∀ a, (k0_off29 v414) a + S1x16.size a ≤ S1000000x16.size a := fun v414 k0_hw14 => k0_hw14.2

def k0_off30 (v445 : BitVec 32) : Fin 2 → Nat :=
  let c0_i32_242 : BitVec 32 := 0#32
  ![v445.toNat, 0]

def k0_off31 (v445 : BitVec 32) : Fin 2 → Nat :=
  let c0_i32_252 : BitVec 32 := 0#32
  ![v445.toNat, 0]

def k0_chk15 (v445 : BitVec 32) : Prop :=
  (∀ a, (k0_off30 v445) a + S1x64.size a ≤ S1000000x64.size a) ∧
  (∀ a, (k0_off31 v445) a + S1x16.size a ≤ S1000000x16.size a)
theorem k0_off30_inb : ∀ (v445 : BitVec 32) (k0_hw15 : k0_chk15 v445), ∀ a, (k0_off30 v445) a + S1x64.size a ≤ S1000000x64.size a := fun v445 k0_hw15 => k0_hw15.1
theorem k0_off31_inb : ∀ (v445 : BitVec 32) (k0_hw15 : k0_chk15 v445), ∀ a, (k0_off31 v445) a + S1x16.size a ≤ S1000000x16.size a := fun v445 k0_hw15 => k0_hw15.2

def k0_off32 (v476 : BitVec 32) : Fin 2 → Nat :=
  let c0_i32_259 : BitVec 32 := 0#32
  ![v476.toNat, 0]

def k0_off33 (v476 : BitVec 32) : Fin 2 → Nat :=
  let c0_i32_269 : BitVec 32 := 0#32
  ![v476.toNat, 0]

def k0_chk16 (v476 : BitVec 32) : Prop :=
  (∀ a, (k0_off32 v476) a + S1x64.size a ≤ S1000000x64.size a) ∧
  (∀ a, (k0_off33 v476) a + S1x16.size a ≤ S1000000x16.size a)
theorem k0_off32_inb : ∀ (v476 : BitVec 32) (k0_hw16 : k0_chk16 v476), ∀ a, (k0_off32 v476) a + S1x64.size a ≤ S1000000x64.size a := fun v476 k0_hw16 => k0_hw16.1
theorem k0_off33_inb : ∀ (v476 : BitVec 32) (k0_hw16 : k0_chk16 v476), ∀ a, (k0_off33 v476) a + S1x16.size a ≤ S1000000x16.size a := fun v476 k0_hw16 => k0_hw16.2

def k0_off34 (v508 : BitVec 32) : Fin 2 → Nat :=
  let c0_i32_276 : BitVec 32 := 0#32
  ![v508.toNat, 0]

def k0_off35 (v508 : BitVec 32) : Fin 2 → Nat :=
  let c0_i32_286 : BitVec 32 := 0#32
  ![v508.toNat, 0]

def k0_chk17 (v508 : BitVec 32) : Prop :=
  (∀ a, (k0_off34 v508) a + S1x64.size a ≤ S1000000x64.size a) ∧
  (∀ a, (k0_off35 v508) a + S1x16.size a ≤ S1000000x16.size a)
theorem k0_off34_inb : ∀ (v508 : BitVec 32) (k0_hw17 : k0_chk17 v508), ∀ a, (k0_off34 v508) a + S1x64.size a ≤ S1000000x64.size a := fun v508 k0_hw17 => k0_hw17.1
theorem k0_off35_inb : ∀ (v508 : BitVec 32) (k0_hw17 : k0_chk17 v508), ∀ a, (k0_off35 v508) a + S1x16.size a ≤ S1000000x16.size a := fun v508 k0_hw17 => k0_hw17.2

def k0_off36 (v539 : BitVec 32) : Fin 2 → Nat :=
  let c0_i32_293 : BitVec 32 := 0#32
  ![v539.toNat, 0]

def k0_off37 (v539 : BitVec 32) : Fin 2 → Nat :=
  let c0_i32_303 : BitVec 32 := 0#32
  ![v539.toNat, 0]

def k0_chk18 (v539 : BitVec 32) : Prop :=
  (∀ a, (k0_off36 v539) a + S1x64.size a ≤ S1000000x64.size a) ∧
  (∀ a, (k0_off37 v539) a + S1x16.size a ≤ S1000000x16.size a)
theorem k0_off36_inb : ∀ (v539 : BitVec 32) (k0_hw18 : k0_chk18 v539), ∀ a, (k0_off36 v539) a + S1x64.size a ≤ S1000000x64.size a := fun v539 k0_hw18 => k0_hw18.1
theorem k0_off37_inb : ∀ (v539 : BitVec 32) (k0_hw18 : k0_chk18 v539), ∀ a, (k0_off37 v539) a + S1x16.size a ≤ S1000000x16.size a := fun v539 k0_hw18 => k0_hw18.2

def k0_off38 (v570 : BitVec 32) : Fin 2 → Nat :=
  let c0_i32_310 : BitVec 32 := 0#32
  ![v570.toNat, 0]

def k0_off39 (v570 : BitVec 32) : Fin 2 → Nat :=
  let c0_i32_320 : BitVec 32 := 0#32
  ![v570.toNat, 0]

def k0_chk19 (v570 : BitVec 32) : Prop :=
  (∀ a, (k0_off38 v570) a + S1x64.size a ≤ S1000000x64.size a) ∧
  (∀ a, (k0_off39 v570) a + S1x16.size a ≤ S1000000x16.size a)
theorem k0_off38_inb : ∀ (v570 : BitVec 32) (k0_hw19 : k0_chk19 v570), ∀ a, (k0_off38 v570) a + S1x64.size a ≤ S1000000x64.size a := fun v570 k0_hw19 => k0_hw19.1
theorem k0_off39_inb : ∀ (v570 : BitVec 32) (k0_hw19 : k0_chk19 v570), ∀ a, (k0_off39 v570) a + S1x16.size a ≤ S1000000x16.size a := fun v570 k0_hw19 => k0_hw19.2

def k0_off40 (v601 : BitVec 32) : Fin 2 → Nat :=
  let c0_i32_327 : BitVec 32 := 0#32
  ![v601.toNat, 0]

def k0_off41 (v601 : BitVec 32) : Fin 2 → Nat :=
  let c0_i32_337 : BitVec 32 := 0#32
  ![v601.toNat, 0]

def k0_chk20 (v601 : BitVec 32) : Prop :=
  (∀ a, (k0_off40 v601) a + S1x64.size a ≤ S1000000x64.size a) ∧
  (∀ a, (k0_off41 v601) a + S1x16.size a ≤ S1000000x16.size a)
theorem k0_off40_inb : ∀ (v601 : BitVec 32) (k0_hw20 : k0_chk20 v601), ∀ a, (k0_off40 v601) a + S1x64.size a ≤ S1000000x64.size a := fun v601 k0_hw20 => k0_hw20.1
theorem k0_off41_inb : ∀ (v601 : BitVec 32) (k0_hw20 : k0_chk20 v601), ∀ a, (k0_off41 v601) a + S1x16.size a ≤ S1000000x16.size a := fun v601 k0_hw20 => k0_hw20.2

def k0_off42 (v632 : BitVec 32) : Fin 2 → Nat :=
  let c0_i32_344 : BitVec 32 := 0#32
  ![v632.toNat, 0]

def k0_off43 (v632 : BitVec 32) : Fin 2 → Nat :=
  let c0_i32_354 : BitVec 32 := 0#32
  ![v632.toNat, 0]

def k0_chk21 (v632 : BitVec 32) : Prop :=
  (∀ a, (k0_off42 v632) a + S1x64.size a ≤ S1000000x64.size a) ∧
  (∀ a, (k0_off43 v632) a + S1x16.size a ≤ S1000000x16.size a)
theorem k0_off42_inb : ∀ (v632 : BitVec 32) (k0_hw21 : k0_chk21 v632), ∀ a, (k0_off42 v632) a + S1x64.size a ≤ S1000000x64.size a := fun v632 k0_hw21 => k0_hw21.1
theorem k0_off43_inb : ∀ (v632 : BitVec 32) (k0_hw21 : k0_chk21 v632), ∀ a, (k0_off43 v632) a + S1x16.size a ≤ S1000000x16.size a := fun v632 k0_hw21 => k0_hw21.2

def k0_off44 (v663 : BitVec 32) : Fin 2 → Nat :=
  let c0_i32_361 : BitVec 32 := 0#32
  ![v663.toNat, 0]

def k0_off45 (v663 : BitVec 32) : Fin 2 → Nat :=
  let c0_i32_371 : BitVec 32 := 0#32
  ![v663.toNat, 0]

def k0_chk22 (v663 : BitVec 32) : Prop :=
  (∀ a, (k0_off44 v663) a + S1x64.size a ≤ S1000000x64.size a) ∧
  (∀ a, (k0_off45 v663) a + S1x16.size a ≤ S1000000x16.size a)
theorem k0_off44_inb : ∀ (v663 : BitVec 32) (k0_hw22 : k0_chk22 v663), ∀ a, (k0_off44 v663) a + S1x64.size a ≤ S1000000x64.size a := fun v663 k0_hw22 => k0_hw22.1
theorem k0_off45_inb : ∀ (v663 : BitVec 32) (k0_hw22 : k0_chk22 v663), ∀ a, (k0_off45 v663) a + S1x16.size a ≤ S1000000x16.size a := fun v663 k0_hw22 => k0_hw22.2

def k0_off46 (v694 : BitVec 32) : Fin 2 → Nat :=
  let c0_i32_378 : BitVec 32 := 0#32
  ![v694.toNat, 0]

def k0_off47 (v694 : BitVec 32) : Fin 2 → Nat :=
  let c0_i32_388 : BitVec 32 := 0#32
  ![v694.toNat, 0]

def k0_chk23 (v694 : BitVec 32) : Prop :=
  (∀ a, (k0_off46 v694) a + S1x64.size a ≤ S1000000x64.size a) ∧
  (∀ a, (k0_off47 v694) a + S1x16.size a ≤ S1000000x16.size a)
theorem k0_off46_inb : ∀ (v694 : BitVec 32) (k0_hw23 : k0_chk23 v694), ∀ a, (k0_off46 v694) a + S1x64.size a ≤ S1000000x64.size a := fun v694 k0_hw23 => k0_hw23.1
theorem k0_off47_inb : ∀ (v694 : BitVec 32) (k0_hw23 : k0_chk23 v694), ∀ a, (k0_off47 v694) a + S1x16.size a ≤ S1000000x16.size a := fun v694 k0_hw23 => k0_hw23.2

def k0_off48 (v725 : BitVec 32) : Fin 2 → Nat :=
  let c0_i32_395 : BitVec 32 := 0#32
  ![v725.toNat, 0]

def k0_off49 (v725 : BitVec 32) : Fin 2 → Nat :=
  let c0_i32_405 : BitVec 32 := 0#32
  ![v725.toNat, 0]

def k0_chk24 (v725 : BitVec 32) : Prop :=
  (∀ a, (k0_off48 v725) a + S1x64.size a ≤ S1000000x64.size a) ∧
  (∀ a, (k0_off49 v725) a + S1x16.size a ≤ S1000000x16.size a)
theorem k0_off48_inb : ∀ (v725 : BitVec 32) (k0_hw24 : k0_chk24 v725), ∀ a, (k0_off48 v725) a + S1x64.size a ≤ S1000000x64.size a := fun v725 k0_hw24 => k0_hw24.1
theorem k0_off49_inb : ∀ (v725 : BitVec 32) (k0_hw24 : k0_chk24 v725), ∀ a, (k0_off49 v725) a + S1x16.size a ≤ S1000000x16.size a := fun v725 k0_hw24 => k0_hw24.2

def k0_off50 (v756 : BitVec 32) : Fin 2 → Nat :=
  let c0_i32_412 : BitVec 32 := 0#32
  ![v756.toNat, 0]

def k0_off51 (v756 : BitVec 32) : Fin 2 → Nat :=
  let c0_i32_422 : BitVec 32 := 0#32
  ![v756.toNat, 0]

def k0_chk25 (v756 : BitVec 32) : Prop :=
  (∀ a, (k0_off50 v756) a + S1x64.size a ≤ S1000000x64.size a) ∧
  (∀ a, (k0_off51 v756) a + S1x16.size a ≤ S1000000x16.size a)
theorem k0_off50_inb : ∀ (v756 : BitVec 32) (k0_hw25 : k0_chk25 v756), ∀ a, (k0_off50 v756) a + S1x64.size a ≤ S1000000x64.size a := fun v756 k0_hw25 => k0_hw25.1
theorem k0_off51_inb : ∀ (v756 : BitVec 32) (k0_hw25 : k0_chk25 v756), ∀ a, (k0_off51 v756) a + S1x16.size a ≤ S1000000x16.size a := fun v756 k0_hw25 => k0_hw25.2

def k0_off52 (v787 : BitVec 32) : Fin 2 → Nat :=
  let c0_i32_429 : BitVec 32 := 0#32
  ![v787.toNat, 0]

def k0_off53 (v787 : BitVec 32) : Fin 2 → Nat :=
  let c0_i32_439 : BitVec 32 := 0#32
  ![v787.toNat, 0]

def k0_chk26 (v787 : BitVec 32) : Prop :=
  (∀ a, (k0_off52 v787) a + S1x64.size a ≤ S1000000x64.size a) ∧
  (∀ a, (k0_off53 v787) a + S1x16.size a ≤ S1000000x16.size a)
theorem k0_off52_inb : ∀ (v787 : BitVec 32) (k0_hw26 : k0_chk26 v787), ∀ a, (k0_off52 v787) a + S1x64.size a ≤ S1000000x64.size a := fun v787 k0_hw26 => k0_hw26.1
theorem k0_off53_inb : ∀ (v787 : BitVec 32) (k0_hw26 : k0_chk26 v787), ∀ a, (k0_off53 v787) a + S1x16.size a ≤ S1000000x16.size a := fun v787 k0_hw26 => k0_hw26.2

def k0_off54 (v818 : BitVec 32) : Fin 2 → Nat :=
  let c0_i32_446 : BitVec 32 := 0#32
  ![v818.toNat, 0]

def k0_off55 (v818 : BitVec 32) : Fin 2 → Nat :=
  let c0_i32_456 : BitVec 32 := 0#32
  ![v818.toNat, 0]

def k0_chk27 (v818 : BitVec 32) : Prop :=
  (∀ a, (k0_off54 v818) a + S1x64.size a ≤ S1000000x64.size a) ∧
  (∀ a, (k0_off55 v818) a + S1x16.size a ≤ S1000000x16.size a)
theorem k0_off54_inb : ∀ (v818 : BitVec 32) (k0_hw27 : k0_chk27 v818), ∀ a, (k0_off54 v818) a + S1x64.size a ≤ S1000000x64.size a := fun v818 k0_hw27 => k0_hw27.1
theorem k0_off55_inb : ∀ (v818 : BitVec 32) (k0_hw27 : k0_chk27 v818), ∀ a, (k0_off55 v818) a + S1x16.size a ≤ S1000000x16.size a := fun v818 k0_hw27 => k0_hw27.2

def k0_off56 (v849 : BitVec 32) : Fin 2 → Nat :=
  let c0_i32_463 : BitVec 32 := 0#32
  ![v849.toNat, 0]

def k0_off57 (v849 : BitVec 32) : Fin 2 → Nat :=
  let c0_i32_473 : BitVec 32 := 0#32
  ![v849.toNat, 0]

def k0_chk28 (v849 : BitVec 32) : Prop :=
  (∀ a, (k0_off56 v849) a + S1x64.size a ≤ S1000000x64.size a) ∧
  (∀ a, (k0_off57 v849) a + S1x16.size a ≤ S1000000x16.size a)
theorem k0_off56_inb : ∀ (v849 : BitVec 32) (k0_hw28 : k0_chk28 v849), ∀ a, (k0_off56 v849) a + S1x64.size a ≤ S1000000x64.size a := fun v849 k0_hw28 => k0_hw28.1
theorem k0_off57_inb : ∀ (v849 : BitVec 32) (k0_hw28 : k0_chk28 v849), ∀ a, (k0_off57 v849) a + S1x16.size a ≤ S1000000x16.size a := fun v849 k0_hw28 => k0_hw28.2

def k0_off58 (v880 : BitVec 32) : Fin 2 → Nat :=
  let c0_i32_480 : BitVec 32 := 0#32
  ![v880.toNat, 0]

def k0_off59 (v880 : BitVec 32) : Fin 2 → Nat :=
  let c0_i32_490 : BitVec 32 := 0#32
  ![v880.toNat, 0]

def k0_chk29 (v880 : BitVec 32) : Prop :=
  (∀ a, (k0_off58 v880) a + S1x64.size a ≤ S1000000x64.size a) ∧
  (∀ a, (k0_off59 v880) a + S1x16.size a ≤ S1000000x16.size a)
theorem k0_off58_inb : ∀ (v880 : BitVec 32) (k0_hw29 : k0_chk29 v880), ∀ a, (k0_off58 v880) a + S1x64.size a ≤ S1000000x64.size a := fun v880 k0_hw29 => k0_hw29.1
theorem k0_off59_inb : ∀ (v880 : BitVec 32) (k0_hw29 : k0_chk29 v880), ∀ a, (k0_off59 v880) a + S1x16.size a ≤ S1000000x16.size a := fun v880 k0_hw29 => k0_hw29.2

def k0_off60 (v911 : BitVec 32) : Fin 2 → Nat :=
  let c0_i32_497 : BitVec 32 := 0#32
  ![v911.toNat, 0]

def k0_off61 (v911 : BitVec 32) : Fin 2 → Nat :=
  let c0_i32_507 : BitVec 32 := 0#32
  ![v911.toNat, 0]

def k0_chk30 (v911 : BitVec 32) : Prop :=
  (∀ a, (k0_off60 v911) a + S1x64.size a ≤ S1000000x64.size a) ∧
  (∀ a, (k0_off61 v911) a + S1x16.size a ≤ S1000000x16.size a)
theorem k0_off60_inb : ∀ (v911 : BitVec 32) (k0_hw30 : k0_chk30 v911), ∀ a, (k0_off60 v911) a + S1x64.size a ≤ S1000000x64.size a := fun v911 k0_hw30 => k0_hw30.1
theorem k0_off61_inb : ∀ (v911 : BitVec 32) (k0_hw30 : k0_chk30 v911), ∀ a, (k0_off61 v911) a + S1x16.size a ≤ S1000000x16.size a := fun v911 k0_hw30 => k0_hw30.2

def k0_off62 (v942 : BitVec 32) : Fin 2 → Nat :=
  let c0_i32_514 : BitVec 32 := 0#32
  ![v942.toNat, 0]

def k0_off63 (v942 : BitVec 32) : Fin 2 → Nat :=
  let c0_i32_524 : BitVec 32 := 0#32
  ![v942.toNat, 0]

def k0_chk31 (v942 : BitVec 32) : Prop :=
  (∀ a, (k0_off62 v942) a + S1x64.size a ≤ S1000000x64.size a) ∧
  (∀ a, (k0_off63 v942) a + S1x16.size a ≤ S1000000x16.size a)
theorem k0_off62_inb : ∀ (v942 : BitVec 32) (k0_hw31 : k0_chk31 v942), ∀ a, (k0_off62 v942) a + S1x64.size a ≤ S1000000x64.size a := fun v942 k0_hw31 => k0_hw31.1
theorem k0_off63_inb : ∀ (v942 : BitVec 32) (k0_hw31 : k0_chk31 v942), ∀ a, (k0_off63 v942) a + S1x16.size a ≤ S1000000x16.size a := fun v942 k0_hw31 => k0_hw31.2

def k0_off64 (v973 : BitVec 32) : Fin 2 → Nat :=
  let c0_i32_531 : BitVec 32 := 0#32
  ![v973.toNat, 0]

def k0_off65 (v973 : BitVec 32) : Fin 2 → Nat :=
  let c0_i32_541 : BitVec 32 := 0#32
  ![v973.toNat, 0]

def k0_chk32 (v973 : BitVec 32) : Prop :=
  (∀ a, (k0_off64 v973) a + S1x64.size a ≤ S1000000x64.size a) ∧
  (∀ a, (k0_off65 v973) a + S1x16.size a ≤ S1000000x16.size a)
theorem k0_off64_inb : ∀ (v973 : BitVec 32) (k0_hw32 : k0_chk32 v973), ∀ a, (k0_off64 v973) a + S1x64.size a ≤ S1000000x64.size a := fun v973 k0_hw32 => k0_hw32.1
theorem k0_off65_inb : ∀ (v973 : BitVec 32) (k0_hw32 : k0_chk32 v973), ∀ a, (k0_off65 v973) a + S1x16.size a ≤ S1000000x16.size a := fun v973 k0_hw32 => k0_hw32.2

def k0_off66 (v1005 : BitVec 32) : Fin 2 → Nat :=
  let c0_i32_548 : BitVec 32 := 0#32
  ![v1005.toNat, 0]

def k0_off67 (v1005 : BitVec 32) : Fin 2 → Nat :=
  let c0_i32_558 : BitVec 32 := 0#32
  ![v1005.toNat, 0]

def k0_chk33 (v1005 : BitVec 32) : Prop :=
  (∀ a, (k0_off66 v1005) a + S1x64.size a ≤ S1000000x64.size a) ∧
  (∀ a, (k0_off67 v1005) a + S1x16.size a ≤ S1000000x16.size a)
theorem k0_off66_inb : ∀ (v1005 : BitVec 32) (k0_hw33 : k0_chk33 v1005), ∀ a, (k0_off66 v1005) a + S1x64.size a ≤ S1000000x64.size a := fun v1005 k0_hw33 => k0_hw33.1
theorem k0_off67_inb : ∀ (v1005 : BitVec 32) (k0_hw33 : k0_chk33 v1005), ∀ a, (k0_off67 v1005) a + S1x16.size a ≤ S1000000x16.size a := fun v1005 k0_hw33 => k0_hw33.2

def k0_off68 (v1036 : BitVec 32) : Fin 2 → Nat :=
  let c0_i32_565 : BitVec 32 := 0#32
  ![v1036.toNat, 0]

def k0_off69 (v1036 : BitVec 32) : Fin 2 → Nat :=
  let c0_i32_575 : BitVec 32 := 0#32
  ![v1036.toNat, 0]

def k0_chk34 (v1036 : BitVec 32) : Prop :=
  (∀ a, (k0_off68 v1036) a + S1x64.size a ≤ S1000000x64.size a) ∧
  (∀ a, (k0_off69 v1036) a + S1x16.size a ≤ S1000000x16.size a)
theorem k0_off68_inb : ∀ (v1036 : BitVec 32) (k0_hw34 : k0_chk34 v1036), ∀ a, (k0_off68 v1036) a + S1x64.size a ≤ S1000000x64.size a := fun v1036 k0_hw34 => k0_hw34.1
theorem k0_off69_inb : ∀ (v1036 : BitVec 32) (k0_hw34 : k0_chk34 v1036), ∀ a, (k0_off69 v1036) a + S1x16.size a ≤ S1000000x16.size a := fun v1036 k0_hw34 => k0_hw34.2

def k0_off70 (v1067 : BitVec 32) : Fin 2 → Nat :=
  let c0_i32_582 : BitVec 32 := 0#32
  ![v1067.toNat, 0]

def k0_off71 (v1067 : BitVec 32) : Fin 2 → Nat :=
  let c0_i32_592 : BitVec 32 := 0#32
  ![v1067.toNat, 0]

def k0_chk35 (v1067 : BitVec 32) : Prop :=
  (∀ a, (k0_off70 v1067) a + S1x64.size a ≤ S1000000x64.size a) ∧
  (∀ a, (k0_off71 v1067) a + S1x16.size a ≤ S1000000x16.size a)
theorem k0_off70_inb : ∀ (v1067 : BitVec 32) (k0_hw35 : k0_chk35 v1067), ∀ a, (k0_off70 v1067) a + S1x64.size a ≤ S1000000x64.size a := fun v1067 k0_hw35 => k0_hw35.1
theorem k0_off71_inb : ∀ (v1067 : BitVec 32) (k0_hw35 : k0_chk35 v1067), ∀ a, (k0_off71 v1067) a + S1x16.size a ≤ S1000000x16.size a := fun v1067 k0_hw35 => k0_hw35.2

def k0_off72 (v1098 : BitVec 32) : Fin 2 → Nat :=
  let c0_i32_599 : BitVec 32 := 0#32
  ![v1098.toNat, 0]

def k0_off73 (v1098 : BitVec 32) : Fin 2 → Nat :=
  let c0_i32_609 : BitVec 32 := 0#32
  ![v1098.toNat, 0]

def k0_chk36 (v1098 : BitVec 32) : Prop :=
  (∀ a, (k0_off72 v1098) a + S1x64.size a ≤ S1000000x64.size a) ∧
  (∀ a, (k0_off73 v1098) a + S1x16.size a ≤ S1000000x16.size a)
theorem k0_off72_inb : ∀ (v1098 : BitVec 32) (k0_hw36 : k0_chk36 v1098), ∀ a, (k0_off72 v1098) a + S1x64.size a ≤ S1000000x64.size a := fun v1098 k0_hw36 => k0_hw36.1
theorem k0_off73_inb : ∀ (v1098 : BitVec 32) (k0_hw36 : k0_chk36 v1098), ∀ a, (k0_off73 v1098) a + S1x16.size a ≤ S1000000x16.size a := fun v1098 k0_hw36 => k0_hw36.2

def k0_off74 (v1129 : BitVec 32) : Fin 2 → Nat :=
  let c0_i32_616 : BitVec 32 := 0#32
  ![v1129.toNat, 0]

def k0_off75 (v1129 : BitVec 32) : Fin 2 → Nat :=
  let c0_i32_626 : BitVec 32 := 0#32
  ![v1129.toNat, 0]

def k0_chk37 (v1129 : BitVec 32) : Prop :=
  (∀ a, (k0_off74 v1129) a + S1x64.size a ≤ S1000000x64.size a) ∧
  (∀ a, (k0_off75 v1129) a + S1x16.size a ≤ S1000000x16.size a)
theorem k0_off74_inb : ∀ (v1129 : BitVec 32) (k0_hw37 : k0_chk37 v1129), ∀ a, (k0_off74 v1129) a + S1x64.size a ≤ S1000000x64.size a := fun v1129 k0_hw37 => k0_hw37.1
theorem k0_off75_inb : ∀ (v1129 : BitVec 32) (k0_hw37 : k0_chk37 v1129), ∀ a, (k0_off75 v1129) a + S1x16.size a ≤ S1000000x16.size a := fun v1129 k0_hw37 => k0_hw37.2

def k0_off76 (v1160 : BitVec 32) : Fin 2 → Nat :=
  let c0_i32_633 : BitVec 32 := 0#32
  ![v1160.toNat, 0]

def k0_off77 (v1160 : BitVec 32) : Fin 2 → Nat :=
  let c0_i32_643 : BitVec 32 := 0#32
  ![v1160.toNat, 0]

def k0_chk38 (v1160 : BitVec 32) : Prop :=
  (∀ a, (k0_off76 v1160) a + S1x64.size a ≤ S1000000x64.size a) ∧
  (∀ a, (k0_off77 v1160) a + S1x16.size a ≤ S1000000x16.size a)
theorem k0_off76_inb : ∀ (v1160 : BitVec 32) (k0_hw38 : k0_chk38 v1160), ∀ a, (k0_off76 v1160) a + S1x64.size a ≤ S1000000x64.size a := fun v1160 k0_hw38 => k0_hw38.1
theorem k0_off77_inb : ∀ (v1160 : BitVec 32) (k0_hw38 : k0_chk38 v1160), ∀ a, (k0_off77 v1160) a + S1x16.size a ≤ S1000000x16.size a := fun v1160 k0_hw38 => k0_hw38.2

def k0_off78 (v1191 : BitVec 32) : Fin 2 → Nat :=
  let c0_i32_650 : BitVec 32 := 0#32
  ![v1191.toNat, 0]

def k0_off79 (v1191 : BitVec 32) : Fin 2 → Nat :=
  let c0_i32_660 : BitVec 32 := 0#32
  ![v1191.toNat, 0]

def k0_chk39 (v1191 : BitVec 32) : Prop :=
  (∀ a, (k0_off78 v1191) a + S1x64.size a ≤ S1000000x64.size a) ∧
  (∀ a, (k0_off79 v1191) a + S1x16.size a ≤ S1000000x16.size a)
theorem k0_off78_inb : ∀ (v1191 : BitVec 32) (k0_hw39 : k0_chk39 v1191), ∀ a, (k0_off78 v1191) a + S1x64.size a ≤ S1000000x64.size a := fun v1191 k0_hw39 => k0_hw39.1
theorem k0_off79_inb : ∀ (v1191 : BitVec 32) (k0_hw39 : k0_chk39 v1191), ∀ a, (k0_off79 v1191) a + S1x16.size a ≤ S1000000x16.size a := fun v1191 k0_hw39 => k0_hw39.2

def k0_off80 (v1222 : BitVec 32) : Fin 2 → Nat :=
  let c0_i32_667 : BitVec 32 := 0#32
  ![v1222.toNat, 0]

def k0_off81 (v1222 : BitVec 32) : Fin 2 → Nat :=
  let c0_i32_677 : BitVec 32 := 0#32
  ![v1222.toNat, 0]

def k0_chk40 (v1222 : BitVec 32) : Prop :=
  (∀ a, (k0_off80 v1222) a + S1x64.size a ≤ S1000000x64.size a) ∧
  (∀ a, (k0_off81 v1222) a + S1x16.size a ≤ S1000000x16.size a)
theorem k0_off80_inb : ∀ (v1222 : BitVec 32) (k0_hw40 : k0_chk40 v1222), ∀ a, (k0_off80 v1222) a + S1x64.size a ≤ S1000000x64.size a := fun v1222 k0_hw40 => k0_hw40.1
theorem k0_off81_inb : ∀ (v1222 : BitVec 32) (k0_hw40 : k0_chk40 v1222), ∀ a, (k0_off81 v1222) a + S1x16.size a ≤ S1000000x16.size a := fun v1222 k0_hw40 => k0_hw40.2

def k0_off82 (v1253 : BitVec 32) : Fin 2 → Nat :=
  let c0_i32_684 : BitVec 32 := 0#32
  ![v1253.toNat, 0]

def k0_off83 (v1253 : BitVec 32) : Fin 2 → Nat :=
  let c0_i32_694 : BitVec 32 := 0#32
  ![v1253.toNat, 0]

def k0_chk41 (v1253 : BitVec 32) : Prop :=
  (∀ a, (k0_off82 v1253) a + S1x64.size a ≤ S1000000x64.size a) ∧
  (∀ a, (k0_off83 v1253) a + S1x16.size a ≤ S1000000x16.size a)
theorem k0_off82_inb : ∀ (v1253 : BitVec 32) (k0_hw41 : k0_chk41 v1253), ∀ a, (k0_off82 v1253) a + S1x64.size a ≤ S1000000x64.size a := fun v1253 k0_hw41 => k0_hw41.1
theorem k0_off83_inb : ∀ (v1253 : BitVec 32) (k0_hw41 : k0_chk41 v1253), ∀ a, (k0_off83 v1253) a + S1x16.size a ≤ S1000000x16.size a := fun v1253 k0_hw41 => k0_hw41.2

def k0_off84 (v1284 : BitVec 32) : Fin 2 → Nat :=
  let c0_i32_701 : BitVec 32 := 0#32
  ![v1284.toNat, 0]

def k0_off85 (v1284 : BitVec 32) : Fin 2 → Nat :=
  let c0_i32_711 : BitVec 32 := 0#32
  ![v1284.toNat, 0]

def k0_chk42 (v1284 : BitVec 32) : Prop :=
  (∀ a, (k0_off84 v1284) a + S1x64.size a ≤ S1000000x64.size a) ∧
  (∀ a, (k0_off85 v1284) a + S1x16.size a ≤ S1000000x16.size a)
theorem k0_off84_inb : ∀ (v1284 : BitVec 32) (k0_hw42 : k0_chk42 v1284), ∀ a, (k0_off84 v1284) a + S1x64.size a ≤ S1000000x64.size a := fun v1284 k0_hw42 => k0_hw42.1
theorem k0_off85_inb : ∀ (v1284 : BitVec 32) (k0_hw42 : k0_chk42 v1284), ∀ a, (k0_off85 v1284) a + S1x16.size a ≤ S1000000x16.size a := fun v1284 k0_hw42 => k0_hw42.2

def k0_off86 (v1315 : BitVec 32) : Fin 2 → Nat :=
  let c0_i32_718 : BitVec 32 := 0#32
  ![v1315.toNat, 0]

def k0_off87 (v1315 : BitVec 32) : Fin 2 → Nat :=
  let c0_i32_728 : BitVec 32 := 0#32
  ![v1315.toNat, 0]

def k0_chk43 (v1315 : BitVec 32) : Prop :=
  (∀ a, (k0_off86 v1315) a + S1x64.size a ≤ S1000000x64.size a) ∧
  (∀ a, (k0_off87 v1315) a + S1x16.size a ≤ S1000000x16.size a)
theorem k0_off86_inb : ∀ (v1315 : BitVec 32) (k0_hw43 : k0_chk43 v1315), ∀ a, (k0_off86 v1315) a + S1x64.size a ≤ S1000000x64.size a := fun v1315 k0_hw43 => k0_hw43.1
theorem k0_off87_inb : ∀ (v1315 : BitVec 32) (k0_hw43 : k0_chk43 v1315), ∀ a, (k0_off87 v1315) a + S1x16.size a ≤ S1000000x16.size a := fun v1315 k0_hw43 => k0_hw43.2

def k0_off88 (v1346 : BitVec 32) : Fin 2 → Nat :=
  let c0_i32_735 : BitVec 32 := 0#32
  ![v1346.toNat, 0]

def k0_off89 (v1346 : BitVec 32) : Fin 2 → Nat :=
  let c0_i32_745 : BitVec 32 := 0#32
  ![v1346.toNat, 0]

def k0_chk44 (v1346 : BitVec 32) : Prop :=
  (∀ a, (k0_off88 v1346) a + S1x64.size a ≤ S1000000x64.size a) ∧
  (∀ a, (k0_off89 v1346) a + S1x16.size a ≤ S1000000x16.size a)
theorem k0_off88_inb : ∀ (v1346 : BitVec 32) (k0_hw44 : k0_chk44 v1346), ∀ a, (k0_off88 v1346) a + S1x64.size a ≤ S1000000x64.size a := fun v1346 k0_hw44 => k0_hw44.1
theorem k0_off89_inb : ∀ (v1346 : BitVec 32) (k0_hw44 : k0_chk44 v1346), ∀ a, (k0_off89 v1346) a + S1x16.size a ≤ S1000000x16.size a := fun v1346 k0_hw44 => k0_hw44.2

def k0_off90 (v1377 : BitVec 32) : Fin 2 → Nat :=
  let c0_i32_752 : BitVec 32 := 0#32
  ![v1377.toNat, 0]

def k0_off91 (v1377 : BitVec 32) : Fin 2 → Nat :=
  let c0_i32_762 : BitVec 32 := 0#32
  ![v1377.toNat, 0]

def k0_chk45 (v1377 : BitVec 32) : Prop :=
  (∀ a, (k0_off90 v1377) a + S1x64.size a ≤ S1000000x64.size a) ∧
  (∀ a, (k0_off91 v1377) a + S1x16.size a ≤ S1000000x16.size a)
theorem k0_off90_inb : ∀ (v1377 : BitVec 32) (k0_hw45 : k0_chk45 v1377), ∀ a, (k0_off90 v1377) a + S1x64.size a ≤ S1000000x64.size a := fun v1377 k0_hw45 => k0_hw45.1
theorem k0_off91_inb : ∀ (v1377 : BitVec 32) (k0_hw45 : k0_chk45 v1377), ∀ a, (k0_off91 v1377) a + S1x16.size a ≤ S1000000x16.size a := fun v1377 k0_hw45 => k0_hw45.2

def k0_off92 (v1408 : BitVec 32) : Fin 2 → Nat :=
  let c0_i32_769 : BitVec 32 := 0#32
  ![v1408.toNat, 0]

def k0_off93 (v1408 : BitVec 32) : Fin 2 → Nat :=
  let c0_i32_779 : BitVec 32 := 0#32
  ![v1408.toNat, 0]

def k0_chk46 (v1408 : BitVec 32) : Prop :=
  (∀ a, (k0_off92 v1408) a + S1x64.size a ≤ S1000000x64.size a) ∧
  (∀ a, (k0_off93 v1408) a + S1x16.size a ≤ S1000000x16.size a)
theorem k0_off92_inb : ∀ (v1408 : BitVec 32) (k0_hw46 : k0_chk46 v1408), ∀ a, (k0_off92 v1408) a + S1x64.size a ≤ S1000000x64.size a := fun v1408 k0_hw46 => k0_hw46.1
theorem k0_off93_inb : ∀ (v1408 : BitVec 32) (k0_hw46 : k0_chk46 v1408), ∀ a, (k0_off93 v1408) a + S1x16.size a ≤ S1000000x16.size a := fun v1408 k0_hw46 => k0_hw46.2

def k0_off94 (v1439 : BitVec 32) : Fin 2 → Nat :=
  let c0_i32_786 : BitVec 32 := 0#32
  ![v1439.toNat, 0]

def k0_off95 (v1439 : BitVec 32) : Fin 2 → Nat :=
  let c0_i32_796 : BitVec 32 := 0#32
  ![v1439.toNat, 0]

def k0_chk47 (v1439 : BitVec 32) : Prop :=
  (∀ a, (k0_off94 v1439) a + S1x64.size a ≤ S1000000x64.size a) ∧
  (∀ a, (k0_off95 v1439) a + S1x16.size a ≤ S1000000x16.size a)
theorem k0_off94_inb : ∀ (v1439 : BitVec 32) (k0_hw47 : k0_chk47 v1439), ∀ a, (k0_off94 v1439) a + S1x64.size a ≤ S1000000x64.size a := fun v1439 k0_hw47 => k0_hw47.1
theorem k0_off95_inb : ∀ (v1439 : BitVec 32) (k0_hw47 : k0_chk47 v1439), ∀ a, (k0_off95 v1439) a + S1x16.size a ≤ S1000000x16.size a := fun v1439 k0_hw47 => k0_hw47.2

def k0_off96 (v1470 : BitVec 32) : Fin 2 → Nat :=
  let c0_i32_803 : BitVec 32 := 0#32
  ![v1470.toNat, 0]

def k0_off97 (v1470 : BitVec 32) : Fin 2 → Nat :=
  let c0_i32_813 : BitVec 32 := 0#32
  ![v1470.toNat, 0]

def k0_chk48 (v1470 : BitVec 32) : Prop :=
  (∀ a, (k0_off96 v1470) a + S1x64.size a ≤ S1000000x64.size a) ∧
  (∀ a, (k0_off97 v1470) a + S1x16.size a ≤ S1000000x16.size a)
theorem k0_off96_inb : ∀ (v1470 : BitVec 32) (k0_hw48 : k0_chk48 v1470), ∀ a, (k0_off96 v1470) a + S1x64.size a ≤ S1000000x64.size a := fun v1470 k0_hw48 => k0_hw48.1
theorem k0_off97_inb : ∀ (v1470 : BitVec 32) (k0_hw48 : k0_chk48 v1470), ∀ a, (k0_off97 v1470) a + S1x16.size a ≤ S1000000x16.size a := fun v1470 k0_hw48 => k0_hw48.2

def k0_off98 (v1502 : BitVec 32) : Fin 2 → Nat :=
  let c0_i32_820 : BitVec 32 := 0#32
  ![v1502.toNat, 0]

def k0_off99 (v1502 : BitVec 32) : Fin 2 → Nat :=
  let c0_i32_830 : BitVec 32 := 0#32
  ![v1502.toNat, 0]

def k0_chk49 (v1502 : BitVec 32) : Prop :=
  (∀ a, (k0_off98 v1502) a + S1x64.size a ≤ S1000000x64.size a) ∧
  (∀ a, (k0_off99 v1502) a + S1x16.size a ≤ S1000000x16.size a)
theorem k0_off98_inb : ∀ (v1502 : BitVec 32) (k0_hw49 : k0_chk49 v1502), ∀ a, (k0_off98 v1502) a + S1x64.size a ≤ S1000000x64.size a := fun v1502 k0_hw49 => k0_hw49.1
theorem k0_off99_inb : ∀ (v1502 : BitVec 32) (k0_hw49 : k0_chk49 v1502), ∀ a, (k0_off99 v1502) a + S1x16.size a ≤ S1000000x16.size a := fun v1502 k0_hw49 => k0_hw49.2

def k0_off100 (v1533 : BitVec 32) : Fin 2 → Nat :=
  let c0_i32_837 : BitVec 32 := 0#32
  ![v1533.toNat, 0]

def k0_off101 (v1533 : BitVec 32) : Fin 2 → Nat :=
  let c0_i32_847 : BitVec 32 := 0#32
  ![v1533.toNat, 0]

def k0_chk50 (v1533 : BitVec 32) : Prop :=
  (∀ a, (k0_off100 v1533) a + S1x64.size a ≤ S1000000x64.size a) ∧
  (∀ a, (k0_off101 v1533) a + S1x16.size a ≤ S1000000x16.size a)
theorem k0_off100_inb : ∀ (v1533 : BitVec 32) (k0_hw50 : k0_chk50 v1533), ∀ a, (k0_off100 v1533) a + S1x64.size a ≤ S1000000x64.size a := fun v1533 k0_hw50 => k0_hw50.1
theorem k0_off101_inb : ∀ (v1533 : BitVec 32) (k0_hw50 : k0_chk50 v1533), ∀ a, (k0_off101 v1533) a + S1x16.size a ≤ S1000000x16.size a := fun v1533 k0_hw50 => k0_hw50.2

def k0_off102 (v1564 : BitVec 32) : Fin 2 → Nat :=
  let c0_i32_854 : BitVec 32 := 0#32
  ![v1564.toNat, 0]

def k0_off103 (v1564 : BitVec 32) : Fin 2 → Nat :=
  let c0_i32_864 : BitVec 32 := 0#32
  ![v1564.toNat, 0]

def k0_chk51 (v1564 : BitVec 32) : Prop :=
  (∀ a, (k0_off102 v1564) a + S1x64.size a ≤ S1000000x64.size a) ∧
  (∀ a, (k0_off103 v1564) a + S1x16.size a ≤ S1000000x16.size a)
theorem k0_off102_inb : ∀ (v1564 : BitVec 32) (k0_hw51 : k0_chk51 v1564), ∀ a, (k0_off102 v1564) a + S1x64.size a ≤ S1000000x64.size a := fun v1564 k0_hw51 => k0_hw51.1
theorem k0_off103_inb : ∀ (v1564 : BitVec 32) (k0_hw51 : k0_chk51 v1564), ∀ a, (k0_off103 v1564) a + S1x16.size a ≤ S1000000x16.size a := fun v1564 k0_hw51 => k0_hw51.2

def k0_off104 (v1595 : BitVec 32) : Fin 2 → Nat :=
  let c0_i32_871 : BitVec 32 := 0#32
  ![v1595.toNat, 0]

def k0_off105 (v1595 : BitVec 32) : Fin 2 → Nat :=
  let c0_i32_881 : BitVec 32 := 0#32
  ![v1595.toNat, 0]

def k0_chk52 (v1595 : BitVec 32) : Prop :=
  (∀ a, (k0_off104 v1595) a + S1x64.size a ≤ S1000000x64.size a) ∧
  (∀ a, (k0_off105 v1595) a + S1x16.size a ≤ S1000000x16.size a)
theorem k0_off104_inb : ∀ (v1595 : BitVec 32) (k0_hw52 : k0_chk52 v1595), ∀ a, (k0_off104 v1595) a + S1x64.size a ≤ S1000000x64.size a := fun v1595 k0_hw52 => k0_hw52.1
theorem k0_off105_inb : ∀ (v1595 : BitVec 32) (k0_hw52 : k0_chk52 v1595), ∀ a, (k0_off105 v1595) a + S1x16.size a ≤ S1000000x16.size a := fun v1595 k0_hw52 => k0_hw52.2

def k0_off106 (v1626 : BitVec 32) : Fin 2 → Nat :=
  let c0_i32_888 : BitVec 32 := 0#32
  ![v1626.toNat, 0]

def k0_off107 (v1626 : BitVec 32) : Fin 2 → Nat :=
  let c0_i32_898 : BitVec 32 := 0#32
  ![v1626.toNat, 0]

def k0_chk53 (v1626 : BitVec 32) : Prop :=
  (∀ a, (k0_off106 v1626) a + S1x64.size a ≤ S1000000x64.size a) ∧
  (∀ a, (k0_off107 v1626) a + S1x16.size a ≤ S1000000x16.size a)
theorem k0_off106_inb : ∀ (v1626 : BitVec 32) (k0_hw53 : k0_chk53 v1626), ∀ a, (k0_off106 v1626) a + S1x64.size a ≤ S1000000x64.size a := fun v1626 k0_hw53 => k0_hw53.1
theorem k0_off107_inb : ∀ (v1626 : BitVec 32) (k0_hw53 : k0_chk53 v1626), ∀ a, (k0_off107 v1626) a + S1x16.size a ≤ S1000000x16.size a := fun v1626 k0_hw53 => k0_hw53.2

def k0_off108 (v1657 : BitVec 32) : Fin 2 → Nat :=
  let c0_i32_905 : BitVec 32 := 0#32
  ![v1657.toNat, 0]

def k0_off109 (v1657 : BitVec 32) : Fin 2 → Nat :=
  let c0_i32_915 : BitVec 32 := 0#32
  ![v1657.toNat, 0]

def k0_chk54 (v1657 : BitVec 32) : Prop :=
  (∀ a, (k0_off108 v1657) a + S1x64.size a ≤ S1000000x64.size a) ∧
  (∀ a, (k0_off109 v1657) a + S1x16.size a ≤ S1000000x16.size a)
theorem k0_off108_inb : ∀ (v1657 : BitVec 32) (k0_hw54 : k0_chk54 v1657), ∀ a, (k0_off108 v1657) a + S1x64.size a ≤ S1000000x64.size a := fun v1657 k0_hw54 => k0_hw54.1
theorem k0_off109_inb : ∀ (v1657 : BitVec 32) (k0_hw54 : k0_chk54 v1657), ∀ a, (k0_off109 v1657) a + S1x16.size a ≤ S1000000x16.size a := fun v1657 k0_hw54 => k0_hw54.2

def k0_off110 (v1688 : BitVec 32) : Fin 2 → Nat :=
  let c0_i32_922 : BitVec 32 := 0#32
  ![v1688.toNat, 0]

def k0_off111 (v1688 : BitVec 32) : Fin 2 → Nat :=
  let c0_i32_932 : BitVec 32 := 0#32
  ![v1688.toNat, 0]

def k0_chk55 (v1688 : BitVec 32) : Prop :=
  (∀ a, (k0_off110 v1688) a + S1x64.size a ≤ S1000000x64.size a) ∧
  (∀ a, (k0_off111 v1688) a + S1x16.size a ≤ S1000000x16.size a)
theorem k0_off110_inb : ∀ (v1688 : BitVec 32) (k0_hw55 : k0_chk55 v1688), ∀ a, (k0_off110 v1688) a + S1x64.size a ≤ S1000000x64.size a := fun v1688 k0_hw55 => k0_hw55.1
theorem k0_off111_inb : ∀ (v1688 : BitVec 32) (k0_hw55 : k0_chk55 v1688), ∀ a, (k0_off111 v1688) a + S1x16.size a ≤ S1000000x16.size a := fun v1688 k0_hw55 => k0_hw55.2

def k0_off112 (v1719 : BitVec 32) : Fin 2 → Nat :=
  let c0_i32_939 : BitVec 32 := 0#32
  ![v1719.toNat, 0]

def k0_off113 (v1719 : BitVec 32) : Fin 2 → Nat :=
  let c0_i32_949 : BitVec 32 := 0#32
  ![v1719.toNat, 0]

def k0_chk56 (v1719 : BitVec 32) : Prop :=
  (∀ a, (k0_off112 v1719) a + S1x64.size a ≤ S1000000x64.size a) ∧
  (∀ a, (k0_off113 v1719) a + S1x16.size a ≤ S1000000x16.size a)
theorem k0_off112_inb : ∀ (v1719 : BitVec 32) (k0_hw56 : k0_chk56 v1719), ∀ a, (k0_off112 v1719) a + S1x64.size a ≤ S1000000x64.size a := fun v1719 k0_hw56 => k0_hw56.1
theorem k0_off113_inb : ∀ (v1719 : BitVec 32) (k0_hw56 : k0_chk56 v1719), ∀ a, (k0_off113 v1719) a + S1x16.size a ≤ S1000000x16.size a := fun v1719 k0_hw56 => k0_hw56.2

def k0_off114 (v1750 : BitVec 32) : Fin 2 → Nat :=
  let c0_i32_956 : BitVec 32 := 0#32
  ![v1750.toNat, 0]

def k0_off115 (v1750 : BitVec 32) : Fin 2 → Nat :=
  let c0_i32_966 : BitVec 32 := 0#32
  ![v1750.toNat, 0]

def k0_chk57 (v1750 : BitVec 32) : Prop :=
  (∀ a, (k0_off114 v1750) a + S1x64.size a ≤ S1000000x64.size a) ∧
  (∀ a, (k0_off115 v1750) a + S1x16.size a ≤ S1000000x16.size a)
theorem k0_off114_inb : ∀ (v1750 : BitVec 32) (k0_hw57 : k0_chk57 v1750), ∀ a, (k0_off114 v1750) a + S1x64.size a ≤ S1000000x64.size a := fun v1750 k0_hw57 => k0_hw57.1
theorem k0_off115_inb : ∀ (v1750 : BitVec 32) (k0_hw57 : k0_chk57 v1750), ∀ a, (k0_off115 v1750) a + S1x16.size a ≤ S1000000x16.size a := fun v1750 k0_hw57 => k0_hw57.2

def k0_off116 (v1781 : BitVec 32) : Fin 2 → Nat :=
  let c0_i32_973 : BitVec 32 := 0#32
  ![v1781.toNat, 0]

def k0_off117 (v1781 : BitVec 32) : Fin 2 → Nat :=
  let c0_i32_983 : BitVec 32 := 0#32
  ![v1781.toNat, 0]

def k0_chk58 (v1781 : BitVec 32) : Prop :=
  (∀ a, (k0_off116 v1781) a + S1x64.size a ≤ S1000000x64.size a) ∧
  (∀ a, (k0_off117 v1781) a + S1x16.size a ≤ S1000000x16.size a)
theorem k0_off116_inb : ∀ (v1781 : BitVec 32) (k0_hw58 : k0_chk58 v1781), ∀ a, (k0_off116 v1781) a + S1x64.size a ≤ S1000000x64.size a := fun v1781 k0_hw58 => k0_hw58.1
theorem k0_off117_inb : ∀ (v1781 : BitVec 32) (k0_hw58 : k0_chk58 v1781), ∀ a, (k0_off117 v1781) a + S1x16.size a ≤ S1000000x16.size a := fun v1781 k0_hw58 => k0_hw58.2

def k0_off118 (v1812 : BitVec 32) : Fin 2 → Nat :=
  let c0_i32_990 : BitVec 32 := 0#32
  ![v1812.toNat, 0]

def k0_off119 (v1812 : BitVec 32) : Fin 2 → Nat :=
  let c0_i32_1000 : BitVec 32 := 0#32
  ![v1812.toNat, 0]

def k0_chk59 (v1812 : BitVec 32) : Prop :=
  (∀ a, (k0_off118 v1812) a + S1x64.size a ≤ S1000000x64.size a) ∧
  (∀ a, (k0_off119 v1812) a + S1x16.size a ≤ S1000000x16.size a)
theorem k0_off118_inb : ∀ (v1812 : BitVec 32) (k0_hw59 : k0_chk59 v1812), ∀ a, (k0_off118 v1812) a + S1x64.size a ≤ S1000000x64.size a := fun v1812 k0_hw59 => k0_hw59.1
theorem k0_off119_inb : ∀ (v1812 : BitVec 32) (k0_hw59 : k0_chk59 v1812), ∀ a, (k0_off119 v1812) a + S1x16.size a ≤ S1000000x16.size a := fun v1812 k0_hw59 => k0_hw59.2

def k0_off120 (v1843 : BitVec 32) : Fin 2 → Nat :=
  let c0_i32_1007 : BitVec 32 := 0#32
  ![v1843.toNat, 0]

def k0_off121 (v1843 : BitVec 32) : Fin 2 → Nat :=
  let c0_i32_1017 : BitVec 32 := 0#32
  ![v1843.toNat, 0]

def k0_chk60 (v1843 : BitVec 32) : Prop :=
  (∀ a, (k0_off120 v1843) a + S1x64.size a ≤ S1000000x64.size a) ∧
  (∀ a, (k0_off121 v1843) a + S1x16.size a ≤ S1000000x16.size a)
theorem k0_off120_inb : ∀ (v1843 : BitVec 32) (k0_hw60 : k0_chk60 v1843), ∀ a, (k0_off120 v1843) a + S1x64.size a ≤ S1000000x64.size a := fun v1843 k0_hw60 => k0_hw60.1
theorem k0_off121_inb : ∀ (v1843 : BitVec 32) (k0_hw60 : k0_chk60 v1843), ∀ a, (k0_off121 v1843) a + S1x16.size a ≤ S1000000x16.size a := fun v1843 k0_hw60 => k0_hw60.2

def k0_off122 (v1874 : BitVec 32) : Fin 2 → Nat :=
  let c0_i32_1024 : BitVec 32 := 0#32
  ![v1874.toNat, 0]

def k0_off123 (v1874 : BitVec 32) : Fin 2 → Nat :=
  let c0_i32_1034 : BitVec 32 := 0#32
  ![v1874.toNat, 0]

def k0_chk61 (v1874 : BitVec 32) : Prop :=
  (∀ a, (k0_off122 v1874) a + S1x64.size a ≤ S1000000x64.size a) ∧
  (∀ a, (k0_off123 v1874) a + S1x16.size a ≤ S1000000x16.size a)
theorem k0_off122_inb : ∀ (v1874 : BitVec 32) (k0_hw61 : k0_chk61 v1874), ∀ a, (k0_off122 v1874) a + S1x64.size a ≤ S1000000x64.size a := fun v1874 k0_hw61 => k0_hw61.1
theorem k0_off123_inb : ∀ (v1874 : BitVec 32) (k0_hw61 : k0_chk61 v1874), ∀ a, (k0_off123 v1874) a + S1x16.size a ≤ S1000000x16.size a := fun v1874 k0_hw61 => k0_hw61.2

def k0_off124 (v1905 : BitVec 32) : Fin 2 → Nat :=
  let c0_i32_1041 : BitVec 32 := 0#32
  ![v1905.toNat, 0]

def k0_off125 (v1905 : BitVec 32) : Fin 2 → Nat :=
  let c0_i32_1051 : BitVec 32 := 0#32
  ![v1905.toNat, 0]

def k0_chk62 (v1905 : BitVec 32) : Prop :=
  (∀ a, (k0_off124 v1905) a + S1x64.size a ≤ S1000000x64.size a) ∧
  (∀ a, (k0_off125 v1905) a + S1x16.size a ≤ S1000000x16.size a)
theorem k0_off124_inb : ∀ (v1905 : BitVec 32) (k0_hw62 : k0_chk62 v1905), ∀ a, (k0_off124 v1905) a + S1x64.size a ≤ S1000000x64.size a := fun v1905 k0_hw62 => k0_hw62.1
theorem k0_off125_inb : ∀ (v1905 : BitVec 32) (k0_hw62 : k0_chk62 v1905), ∀ a, (k0_off125 v1905) a + S1x16.size a ≤ S1000000x16.size a := fun v1905 k0_hw62 => k0_hw62.2

def k0_off126 (v1936 : BitVec 32) : Fin 2 → Nat :=
  let c0_i32_1058 : BitVec 32 := 0#32
  ![v1936.toNat, 0]

def k0_off127 (v1936 : BitVec 32) : Fin 2 → Nat :=
  let c0_i32_1068 : BitVec 32 := 0#32
  ![v1936.toNat, 0]

def k0_chk63 (v1936 : BitVec 32) : Prop :=
  (∀ a, (k0_off126 v1936) a + S1x64.size a ≤ S1000000x64.size a) ∧
  (∀ a, (k0_off127 v1936) a + S1x16.size a ≤ S1000000x16.size a)
theorem k0_off126_inb : ∀ (v1936 : BitVec 32) (k0_hw63 : k0_chk63 v1936), ∀ a, (k0_off126 v1936) a + S1x64.size a ≤ S1000000x64.size a := fun v1936 k0_hw63 => k0_hw63.1
theorem k0_off127_inb : ∀ (v1936 : BitVec 32) (k0_hw63 : k0_chk63 v1936), ∀ a, (k0_off127 v1936) a + S1x16.size a ≤ S1000000x16.size a := fun v1936 k0_hw63 => k0_hw63.2

def k0_off128 (v1967 : BitVec 32) : Fin 2 → Nat :=
  let c0_i32_1075 : BitVec 32 := 0#32
  ![v1967.toNat, 0]

def k0_off129 (v1967 : BitVec 32) : Fin 2 → Nat :=
  let c0_i32_1085 : BitVec 32 := 0#32
  ![v1967.toNat, 0]

def k0_chk64 (v1967 : BitVec 32) : Prop :=
  (∀ a, (k0_off128 v1967) a + S1x64.size a ≤ S1000000x64.size a) ∧
  (∀ a, (k0_off129 v1967) a + S1x16.size a ≤ S1000000x16.size a)
theorem k0_off128_inb : ∀ (v1967 : BitVec 32) (k0_hw64 : k0_chk64 v1967), ∀ a, (k0_off128 v1967) a + S1x64.size a ≤ S1000000x64.size a := fun v1967 k0_hw64 => k0_hw64.1
theorem k0_off129_inb : ∀ (v1967 : BitVec 32) (k0_hw64 : k0_chk64 v1967), ∀ a, (k0_off129 v1967) a + S1x16.size a ≤ S1000000x16.size a := fun v1967 k0_hw64 => k0_hw64.2

def k0_off130 (v1999 : BitVec 32) : Fin 2 → Nat :=
  let c0_i32_1092 : BitVec 32 := 0#32
  ![v1999.toNat, 0]

def k0_off131 (v1999 : BitVec 32) : Fin 2 → Nat :=
  let c0_i32_1102 : BitVec 32 := 0#32
  ![v1999.toNat, 0]

def k0_chk65 (v1999 : BitVec 32) : Prop :=
  (∀ a, (k0_off130 v1999) a + S1x64.size a ≤ S1000000x64.size a) ∧
  (∀ a, (k0_off131 v1999) a + S1x16.size a ≤ S1000000x16.size a)
theorem k0_off130_inb : ∀ (v1999 : BitVec 32) (k0_hw65 : k0_chk65 v1999), ∀ a, (k0_off130 v1999) a + S1x64.size a ≤ S1000000x64.size a := fun v1999 k0_hw65 => k0_hw65.1
theorem k0_off131_inb : ∀ (v1999 : BitVec 32) (k0_hw65 : k0_chk65 v1999), ∀ a, (k0_off131 v1999) a + S1x16.size a ≤ S1000000x16.size a := fun v1999 k0_hw65 => k0_hw65.2

def k0_off132 (v2030 : BitVec 32) : Fin 2 → Nat :=
  let c0_i32_1109 : BitVec 32 := 0#32
  ![v2030.toNat, 0]

def k0_off133 (v2030 : BitVec 32) : Fin 2 → Nat :=
  let c0_i32_1119 : BitVec 32 := 0#32
  ![v2030.toNat, 0]

def k0_chk66 (v2030 : BitVec 32) : Prop :=
  (∀ a, (k0_off132 v2030) a + S1x64.size a ≤ S1000000x64.size a) ∧
  (∀ a, (k0_off133 v2030) a + S1x16.size a ≤ S1000000x16.size a)
theorem k0_off132_inb : ∀ (v2030 : BitVec 32) (k0_hw66 : k0_chk66 v2030), ∀ a, (k0_off132 v2030) a + S1x64.size a ≤ S1000000x64.size a := fun v2030 k0_hw66 => k0_hw66.1
theorem k0_off133_inb : ∀ (v2030 : BitVec 32) (k0_hw66 : k0_chk66 v2030), ∀ a, (k0_off133 v2030) a + S1x16.size a ≤ S1000000x16.size a := fun v2030 k0_hw66 => k0_hw66.2

def k0_off134 (v2061 : BitVec 32) : Fin 2 → Nat :=
  let c0_i32_1126 : BitVec 32 := 0#32
  ![v2061.toNat, 0]

def k0_off135 (v2061 : BitVec 32) : Fin 2 → Nat :=
  let c0_i32_1136 : BitVec 32 := 0#32
  ![v2061.toNat, 0]

def k0_chk67 (v2061 : BitVec 32) : Prop :=
  (∀ a, (k0_off134 v2061) a + S1x64.size a ≤ S1000000x64.size a) ∧
  (∀ a, (k0_off135 v2061) a + S1x16.size a ≤ S1000000x16.size a)
theorem k0_off134_inb : ∀ (v2061 : BitVec 32) (k0_hw67 : k0_chk67 v2061), ∀ a, (k0_off134 v2061) a + S1x64.size a ≤ S1000000x64.size a := fun v2061 k0_hw67 => k0_hw67.1
theorem k0_off135_inb : ∀ (v2061 : BitVec 32) (k0_hw67 : k0_chk67 v2061), ∀ a, (k0_off135 v2061) a + S1x16.size a ≤ S1000000x16.size a := fun v2061 k0_hw67 => k0_hw67.2

def k0_off136 (v2092 : BitVec 32) : Fin 2 → Nat :=
  let c0_i32_1143 : BitVec 32 := 0#32
  ![v2092.toNat, 0]

def k0_off137 (v2092 : BitVec 32) : Fin 2 → Nat :=
  let c0_i32_1153 : BitVec 32 := 0#32
  ![v2092.toNat, 0]

def k0_chk68 (v2092 : BitVec 32) : Prop :=
  (∀ a, (k0_off136 v2092) a + S1x64.size a ≤ S1000000x64.size a) ∧
  (∀ a, (k0_off137 v2092) a + S1x16.size a ≤ S1000000x16.size a)
theorem k0_off136_inb : ∀ (v2092 : BitVec 32) (k0_hw68 : k0_chk68 v2092), ∀ a, (k0_off136 v2092) a + S1x64.size a ≤ S1000000x64.size a := fun v2092 k0_hw68 => k0_hw68.1
theorem k0_off137_inb : ∀ (v2092 : BitVec 32) (k0_hw68 : k0_chk68 v2092), ∀ a, (k0_off137 v2092) a + S1x16.size a ≤ S1000000x16.size a := fun v2092 k0_hw68 => k0_hw68.2

def k0_off138 (v2123 : BitVec 32) : Fin 2 → Nat :=
  let c0_i32_1160 : BitVec 32 := 0#32
  ![v2123.toNat, 0]

def k0_off139 (v2123 : BitVec 32) : Fin 2 → Nat :=
  let c0_i32_1170 : BitVec 32 := 0#32
  ![v2123.toNat, 0]

def k0_chk69 (v2123 : BitVec 32) : Prop :=
  (∀ a, (k0_off138 v2123) a + S1x64.size a ≤ S1000000x64.size a) ∧
  (∀ a, (k0_off139 v2123) a + S1x16.size a ≤ S1000000x16.size a)
theorem k0_off138_inb : ∀ (v2123 : BitVec 32) (k0_hw69 : k0_chk69 v2123), ∀ a, (k0_off138 v2123) a + S1x64.size a ≤ S1000000x64.size a := fun v2123 k0_hw69 => k0_hw69.1
theorem k0_off139_inb : ∀ (v2123 : BitVec 32) (k0_hw69 : k0_chk69 v2123), ∀ a, (k0_off139 v2123) a + S1x16.size a ≤ S1000000x16.size a := fun v2123 k0_hw69 => k0_hw69.2

def k0_off140 (v2154 : BitVec 32) : Fin 2 → Nat :=
  let c0_i32_1177 : BitVec 32 := 0#32
  ![v2154.toNat, 0]

def k0_off141 (v2154 : BitVec 32) : Fin 2 → Nat :=
  let c0_i32_1187 : BitVec 32 := 0#32
  ![v2154.toNat, 0]

def k0_chk70 (v2154 : BitVec 32) : Prop :=
  (∀ a, (k0_off140 v2154) a + S1x64.size a ≤ S1000000x64.size a) ∧
  (∀ a, (k0_off141 v2154) a + S1x16.size a ≤ S1000000x16.size a)
theorem k0_off140_inb : ∀ (v2154 : BitVec 32) (k0_hw70 : k0_chk70 v2154), ∀ a, (k0_off140 v2154) a + S1x64.size a ≤ S1000000x64.size a := fun v2154 k0_hw70 => k0_hw70.1
theorem k0_off141_inb : ∀ (v2154 : BitVec 32) (k0_hw70 : k0_chk70 v2154), ∀ a, (k0_off141 v2154) a + S1x16.size a ≤ S1000000x16.size a := fun v2154 k0_hw70 => k0_hw70.2

def k0_off142 (v2185 : BitVec 32) : Fin 2 → Nat :=
  let c0_i32_1194 : BitVec 32 := 0#32
  ![v2185.toNat, 0]

def k0_off143 (v2185 : BitVec 32) : Fin 2 → Nat :=
  let c0_i32_1204 : BitVec 32 := 0#32
  ![v2185.toNat, 0]

def k0_chk71 (v2185 : BitVec 32) : Prop :=
  (∀ a, (k0_off142 v2185) a + S1x64.size a ≤ S1000000x64.size a) ∧
  (∀ a, (k0_off143 v2185) a + S1x16.size a ≤ S1000000x16.size a)
theorem k0_off142_inb : ∀ (v2185 : BitVec 32) (k0_hw71 : k0_chk71 v2185), ∀ a, (k0_off142 v2185) a + S1x64.size a ≤ S1000000x64.size a := fun v2185 k0_hw71 => k0_hw71.1
theorem k0_off143_inb : ∀ (v2185 : BitVec 32) (k0_hw71 : k0_chk71 v2185), ∀ a, (k0_off143 v2185) a + S1x16.size a ≤ S1000000x16.size a := fun v2185 k0_hw71 => k0_hw71.2

def k0_off144 (v2216 : BitVec 32) : Fin 2 → Nat :=
  let c0_i32_1211 : BitVec 32 := 0#32
  ![v2216.toNat, 0]

def k0_off145 (v2216 : BitVec 32) : Fin 2 → Nat :=
  let c0_i32_1221 : BitVec 32 := 0#32
  ![v2216.toNat, 0]

def k0_chk72 (v2216 : BitVec 32) : Prop :=
  (∀ a, (k0_off144 v2216) a + S1x64.size a ≤ S1000000x64.size a) ∧
  (∀ a, (k0_off145 v2216) a + S1x16.size a ≤ S1000000x16.size a)
theorem k0_off144_inb : ∀ (v2216 : BitVec 32) (k0_hw72 : k0_chk72 v2216), ∀ a, (k0_off144 v2216) a + S1x64.size a ≤ S1000000x64.size a := fun v2216 k0_hw72 => k0_hw72.1
theorem k0_off145_inb : ∀ (v2216 : BitVec 32) (k0_hw72 : k0_chk72 v2216), ∀ a, (k0_off145 v2216) a + S1x16.size a ≤ S1000000x16.size a := fun v2216 k0_hw72 => k0_hw72.2

def k0_off146 (v2247 : BitVec 32) : Fin 2 → Nat :=
  let c0_i32_1228 : BitVec 32 := 0#32
  ![v2247.toNat, 0]

def k0_off147 (v2247 : BitVec 32) : Fin 2 → Nat :=
  let c0_i32_1238 : BitVec 32 := 0#32
  ![v2247.toNat, 0]

def k0_chk73 (v2247 : BitVec 32) : Prop :=
  (∀ a, (k0_off146 v2247) a + S1x64.size a ≤ S1000000x64.size a) ∧
  (∀ a, (k0_off147 v2247) a + S1x16.size a ≤ S1000000x16.size a)
theorem k0_off146_inb : ∀ (v2247 : BitVec 32) (k0_hw73 : k0_chk73 v2247), ∀ a, (k0_off146 v2247) a + S1x64.size a ≤ S1000000x64.size a := fun v2247 k0_hw73 => k0_hw73.1
theorem k0_off147_inb : ∀ (v2247 : BitVec 32) (k0_hw73 : k0_chk73 v2247), ∀ a, (k0_off147 v2247) a + S1x16.size a ≤ S1000000x16.size a := fun v2247 k0_hw73 => k0_hw73.2

def k0_off148 (v2278 : BitVec 32) : Fin 2 → Nat :=
  let c0_i32_1245 : BitVec 32 := 0#32
  ![v2278.toNat, 0]

def k0_off149 (v2278 : BitVec 32) : Fin 2 → Nat :=
  let c0_i32_1255 : BitVec 32 := 0#32
  ![v2278.toNat, 0]

def k0_chk74 (v2278 : BitVec 32) : Prop :=
  (∀ a, (k0_off148 v2278) a + S1x64.size a ≤ S1000000x64.size a) ∧
  (∀ a, (k0_off149 v2278) a + S1x16.size a ≤ S1000000x16.size a)
theorem k0_off148_inb : ∀ (v2278 : BitVec 32) (k0_hw74 : k0_chk74 v2278), ∀ a, (k0_off148 v2278) a + S1x64.size a ≤ S1000000x64.size a := fun v2278 k0_hw74 => k0_hw74.1
theorem k0_off149_inb : ∀ (v2278 : BitVec 32) (k0_hw74 : k0_chk74 v2278), ∀ a, (k0_off149 v2278) a + S1x16.size a ≤ S1000000x16.size a := fun v2278 k0_hw74 => k0_hw74.2

def k0_off150 (v2309 : BitVec 32) : Fin 2 → Nat :=
  let c0_i32_1262 : BitVec 32 := 0#32
  ![v2309.toNat, 0]

def k0_off151 (v2309 : BitVec 32) : Fin 2 → Nat :=
  let c0_i32_1272 : BitVec 32 := 0#32
  ![v2309.toNat, 0]

def k0_chk75 (v2309 : BitVec 32) : Prop :=
  (∀ a, (k0_off150 v2309) a + S1x64.size a ≤ S1000000x64.size a) ∧
  (∀ a, (k0_off151 v2309) a + S1x16.size a ≤ S1000000x16.size a)
theorem k0_off150_inb : ∀ (v2309 : BitVec 32) (k0_hw75 : k0_chk75 v2309), ∀ a, (k0_off150 v2309) a + S1x64.size a ≤ S1000000x64.size a := fun v2309 k0_hw75 => k0_hw75.1
theorem k0_off151_inb : ∀ (v2309 : BitVec 32) (k0_hw75 : k0_chk75 v2309), ∀ a, (k0_off151 v2309) a + S1x16.size a ≤ S1000000x16.size a := fun v2309 k0_hw75 => k0_hw75.2

def k0_off152 (v2340 : BitVec 32) : Fin 2 → Nat :=
  let c0_i32_1279 : BitVec 32 := 0#32
  ![v2340.toNat, 0]

def k0_off153 (v2340 : BitVec 32) : Fin 2 → Nat :=
  let c0_i32_1289 : BitVec 32 := 0#32
  ![v2340.toNat, 0]

def k0_chk76 (v2340 : BitVec 32) : Prop :=
  (∀ a, (k0_off152 v2340) a + S1x64.size a ≤ S1000000x64.size a) ∧
  (∀ a, (k0_off153 v2340) a + S1x16.size a ≤ S1000000x16.size a)
theorem k0_off152_inb : ∀ (v2340 : BitVec 32) (k0_hw76 : k0_chk76 v2340), ∀ a, (k0_off152 v2340) a + S1x64.size a ≤ S1000000x64.size a := fun v2340 k0_hw76 => k0_hw76.1
theorem k0_off153_inb : ∀ (v2340 : BitVec 32) (k0_hw76 : k0_chk76 v2340), ∀ a, (k0_off153 v2340) a + S1x16.size a ≤ S1000000x16.size a := fun v2340 k0_hw76 => k0_hw76.2

def k0_off154 (v2371 : BitVec 32) : Fin 2 → Nat :=
  let c0_i32_1296 : BitVec 32 := 0#32
  ![v2371.toNat, 0]

def k0_off155 (v2371 : BitVec 32) : Fin 2 → Nat :=
  let c0_i32_1306 : BitVec 32 := 0#32
  ![v2371.toNat, 0]

def k0_chk77 (v2371 : BitVec 32) : Prop :=
  (∀ a, (k0_off154 v2371) a + S1x64.size a ≤ S1000000x64.size a) ∧
  (∀ a, (k0_off155 v2371) a + S1x16.size a ≤ S1000000x16.size a)
theorem k0_off154_inb : ∀ (v2371 : BitVec 32) (k0_hw77 : k0_chk77 v2371), ∀ a, (k0_off154 v2371) a + S1x64.size a ≤ S1000000x64.size a := fun v2371 k0_hw77 => k0_hw77.1
theorem k0_off155_inb : ∀ (v2371 : BitVec 32) (k0_hw77 : k0_chk77 v2371), ∀ a, (k0_off155 v2371) a + S1x16.size a ≤ S1000000x16.size a := fun v2371 k0_hw77 => k0_hw77.2

def k0_off156 (v2402 : BitVec 32) : Fin 2 → Nat :=
  let c0_i32_1313 : BitVec 32 := 0#32
  ![v2402.toNat, 0]

def k0_off157 (v2402 : BitVec 32) : Fin 2 → Nat :=
  let c0_i32_1323 : BitVec 32 := 0#32
  ![v2402.toNat, 0]

def k0_chk78 (v2402 : BitVec 32) : Prop :=
  (∀ a, (k0_off156 v2402) a + S1x64.size a ≤ S1000000x64.size a) ∧
  (∀ a, (k0_off157 v2402) a + S1x16.size a ≤ S1000000x16.size a)
theorem k0_off156_inb : ∀ (v2402 : BitVec 32) (k0_hw78 : k0_chk78 v2402), ∀ a, (k0_off156 v2402) a + S1x64.size a ≤ S1000000x64.size a := fun v2402 k0_hw78 => k0_hw78.1
theorem k0_off157_inb : ∀ (v2402 : BitVec 32) (k0_hw78 : k0_chk78 v2402), ∀ a, (k0_off157 v2402) a + S1x16.size a ≤ S1000000x16.size a := fun v2402 k0_hw78 => k0_hw78.2

def k0_off158 (v2433 : BitVec 32) : Fin 2 → Nat :=
  let c0_i32_1330 : BitVec 32 := 0#32
  ![v2433.toNat, 0]

def k0_off159 (v2433 : BitVec 32) : Fin 2 → Nat :=
  let c0_i32_1340 : BitVec 32 := 0#32
  ![v2433.toNat, 0]

def k0_chk79 (v2433 : BitVec 32) : Prop :=
  (∀ a, (k0_off158 v2433) a + S1x64.size a ≤ S1000000x64.size a) ∧
  (∀ a, (k0_off159 v2433) a + S1x16.size a ≤ S1000000x16.size a)
theorem k0_off158_inb : ∀ (v2433 : BitVec 32) (k0_hw79 : k0_chk79 v2433), ∀ a, (k0_off158 v2433) a + S1x64.size a ≤ S1000000x64.size a := fun v2433 k0_hw79 => k0_hw79.1
theorem k0_off159_inb : ∀ (v2433 : BitVec 32) (k0_hw79 : k0_chk79 v2433), ∀ a, (k0_off159 v2433) a + S1x16.size a ≤ S1000000x16.size a := fun v2433 k0_hw79 => k0_hw79.2

def k0_off160 (v2464 : BitVec 32) : Fin 2 → Nat :=
  let c0_i32_1347 : BitVec 32 := 0#32
  ![v2464.toNat, 0]

def k0_off161 (v2464 : BitVec 32) : Fin 2 → Nat :=
  let c0_i32_1357 : BitVec 32 := 0#32
  ![v2464.toNat, 0]

def k0_chk80 (v2464 : BitVec 32) : Prop :=
  (∀ a, (k0_off160 v2464) a + S1x64.size a ≤ S1000000x64.size a) ∧
  (∀ a, (k0_off161 v2464) a + S1x16.size a ≤ S1000000x16.size a)
theorem k0_off160_inb : ∀ (v2464 : BitVec 32) (k0_hw80 : k0_chk80 v2464), ∀ a, (k0_off160 v2464) a + S1x64.size a ≤ S1000000x64.size a := fun v2464 k0_hw80 => k0_hw80.1
theorem k0_off161_inb : ∀ (v2464 : BitVec 32) (k0_hw80 : k0_chk80 v2464), ∀ a, (k0_off161 v2464) a + S1x16.size a ≤ S1000000x16.size a := fun v2464 k0_hw80 => k0_hw80.2

def k0_off162 (v2496 : BitVec 32) : Fin 2 → Nat :=
  let c0_i32_1364 : BitVec 32 := 0#32
  ![v2496.toNat, 0]

def k0_off163 (v2496 : BitVec 32) : Fin 2 → Nat :=
  let c0_i32_1374 : BitVec 32 := 0#32
  ![v2496.toNat, 0]

def k0_chk81 (v2496 : BitVec 32) : Prop :=
  (∀ a, (k0_off162 v2496) a + S1x64.size a ≤ S1000000x64.size a) ∧
  (∀ a, (k0_off163 v2496) a + S1x16.size a ≤ S1000000x16.size a)
theorem k0_off162_inb : ∀ (v2496 : BitVec 32) (k0_hw81 : k0_chk81 v2496), ∀ a, (k0_off162 v2496) a + S1x64.size a ≤ S1000000x64.size a := fun v2496 k0_hw81 => k0_hw81.1
theorem k0_off163_inb : ∀ (v2496 : BitVec 32) (k0_hw81 : k0_chk81 v2496), ∀ a, (k0_off163 v2496) a + S1x16.size a ≤ S1000000x16.size a := fun v2496 k0_hw81 => k0_hw81.2

def k0_off164 (v2527 : BitVec 32) : Fin 2 → Nat :=
  let c0_i32_1381 : BitVec 32 := 0#32
  ![v2527.toNat, 0]

def k0_off165 (v2527 : BitVec 32) : Fin 2 → Nat :=
  let c0_i32_1391 : BitVec 32 := 0#32
  ![v2527.toNat, 0]

def k0_chk82 (v2527 : BitVec 32) : Prop :=
  (∀ a, (k0_off164 v2527) a + S1x64.size a ≤ S1000000x64.size a) ∧
  (∀ a, (k0_off165 v2527) a + S1x16.size a ≤ S1000000x16.size a)
theorem k0_off164_inb : ∀ (v2527 : BitVec 32) (k0_hw82 : k0_chk82 v2527), ∀ a, (k0_off164 v2527) a + S1x64.size a ≤ S1000000x64.size a := fun v2527 k0_hw82 => k0_hw82.1
theorem k0_off165_inb : ∀ (v2527 : BitVec 32) (k0_hw82 : k0_chk82 v2527), ∀ a, (k0_off165 v2527) a + S1x16.size a ≤ S1000000x16.size a := fun v2527 k0_hw82 => k0_hw82.2

def k0_off166 (v2558 : BitVec 32) : Fin 2 → Nat :=
  let c0_i32_1398 : BitVec 32 := 0#32
  ![v2558.toNat, 0]

def k0_off167 (v2558 : BitVec 32) : Fin 2 → Nat :=
  let c0_i32_1408 : BitVec 32 := 0#32
  ![v2558.toNat, 0]

def k0_chk83 (v2558 : BitVec 32) : Prop :=
  (∀ a, (k0_off166 v2558) a + S1x64.size a ≤ S1000000x64.size a) ∧
  (∀ a, (k0_off167 v2558) a + S1x16.size a ≤ S1000000x16.size a)
theorem k0_off166_inb : ∀ (v2558 : BitVec 32) (k0_hw83 : k0_chk83 v2558), ∀ a, (k0_off166 v2558) a + S1x64.size a ≤ S1000000x64.size a := fun v2558 k0_hw83 => k0_hw83.1
theorem k0_off167_inb : ∀ (v2558 : BitVec 32) (k0_hw83 : k0_chk83 v2558), ∀ a, (k0_off167 v2558) a + S1x16.size a ≤ S1000000x16.size a := fun v2558 k0_hw83 => k0_hw83.2

def k0_off168 (v2589 : BitVec 32) : Fin 2 → Nat :=
  let c0_i32_1415 : BitVec 32 := 0#32
  ![v2589.toNat, 0]

def k0_off169 (v2589 : BitVec 32) : Fin 2 → Nat :=
  let c0_i32_1425 : BitVec 32 := 0#32
  ![v2589.toNat, 0]

def k0_chk84 (v2589 : BitVec 32) : Prop :=
  (∀ a, (k0_off168 v2589) a + S1x64.size a ≤ S1000000x64.size a) ∧
  (∀ a, (k0_off169 v2589) a + S1x16.size a ≤ S1000000x16.size a)
theorem k0_off168_inb : ∀ (v2589 : BitVec 32) (k0_hw84 : k0_chk84 v2589), ∀ a, (k0_off168 v2589) a + S1x64.size a ≤ S1000000x64.size a := fun v2589 k0_hw84 => k0_hw84.1
theorem k0_off169_inb : ∀ (v2589 : BitVec 32) (k0_hw84 : k0_chk84 v2589), ∀ a, (k0_off169 v2589) a + S1x16.size a ≤ S1000000x16.size a := fun v2589 k0_hw84 => k0_hw84.2

def k0_off170 (v2620 : BitVec 32) : Fin 2 → Nat :=
  let c0_i32_1432 : BitVec 32 := 0#32
  ![v2620.toNat, 0]

def k0_off171 (v2620 : BitVec 32) : Fin 2 → Nat :=
  let c0_i32_1442 : BitVec 32 := 0#32
  ![v2620.toNat, 0]

def k0_chk85 (v2620 : BitVec 32) : Prop :=
  (∀ a, (k0_off170 v2620) a + S1x64.size a ≤ S1000000x64.size a) ∧
  (∀ a, (k0_off171 v2620) a + S1x16.size a ≤ S1000000x16.size a)
theorem k0_off170_inb : ∀ (v2620 : BitVec 32) (k0_hw85 : k0_chk85 v2620), ∀ a, (k0_off170 v2620) a + S1x64.size a ≤ S1000000x64.size a := fun v2620 k0_hw85 => k0_hw85.1
theorem k0_off171_inb : ∀ (v2620 : BitVec 32) (k0_hw85 : k0_chk85 v2620), ∀ a, (k0_off171 v2620) a + S1x16.size a ≤ S1000000x16.size a := fun v2620 k0_hw85 => k0_hw85.2

def k0_off172 (v2651 : BitVec 32) : Fin 2 → Nat :=
  let c0_i32_1449 : BitVec 32 := 0#32
  ![v2651.toNat, 0]

def k0_off173 (v2651 : BitVec 32) : Fin 2 → Nat :=
  let c0_i32_1459 : BitVec 32 := 0#32
  ![v2651.toNat, 0]

def k0_chk86 (v2651 : BitVec 32) : Prop :=
  (∀ a, (k0_off172 v2651) a + S1x64.size a ≤ S1000000x64.size a) ∧
  (∀ a, (k0_off173 v2651) a + S1x16.size a ≤ S1000000x16.size a)
theorem k0_off172_inb : ∀ (v2651 : BitVec 32) (k0_hw86 : k0_chk86 v2651), ∀ a, (k0_off172 v2651) a + S1x64.size a ≤ S1000000x64.size a := fun v2651 k0_hw86 => k0_hw86.1
theorem k0_off173_inb : ∀ (v2651 : BitVec 32) (k0_hw86 : k0_chk86 v2651), ∀ a, (k0_off173 v2651) a + S1x16.size a ≤ S1000000x16.size a := fun v2651 k0_hw86 => k0_hw86.2

def k0_off174 (v2682 : BitVec 32) : Fin 2 → Nat :=
  let c0_i32_1466 : BitVec 32 := 0#32
  ![v2682.toNat, 0]

def k0_off175 (v2682 : BitVec 32) : Fin 2 → Nat :=
  let c0_i32_1476 : BitVec 32 := 0#32
  ![v2682.toNat, 0]

def k0_chk87 (v2682 : BitVec 32) : Prop :=
  (∀ a, (k0_off174 v2682) a + S1x64.size a ≤ S1000000x64.size a) ∧
  (∀ a, (k0_off175 v2682) a + S1x16.size a ≤ S1000000x16.size a)
theorem k0_off174_inb : ∀ (v2682 : BitVec 32) (k0_hw87 : k0_chk87 v2682), ∀ a, (k0_off174 v2682) a + S1x64.size a ≤ S1000000x64.size a := fun v2682 k0_hw87 => k0_hw87.1
theorem k0_off175_inb : ∀ (v2682 : BitVec 32) (k0_hw87 : k0_chk87 v2682), ∀ a, (k0_off175 v2682) a + S1x16.size a ≤ S1000000x16.size a := fun v2682 k0_hw87 => k0_hw87.2

def k0_off176 (v2713 : BitVec 32) : Fin 2 → Nat :=
  let c0_i32_1483 : BitVec 32 := 0#32
  ![v2713.toNat, 0]

def k0_off177 (v2713 : BitVec 32) : Fin 2 → Nat :=
  let c0_i32_1493 : BitVec 32 := 0#32
  ![v2713.toNat, 0]

def k0_chk88 (v2713 : BitVec 32) : Prop :=
  (∀ a, (k0_off176 v2713) a + S1x64.size a ≤ S1000000x64.size a) ∧
  (∀ a, (k0_off177 v2713) a + S1x16.size a ≤ S1000000x16.size a)
theorem k0_off176_inb : ∀ (v2713 : BitVec 32) (k0_hw88 : k0_chk88 v2713), ∀ a, (k0_off176 v2713) a + S1x64.size a ≤ S1000000x64.size a := fun v2713 k0_hw88 => k0_hw88.1
theorem k0_off177_inb : ∀ (v2713 : BitVec 32) (k0_hw88 : k0_chk88 v2713), ∀ a, (k0_off177 v2713) a + S1x16.size a ≤ S1000000x16.size a := fun v2713 k0_hw88 => k0_hw88.2

def k0_off178 (v2744 : BitVec 32) : Fin 2 → Nat :=
  let c0_i32_1500 : BitVec 32 := 0#32
  ![v2744.toNat, 0]

def k0_off179 (v2744 : BitVec 32) : Fin 2 → Nat :=
  let c0_i32_1510 : BitVec 32 := 0#32
  ![v2744.toNat, 0]

def k0_chk89 (v2744 : BitVec 32) : Prop :=
  (∀ a, (k0_off178 v2744) a + S1x64.size a ≤ S1000000x64.size a) ∧
  (∀ a, (k0_off179 v2744) a + S1x16.size a ≤ S1000000x16.size a)
theorem k0_off178_inb : ∀ (v2744 : BitVec 32) (k0_hw89 : k0_chk89 v2744), ∀ a, (k0_off178 v2744) a + S1x64.size a ≤ S1000000x64.size a := fun v2744 k0_hw89 => k0_hw89.1
theorem k0_off179_inb : ∀ (v2744 : BitVec 32) (k0_hw89 : k0_chk89 v2744), ∀ a, (k0_off179 v2744) a + S1x16.size a ≤ S1000000x16.size a := fun v2744 k0_hw89 => k0_hw89.2

def k0_off180 (v2775 : BitVec 32) : Fin 2 → Nat :=
  let c0_i32_1517 : BitVec 32 := 0#32
  ![v2775.toNat, 0]

def k0_off181 (v2775 : BitVec 32) : Fin 2 → Nat :=
  let c0_i32_1527 : BitVec 32 := 0#32
  ![v2775.toNat, 0]

def k0_chk90 (v2775 : BitVec 32) : Prop :=
  (∀ a, (k0_off180 v2775) a + S1x64.size a ≤ S1000000x64.size a) ∧
  (∀ a, (k0_off181 v2775) a + S1x16.size a ≤ S1000000x16.size a)
theorem k0_off180_inb : ∀ (v2775 : BitVec 32) (k0_hw90 : k0_chk90 v2775), ∀ a, (k0_off180 v2775) a + S1x64.size a ≤ S1000000x64.size a := fun v2775 k0_hw90 => k0_hw90.1
theorem k0_off181_inb : ∀ (v2775 : BitVec 32) (k0_hw90 : k0_chk90 v2775), ∀ a, (k0_off181 v2775) a + S1x16.size a ≤ S1000000x16.size a := fun v2775 k0_hw90 => k0_hw90.2

def k0_off182 (v2806 : BitVec 32) : Fin 2 → Nat :=
  let c0_i32_1534 : BitVec 32 := 0#32
  ![v2806.toNat, 0]

def k0_off183 (v2806 : BitVec 32) : Fin 2 → Nat :=
  let c0_i32_1544 : BitVec 32 := 0#32
  ![v2806.toNat, 0]

def k0_chk91 (v2806 : BitVec 32) : Prop :=
  (∀ a, (k0_off182 v2806) a + S1x64.size a ≤ S1000000x64.size a) ∧
  (∀ a, (k0_off183 v2806) a + S1x16.size a ≤ S1000000x16.size a)
theorem k0_off182_inb : ∀ (v2806 : BitVec 32) (k0_hw91 : k0_chk91 v2806), ∀ a, (k0_off182 v2806) a + S1x64.size a ≤ S1000000x64.size a := fun v2806 k0_hw91 => k0_hw91.1
theorem k0_off183_inb : ∀ (v2806 : BitVec 32) (k0_hw91 : k0_chk91 v2806), ∀ a, (k0_off183 v2806) a + S1x16.size a ≤ S1000000x16.size a := fun v2806 k0_hw91 => k0_hw91.2

def k0_off184 (v2837 : BitVec 32) : Fin 2 → Nat :=
  let c0_i32_1551 : BitVec 32 := 0#32
  ![v2837.toNat, 0]

def k0_off185 (v2837 : BitVec 32) : Fin 2 → Nat :=
  let c0_i32_1561 : BitVec 32 := 0#32
  ![v2837.toNat, 0]

def k0_chk92 (v2837 : BitVec 32) : Prop :=
  (∀ a, (k0_off184 v2837) a + S1x64.size a ≤ S1000000x64.size a) ∧
  (∀ a, (k0_off185 v2837) a + S1x16.size a ≤ S1000000x16.size a)
theorem k0_off184_inb : ∀ (v2837 : BitVec 32) (k0_hw92 : k0_chk92 v2837), ∀ a, (k0_off184 v2837) a + S1x64.size a ≤ S1000000x64.size a := fun v2837 k0_hw92 => k0_hw92.1
theorem k0_off185_inb : ∀ (v2837 : BitVec 32) (k0_hw92 : k0_chk92 v2837), ∀ a, (k0_off185 v2837) a + S1x16.size a ≤ S1000000x16.size a := fun v2837 k0_hw92 => k0_hw92.2

def k0_off186 (v2868 : BitVec 32) : Fin 2 → Nat :=
  let c0_i32_1568 : BitVec 32 := 0#32
  ![v2868.toNat, 0]

def k0_off187 (v2868 : BitVec 32) : Fin 2 → Nat :=
  let c0_i32_1578 : BitVec 32 := 0#32
  ![v2868.toNat, 0]

def k0_chk93 (v2868 : BitVec 32) : Prop :=
  (∀ a, (k0_off186 v2868) a + S1x64.size a ≤ S1000000x64.size a) ∧
  (∀ a, (k0_off187 v2868) a + S1x16.size a ≤ S1000000x16.size a)
theorem k0_off186_inb : ∀ (v2868 : BitVec 32) (k0_hw93 : k0_chk93 v2868), ∀ a, (k0_off186 v2868) a + S1x64.size a ≤ S1000000x64.size a := fun v2868 k0_hw93 => k0_hw93.1
theorem k0_off187_inb : ∀ (v2868 : BitVec 32) (k0_hw93 : k0_chk93 v2868), ∀ a, (k0_off187 v2868) a + S1x16.size a ≤ S1000000x16.size a := fun v2868 k0_hw93 => k0_hw93.2

def k0_off188 (v2899 : BitVec 32) : Fin 2 → Nat :=
  let c0_i32_1585 : BitVec 32 := 0#32
  ![v2899.toNat, 0]

def k0_off189 (v2899 : BitVec 32) : Fin 2 → Nat :=
  let c0_i32_1595 : BitVec 32 := 0#32
  ![v2899.toNat, 0]

def k0_chk94 (v2899 : BitVec 32) : Prop :=
  (∀ a, (k0_off188 v2899) a + S1x64.size a ≤ S1000000x64.size a) ∧
  (∀ a, (k0_off189 v2899) a + S1x16.size a ≤ S1000000x16.size a)
theorem k0_off188_inb : ∀ (v2899 : BitVec 32) (k0_hw94 : k0_chk94 v2899), ∀ a, (k0_off188 v2899) a + S1x64.size a ≤ S1000000x64.size a := fun v2899 k0_hw94 => k0_hw94.1
theorem k0_off189_inb : ∀ (v2899 : BitVec 32) (k0_hw94 : k0_chk94 v2899), ∀ a, (k0_off189 v2899) a + S1x16.size a ≤ S1000000x16.size a := fun v2899 k0_hw94 => k0_hw94.2

def k0_off190 (v2930 : BitVec 32) : Fin 2 → Nat :=
  let c0_i32_1602 : BitVec 32 := 0#32
  ![v2930.toNat, 0]

def k0_off191 (v2930 : BitVec 32) : Fin 2 → Nat :=
  let c0_i32_1612 : BitVec 32 := 0#32
  ![v2930.toNat, 0]

def k0_chk95 (v2930 : BitVec 32) : Prop :=
  (∀ a, (k0_off190 v2930) a + S1x64.size a ≤ S1000000x64.size a) ∧
  (∀ a, (k0_off191 v2930) a + S1x16.size a ≤ S1000000x16.size a)
theorem k0_off190_inb : ∀ (v2930 : BitVec 32) (k0_hw95 : k0_chk95 v2930), ∀ a, (k0_off190 v2930) a + S1x64.size a ≤ S1000000x64.size a := fun v2930 k0_hw95 => k0_hw95.1
theorem k0_off191_inb : ∀ (v2930 : BitVec 32) (k0_hw95 : k0_chk95 v2930), ∀ a, (k0_off191 v2930) a + S1x16.size a ≤ S1000000x16.size a := fun v2930 k0_hw95 => k0_hw95.2

def k0_off192 (v2961 : BitVec 32) : Fin 2 → Nat :=
  let c0_i32_1619 : BitVec 32 := 0#32
  ![v2961.toNat, 0]

def k0_off193 (v2961 : BitVec 32) : Fin 2 → Nat :=
  let c0_i32_1629 : BitVec 32 := 0#32
  ![v2961.toNat, 0]

def k0_chk96 (v2961 : BitVec 32) : Prop :=
  (∀ a, (k0_off192 v2961) a + S1x64.size a ≤ S1000000x64.size a) ∧
  (∀ a, (k0_off193 v2961) a + S1x16.size a ≤ S1000000x16.size a)
theorem k0_off192_inb : ∀ (v2961 : BitVec 32) (k0_hw96 : k0_chk96 v2961), ∀ a, (k0_off192 v2961) a + S1x64.size a ≤ S1000000x64.size a := fun v2961 k0_hw96 => k0_hw96.1
theorem k0_off193_inb : ∀ (v2961 : BitVec 32) (k0_hw96 : k0_chk96 v2961), ∀ a, (k0_off193 v2961) a + S1x16.size a ≤ S1000000x16.size a := fun v2961 k0_hw96 => k0_hw96.2

def k0_off194 (v2993 : BitVec 32) : Fin 2 → Nat :=
  let c0_i32_1636 : BitVec 32 := 0#32
  ![v2993.toNat, 0]

def k0_off195 (v2993 : BitVec 32) : Fin 2 → Nat :=
  let c0_i32_1646 : BitVec 32 := 0#32
  ![v2993.toNat, 0]

def k0_chk97 (v2993 : BitVec 32) : Prop :=
  (∀ a, (k0_off194 v2993) a + S1x64.size a ≤ S1000000x64.size a) ∧
  (∀ a, (k0_off195 v2993) a + S1x16.size a ≤ S1000000x16.size a)
theorem k0_off194_inb : ∀ (v2993 : BitVec 32) (k0_hw97 : k0_chk97 v2993), ∀ a, (k0_off194 v2993) a + S1x64.size a ≤ S1000000x64.size a := fun v2993 k0_hw97 => k0_hw97.1
theorem k0_off195_inb : ∀ (v2993 : BitVec 32) (k0_hw97 : k0_chk97 v2993), ∀ a, (k0_off195 v2993) a + S1x16.size a ≤ S1000000x16.size a := fun v2993 k0_hw97 => k0_hw97.2

def k0_off196 (v3024 : BitVec 32) : Fin 2 → Nat :=
  let c0_i32_1653 : BitVec 32 := 0#32
  ![v3024.toNat, 0]

def k0_off197 (v3024 : BitVec 32) : Fin 2 → Nat :=
  let c0_i32_1663 : BitVec 32 := 0#32
  ![v3024.toNat, 0]

def k0_chk98 (v3024 : BitVec 32) : Prop :=
  (∀ a, (k0_off196 v3024) a + S1x64.size a ≤ S1000000x64.size a) ∧
  (∀ a, (k0_off197 v3024) a + S1x16.size a ≤ S1000000x16.size a)
theorem k0_off196_inb : ∀ (v3024 : BitVec 32) (k0_hw98 : k0_chk98 v3024), ∀ a, (k0_off196 v3024) a + S1x64.size a ≤ S1000000x64.size a := fun v3024 k0_hw98 => k0_hw98.1
theorem k0_off197_inb : ∀ (v3024 : BitVec 32) (k0_hw98 : k0_chk98 v3024), ∀ a, (k0_off197 v3024) a + S1x16.size a ≤ S1000000x16.size a := fun v3024 k0_hw98 => k0_hw98.2

def k0_off198 (v3055 : BitVec 32) : Fin 2 → Nat :=
  let c0_i32_1670 : BitVec 32 := 0#32
  ![v3055.toNat, 0]

def k0_off199 (v3055 : BitVec 32) : Fin 2 → Nat :=
  let c0_i32_1680 : BitVec 32 := 0#32
  ![v3055.toNat, 0]

def k0_chk99 (v3055 : BitVec 32) : Prop :=
  (∀ a, (k0_off198 v3055) a + S1x64.size a ≤ S1000000x64.size a) ∧
  (∀ a, (k0_off199 v3055) a + S1x16.size a ≤ S1000000x16.size a)
theorem k0_off198_inb : ∀ (v3055 : BitVec 32) (k0_hw99 : k0_chk99 v3055), ∀ a, (k0_off198 v3055) a + S1x64.size a ≤ S1000000x64.size a := fun v3055 k0_hw99 => k0_hw99.1
theorem k0_off199_inb : ∀ (v3055 : BitVec 32) (k0_hw99 : k0_chk99 v3055), ∀ a, (k0_off199 v3055) a + S1x16.size a ≤ S1000000x16.size a := fun v3055 k0_hw99 => k0_hw99.2

def k0_off200 (v3086 : BitVec 32) : Fin 2 → Nat :=
  let c0_i32_1687 : BitVec 32 := 0#32
  ![v3086.toNat, 0]

def k0_off201 (v3086 : BitVec 32) : Fin 2 → Nat :=
  let c0_i32_1697 : BitVec 32 := 0#32
  ![v3086.toNat, 0]

def k0_chk100 (v3086 : BitVec 32) : Prop :=
  (∀ a, (k0_off200 v3086) a + S1x64.size a ≤ S1000000x64.size a) ∧
  (∀ a, (k0_off201 v3086) a + S1x16.size a ≤ S1000000x16.size a)
theorem k0_off200_inb : ∀ (v3086 : BitVec 32) (k0_hw100 : k0_chk100 v3086), ∀ a, (k0_off200 v3086) a + S1x64.size a ≤ S1000000x64.size a := fun v3086 k0_hw100 => k0_hw100.1
theorem k0_off201_inb : ∀ (v3086 : BitVec 32) (k0_hw100 : k0_chk100 v3086), ∀ a, (k0_off201 v3086) a + S1x16.size a ≤ S1000000x16.size a := fun v3086 k0_hw100 => k0_hw100.2

def k0_off202 (v3117 : BitVec 32) : Fin 2 → Nat :=
  let c0_i32_1704 : BitVec 32 := 0#32
  ![v3117.toNat, 0]

def k0_off203 (v3117 : BitVec 32) : Fin 2 → Nat :=
  let c0_i32_1714 : BitVec 32 := 0#32
  ![v3117.toNat, 0]

def k0_chk101 (v3117 : BitVec 32) : Prop :=
  (∀ a, (k0_off202 v3117) a + S1x64.size a ≤ S1000000x64.size a) ∧
  (∀ a, (k0_off203 v3117) a + S1x16.size a ≤ S1000000x16.size a)
theorem k0_off202_inb : ∀ (v3117 : BitVec 32) (k0_hw101 : k0_chk101 v3117), ∀ a, (k0_off202 v3117) a + S1x64.size a ≤ S1000000x64.size a := fun v3117 k0_hw101 => k0_hw101.1
theorem k0_off203_inb : ∀ (v3117 : BitVec 32) (k0_hw101 : k0_chk101 v3117), ∀ a, (k0_off203 v3117) a + S1x16.size a ≤ S1000000x16.size a := fun v3117 k0_hw101 => k0_hw101.2

def k0_off204 (v3148 : BitVec 32) : Fin 2 → Nat :=
  let c0_i32_1721 : BitVec 32 := 0#32
  ![v3148.toNat, 0]

def k0_off205 (v3148 : BitVec 32) : Fin 2 → Nat :=
  let c0_i32_1731 : BitVec 32 := 0#32
  ![v3148.toNat, 0]

def k0_chk102 (v3148 : BitVec 32) : Prop :=
  (∀ a, (k0_off204 v3148) a + S1x64.size a ≤ S1000000x64.size a) ∧
  (∀ a, (k0_off205 v3148) a + S1x16.size a ≤ S1000000x16.size a)
theorem k0_off204_inb : ∀ (v3148 : BitVec 32) (k0_hw102 : k0_chk102 v3148), ∀ a, (k0_off204 v3148) a + S1x64.size a ≤ S1000000x64.size a := fun v3148 k0_hw102 => k0_hw102.1
theorem k0_off205_inb : ∀ (v3148 : BitVec 32) (k0_hw102 : k0_chk102 v3148), ∀ a, (k0_off205 v3148) a + S1x16.size a ≤ S1000000x16.size a := fun v3148 k0_hw102 => k0_hw102.2

def k0_off206 (v3179 : BitVec 32) : Fin 2 → Nat :=
  let c0_i32_1738 : BitVec 32 := 0#32
  ![v3179.toNat, 0]

def k0_off207 (v3179 : BitVec 32) : Fin 2 → Nat :=
  let c0_i32_1748 : BitVec 32 := 0#32
  ![v3179.toNat, 0]

def k0_chk103 (v3179 : BitVec 32) : Prop :=
  (∀ a, (k0_off206 v3179) a + S1x64.size a ≤ S1000000x64.size a) ∧
  (∀ a, (k0_off207 v3179) a + S1x16.size a ≤ S1000000x16.size a)
theorem k0_off206_inb : ∀ (v3179 : BitVec 32) (k0_hw103 : k0_chk103 v3179), ∀ a, (k0_off206 v3179) a + S1x64.size a ≤ S1000000x64.size a := fun v3179 k0_hw103 => k0_hw103.1
theorem k0_off207_inb : ∀ (v3179 : BitVec 32) (k0_hw103 : k0_chk103 v3179), ∀ a, (k0_off207 v3179) a + S1x16.size a ≤ S1000000x16.size a := fun v3179 k0_hw103 => k0_hw103.2

def k0_off208 (v3210 : BitVec 32) : Fin 2 → Nat :=
  let c0_i32_1755 : BitVec 32 := 0#32
  ![v3210.toNat, 0]

def k0_off209 (v3210 : BitVec 32) : Fin 2 → Nat :=
  let c0_i32_1765 : BitVec 32 := 0#32
  ![v3210.toNat, 0]

def k0_chk104 (v3210 : BitVec 32) : Prop :=
  (∀ a, (k0_off208 v3210) a + S1x64.size a ≤ S1000000x64.size a) ∧
  (∀ a, (k0_off209 v3210) a + S1x16.size a ≤ S1000000x16.size a)
theorem k0_off208_inb : ∀ (v3210 : BitVec 32) (k0_hw104 : k0_chk104 v3210), ∀ a, (k0_off208 v3210) a + S1x64.size a ≤ S1000000x64.size a := fun v3210 k0_hw104 => k0_hw104.1
theorem k0_off209_inb : ∀ (v3210 : BitVec 32) (k0_hw104 : k0_chk104 v3210), ∀ a, (k0_off209 v3210) a + S1x16.size a ≤ S1000000x16.size a := fun v3210 k0_hw104 => k0_hw104.2

def k0_off210 (v3241 : BitVec 32) : Fin 2 → Nat :=
  let c0_i32_1772 : BitVec 32 := 0#32
  ![v3241.toNat, 0]

def k0_off211 (v3241 : BitVec 32) : Fin 2 → Nat :=
  let c0_i32_1782 : BitVec 32 := 0#32
  ![v3241.toNat, 0]

def k0_chk105 (v3241 : BitVec 32) : Prop :=
  (∀ a, (k0_off210 v3241) a + S1x64.size a ≤ S1000000x64.size a) ∧
  (∀ a, (k0_off211 v3241) a + S1x16.size a ≤ S1000000x16.size a)
theorem k0_off210_inb : ∀ (v3241 : BitVec 32) (k0_hw105 : k0_chk105 v3241), ∀ a, (k0_off210 v3241) a + S1x64.size a ≤ S1000000x64.size a := fun v3241 k0_hw105 => k0_hw105.1
theorem k0_off211_inb : ∀ (v3241 : BitVec 32) (k0_hw105 : k0_chk105 v3241), ∀ a, (k0_off211 v3241) a + S1x16.size a ≤ S1000000x16.size a := fun v3241 k0_hw105 => k0_hw105.2

def k0_off212 (v3272 : BitVec 32) : Fin 2 → Nat :=
  let c0_i32_1789 : BitVec 32 := 0#32
  ![v3272.toNat, 0]

def k0_off213 (v3272 : BitVec 32) : Fin 2 → Nat :=
  let c0_i32_1799 : BitVec 32 := 0#32
  ![v3272.toNat, 0]

def k0_chk106 (v3272 : BitVec 32) : Prop :=
  (∀ a, (k0_off212 v3272) a + S1x64.size a ≤ S1000000x64.size a) ∧
  (∀ a, (k0_off213 v3272) a + S1x16.size a ≤ S1000000x16.size a)
theorem k0_off212_inb : ∀ (v3272 : BitVec 32) (k0_hw106 : k0_chk106 v3272), ∀ a, (k0_off212 v3272) a + S1x64.size a ≤ S1000000x64.size a := fun v3272 k0_hw106 => k0_hw106.1
theorem k0_off213_inb : ∀ (v3272 : BitVec 32) (k0_hw106 : k0_chk106 v3272), ∀ a, (k0_off213 v3272) a + S1x16.size a ≤ S1000000x16.size a := fun v3272 k0_hw106 => k0_hw106.2

def k0_off214 (v3303 : BitVec 32) : Fin 2 → Nat :=
  let c0_i32_1806 : BitVec 32 := 0#32
  ![v3303.toNat, 0]

def k0_off215 (v3303 : BitVec 32) : Fin 2 → Nat :=
  let c0_i32_1816 : BitVec 32 := 0#32
  ![v3303.toNat, 0]

def k0_chk107 (v3303 : BitVec 32) : Prop :=
  (∀ a, (k0_off214 v3303) a + S1x64.size a ≤ S1000000x64.size a) ∧
  (∀ a, (k0_off215 v3303) a + S1x16.size a ≤ S1000000x16.size a)
theorem k0_off214_inb : ∀ (v3303 : BitVec 32) (k0_hw107 : k0_chk107 v3303), ∀ a, (k0_off214 v3303) a + S1x64.size a ≤ S1000000x64.size a := fun v3303 k0_hw107 => k0_hw107.1
theorem k0_off215_inb : ∀ (v3303 : BitVec 32) (k0_hw107 : k0_chk107 v3303), ∀ a, (k0_off215 v3303) a + S1x16.size a ≤ S1000000x16.size a := fun v3303 k0_hw107 => k0_hw107.2

def k0_off216 (v3334 : BitVec 32) : Fin 2 → Nat :=
  let c0_i32_1823 : BitVec 32 := 0#32
  ![v3334.toNat, 0]

def k0_off217 (v3334 : BitVec 32) : Fin 2 → Nat :=
  let c0_i32_1833 : BitVec 32 := 0#32
  ![v3334.toNat, 0]

def k0_chk108 (v3334 : BitVec 32) : Prop :=
  (∀ a, (k0_off216 v3334) a + S1x64.size a ≤ S1000000x64.size a) ∧
  (∀ a, (k0_off217 v3334) a + S1x16.size a ≤ S1000000x16.size a)
theorem k0_off216_inb : ∀ (v3334 : BitVec 32) (k0_hw108 : k0_chk108 v3334), ∀ a, (k0_off216 v3334) a + S1x64.size a ≤ S1000000x64.size a := fun v3334 k0_hw108 => k0_hw108.1
theorem k0_off217_inb : ∀ (v3334 : BitVec 32) (k0_hw108 : k0_chk108 v3334), ∀ a, (k0_off217 v3334) a + S1x16.size a ≤ S1000000x16.size a := fun v3334 k0_hw108 => k0_hw108.2

def k0_off218 (v3365 : BitVec 32) : Fin 2 → Nat :=
  let c0_i32_1840 : BitVec 32 := 0#32
  ![v3365.toNat, 0]

def k0_off219 (v3365 : BitVec 32) : Fin 2 → Nat :=
  let c0_i32_1850 : BitVec 32 := 0#32
  ![v3365.toNat, 0]

def k0_chk109 (v3365 : BitVec 32) : Prop :=
  (∀ a, (k0_off218 v3365) a + S1x64.size a ≤ S1000000x64.size a) ∧
  (∀ a, (k0_off219 v3365) a + S1x16.size a ≤ S1000000x16.size a)
theorem k0_off218_inb : ∀ (v3365 : BitVec 32) (k0_hw109 : k0_chk109 v3365), ∀ a, (k0_off218 v3365) a + S1x64.size a ≤ S1000000x64.size a := fun v3365 k0_hw109 => k0_hw109.1
theorem k0_off219_inb : ∀ (v3365 : BitVec 32) (k0_hw109 : k0_chk109 v3365), ∀ a, (k0_off219 v3365) a + S1x16.size a ≤ S1000000x16.size a := fun v3365 k0_hw109 => k0_hw109.2

def k0_off220 (v3396 : BitVec 32) : Fin 2 → Nat :=
  let c0_i32_1857 : BitVec 32 := 0#32
  ![v3396.toNat, 0]

def k0_off221 (v3396 : BitVec 32) : Fin 2 → Nat :=
  let c0_i32_1867 : BitVec 32 := 0#32
  ![v3396.toNat, 0]

def k0_chk110 (v3396 : BitVec 32) : Prop :=
  (∀ a, (k0_off220 v3396) a + S1x64.size a ≤ S1000000x64.size a) ∧
  (∀ a, (k0_off221 v3396) a + S1x16.size a ≤ S1000000x16.size a)
theorem k0_off220_inb : ∀ (v3396 : BitVec 32) (k0_hw110 : k0_chk110 v3396), ∀ a, (k0_off220 v3396) a + S1x64.size a ≤ S1000000x64.size a := fun v3396 k0_hw110 => k0_hw110.1
theorem k0_off221_inb : ∀ (v3396 : BitVec 32) (k0_hw110 : k0_chk110 v3396), ∀ a, (k0_off221 v3396) a + S1x16.size a ≤ S1000000x16.size a := fun v3396 k0_hw110 => k0_hw110.2

def k0_off222 (v3427 : BitVec 32) : Fin 2 → Nat :=
  let c0_i32_1874 : BitVec 32 := 0#32
  ![v3427.toNat, 0]

def k0_off223 (v3427 : BitVec 32) : Fin 2 → Nat :=
  let c0_i32_1884 : BitVec 32 := 0#32
  ![v3427.toNat, 0]

def k0_chk111 (v3427 : BitVec 32) : Prop :=
  (∀ a, (k0_off222 v3427) a + S1x64.size a ≤ S1000000x64.size a) ∧
  (∀ a, (k0_off223 v3427) a + S1x16.size a ≤ S1000000x16.size a)
theorem k0_off222_inb : ∀ (v3427 : BitVec 32) (k0_hw111 : k0_chk111 v3427), ∀ a, (k0_off222 v3427) a + S1x64.size a ≤ S1000000x64.size a := fun v3427 k0_hw111 => k0_hw111.1
theorem k0_off223_inb : ∀ (v3427 : BitVec 32) (k0_hw111 : k0_chk111 v3427), ∀ a, (k0_off223 v3427) a + S1x16.size a ≤ S1000000x16.size a := fun v3427 k0_hw111 => k0_hw111.2

def k0_off224 (v3458 : BitVec 32) : Fin 2 → Nat :=
  let c0_i32_1891 : BitVec 32 := 0#32
  ![v3458.toNat, 0]

def k0_off225 (v3458 : BitVec 32) : Fin 2 → Nat :=
  let c0_i32_1901 : BitVec 32 := 0#32
  ![v3458.toNat, 0]

def k0_chk112 (v3458 : BitVec 32) : Prop :=
  (∀ a, (k0_off224 v3458) a + S1x64.size a ≤ S1000000x64.size a) ∧
  (∀ a, (k0_off225 v3458) a + S1x16.size a ≤ S1000000x16.size a)
theorem k0_off224_inb : ∀ (v3458 : BitVec 32) (k0_hw112 : k0_chk112 v3458), ∀ a, (k0_off224 v3458) a + S1x64.size a ≤ S1000000x64.size a := fun v3458 k0_hw112 => k0_hw112.1
theorem k0_off225_inb : ∀ (v3458 : BitVec 32) (k0_hw112 : k0_chk112 v3458), ∀ a, (k0_off225 v3458) a + S1x16.size a ≤ S1000000x16.size a := fun v3458 k0_hw112 => k0_hw112.2

def k0_off226 (v3490 : BitVec 32) : Fin 2 → Nat :=
  let c0_i32_1908 : BitVec 32 := 0#32
  ![v3490.toNat, 0]

def k0_off227 (v3490 : BitVec 32) : Fin 2 → Nat :=
  let c0_i32_1918 : BitVec 32 := 0#32
  ![v3490.toNat, 0]

def k0_chk113 (v3490 : BitVec 32) : Prop :=
  (∀ a, (k0_off226 v3490) a + S1x64.size a ≤ S1000000x64.size a) ∧
  (∀ a, (k0_off227 v3490) a + S1x16.size a ≤ S1000000x16.size a)
theorem k0_off226_inb : ∀ (v3490 : BitVec 32) (k0_hw113 : k0_chk113 v3490), ∀ a, (k0_off226 v3490) a + S1x64.size a ≤ S1000000x64.size a := fun v3490 k0_hw113 => k0_hw113.1
theorem k0_off227_inb : ∀ (v3490 : BitVec 32) (k0_hw113 : k0_chk113 v3490), ∀ a, (k0_off227 v3490) a + S1x16.size a ≤ S1000000x16.size a := fun v3490 k0_hw113 => k0_hw113.2

def k0_off228 (v3521 : BitVec 32) : Fin 2 → Nat :=
  let c0_i32_1925 : BitVec 32 := 0#32
  ![v3521.toNat, 0]

def k0_off229 (v3521 : BitVec 32) : Fin 2 → Nat :=
  let c0_i32_1935 : BitVec 32 := 0#32
  ![v3521.toNat, 0]

def k0_chk114 (v3521 : BitVec 32) : Prop :=
  (∀ a, (k0_off228 v3521) a + S1x64.size a ≤ S1000000x64.size a) ∧
  (∀ a, (k0_off229 v3521) a + S1x16.size a ≤ S1000000x16.size a)
theorem k0_off228_inb : ∀ (v3521 : BitVec 32) (k0_hw114 : k0_chk114 v3521), ∀ a, (k0_off228 v3521) a + S1x64.size a ≤ S1000000x64.size a := fun v3521 k0_hw114 => k0_hw114.1
theorem k0_off229_inb : ∀ (v3521 : BitVec 32) (k0_hw114 : k0_chk114 v3521), ∀ a, (k0_off229 v3521) a + S1x16.size a ≤ S1000000x16.size a := fun v3521 k0_hw114 => k0_hw114.2

def k0_off230 (v3552 : BitVec 32) : Fin 2 → Nat :=
  let c0_i32_1942 : BitVec 32 := 0#32
  ![v3552.toNat, 0]

def k0_off231 (v3552 : BitVec 32) : Fin 2 → Nat :=
  let c0_i32_1952 : BitVec 32 := 0#32
  ![v3552.toNat, 0]

def k0_chk115 (v3552 : BitVec 32) : Prop :=
  (∀ a, (k0_off230 v3552) a + S1x64.size a ≤ S1000000x64.size a) ∧
  (∀ a, (k0_off231 v3552) a + S1x16.size a ≤ S1000000x16.size a)
theorem k0_off230_inb : ∀ (v3552 : BitVec 32) (k0_hw115 : k0_chk115 v3552), ∀ a, (k0_off230 v3552) a + S1x64.size a ≤ S1000000x64.size a := fun v3552 k0_hw115 => k0_hw115.1
theorem k0_off231_inb : ∀ (v3552 : BitVec 32) (k0_hw115 : k0_chk115 v3552), ∀ a, (k0_off231 v3552) a + S1x16.size a ≤ S1000000x16.size a := fun v3552 k0_hw115 => k0_hw115.2

def k0_off232 (v3583 : BitVec 32) : Fin 2 → Nat :=
  let c0_i32_1959 : BitVec 32 := 0#32
  ![v3583.toNat, 0]

def k0_off233 (v3583 : BitVec 32) : Fin 2 → Nat :=
  let c0_i32_1969 : BitVec 32 := 0#32
  ![v3583.toNat, 0]

def k0_chk116 (v3583 : BitVec 32) : Prop :=
  (∀ a, (k0_off232 v3583) a + S1x64.size a ≤ S1000000x64.size a) ∧
  (∀ a, (k0_off233 v3583) a + S1x16.size a ≤ S1000000x16.size a)
theorem k0_off232_inb : ∀ (v3583 : BitVec 32) (k0_hw116 : k0_chk116 v3583), ∀ a, (k0_off232 v3583) a + S1x64.size a ≤ S1000000x64.size a := fun v3583 k0_hw116 => k0_hw116.1
theorem k0_off233_inb : ∀ (v3583 : BitVec 32) (k0_hw116 : k0_chk116 v3583), ∀ a, (k0_off233 v3583) a + S1x16.size a ≤ S1000000x16.size a := fun v3583 k0_hw116 => k0_hw116.2

def k0_off234 (v3614 : BitVec 32) : Fin 2 → Nat :=
  let c0_i32_1976 : BitVec 32 := 0#32
  ![v3614.toNat, 0]

def k0_off235 (v3614 : BitVec 32) : Fin 2 → Nat :=
  let c0_i32_1986 : BitVec 32 := 0#32
  ![v3614.toNat, 0]

def k0_chk117 (v3614 : BitVec 32) : Prop :=
  (∀ a, (k0_off234 v3614) a + S1x64.size a ≤ S1000000x64.size a) ∧
  (∀ a, (k0_off235 v3614) a + S1x16.size a ≤ S1000000x16.size a)
theorem k0_off234_inb : ∀ (v3614 : BitVec 32) (k0_hw117 : k0_chk117 v3614), ∀ a, (k0_off234 v3614) a + S1x64.size a ≤ S1000000x64.size a := fun v3614 k0_hw117 => k0_hw117.1
theorem k0_off235_inb : ∀ (v3614 : BitVec 32) (k0_hw117 : k0_chk117 v3614), ∀ a, (k0_off235 v3614) a + S1x16.size a ≤ S1000000x16.size a := fun v3614 k0_hw117 => k0_hw117.2

def k0_off236 (v3645 : BitVec 32) : Fin 2 → Nat :=
  let c0_i32_1993 : BitVec 32 := 0#32
  ![v3645.toNat, 0]

def k0_off237 (v3645 : BitVec 32) : Fin 2 → Nat :=
  let c0_i32_2003 : BitVec 32 := 0#32
  ![v3645.toNat, 0]

def k0_chk118 (v3645 : BitVec 32) : Prop :=
  (∀ a, (k0_off236 v3645) a + S1x64.size a ≤ S1000000x64.size a) ∧
  (∀ a, (k0_off237 v3645) a + S1x16.size a ≤ S1000000x16.size a)
theorem k0_off236_inb : ∀ (v3645 : BitVec 32) (k0_hw118 : k0_chk118 v3645), ∀ a, (k0_off236 v3645) a + S1x64.size a ≤ S1000000x64.size a := fun v3645 k0_hw118 => k0_hw118.1
theorem k0_off237_inb : ∀ (v3645 : BitVec 32) (k0_hw118 : k0_chk118 v3645), ∀ a, (k0_off237 v3645) a + S1x16.size a ≤ S1000000x16.size a := fun v3645 k0_hw118 => k0_hw118.2

def k0_off238 (v3676 : BitVec 32) : Fin 2 → Nat :=
  let c0_i32_2010 : BitVec 32 := 0#32
  ![v3676.toNat, 0]

def k0_off239 (v3676 : BitVec 32) : Fin 2 → Nat :=
  let c0_i32_2020 : BitVec 32 := 0#32
  ![v3676.toNat, 0]

def k0_chk119 (v3676 : BitVec 32) : Prop :=
  (∀ a, (k0_off238 v3676) a + S1x64.size a ≤ S1000000x64.size a) ∧
  (∀ a, (k0_off239 v3676) a + S1x16.size a ≤ S1000000x16.size a)
theorem k0_off238_inb : ∀ (v3676 : BitVec 32) (k0_hw119 : k0_chk119 v3676), ∀ a, (k0_off238 v3676) a + S1x64.size a ≤ S1000000x64.size a := fun v3676 k0_hw119 => k0_hw119.1
theorem k0_off239_inb : ∀ (v3676 : BitVec 32) (k0_hw119 : k0_chk119 v3676), ∀ a, (k0_off239 v3676) a + S1x16.size a ≤ S1000000x16.size a := fun v3676 k0_hw119 => k0_hw119.2

def k0_off240 (v3707 : BitVec 32) : Fin 2 → Nat :=
  let c0_i32_2027 : BitVec 32 := 0#32
  ![v3707.toNat, 0]

def k0_off241 (v3707 : BitVec 32) : Fin 2 → Nat :=
  let c0_i32_2037 : BitVec 32 := 0#32
  ![v3707.toNat, 0]

def k0_chk120 (v3707 : BitVec 32) : Prop :=
  (∀ a, (k0_off240 v3707) a + S1x64.size a ≤ S1000000x64.size a) ∧
  (∀ a, (k0_off241 v3707) a + S1x16.size a ≤ S1000000x16.size a)
theorem k0_off240_inb : ∀ (v3707 : BitVec 32) (k0_hw120 : k0_chk120 v3707), ∀ a, (k0_off240 v3707) a + S1x64.size a ≤ S1000000x64.size a := fun v3707 k0_hw120 => k0_hw120.1
theorem k0_off241_inb : ∀ (v3707 : BitVec 32) (k0_hw120 : k0_chk120 v3707), ∀ a, (k0_off241 v3707) a + S1x16.size a ≤ S1000000x16.size a := fun v3707 k0_hw120 => k0_hw120.2

def k0_off242 (v3738 : BitVec 32) : Fin 2 → Nat :=
  let c0_i32_2044 : BitVec 32 := 0#32
  ![v3738.toNat, 0]

def k0_off243 (v3738 : BitVec 32) : Fin 2 → Nat :=
  let c0_i32_2054 : BitVec 32 := 0#32
  ![v3738.toNat, 0]

def k0_chk121 (v3738 : BitVec 32) : Prop :=
  (∀ a, (k0_off242 v3738) a + S1x64.size a ≤ S1000000x64.size a) ∧
  (∀ a, (k0_off243 v3738) a + S1x16.size a ≤ S1000000x16.size a)
theorem k0_off242_inb : ∀ (v3738 : BitVec 32) (k0_hw121 : k0_chk121 v3738), ∀ a, (k0_off242 v3738) a + S1x64.size a ≤ S1000000x64.size a := fun v3738 k0_hw121 => k0_hw121.1
theorem k0_off243_inb : ∀ (v3738 : BitVec 32) (k0_hw121 : k0_chk121 v3738), ∀ a, (k0_off243 v3738) a + S1x16.size a ≤ S1000000x16.size a := fun v3738 k0_hw121 => k0_hw121.2

def k0_off244 (v3769 : BitVec 32) : Fin 2 → Nat :=
  let c0_i32_2061 : BitVec 32 := 0#32
  ![v3769.toNat, 0]

def k0_off245 (v3769 : BitVec 32) : Fin 2 → Nat :=
  let c0_i32_2071 : BitVec 32 := 0#32
  ![v3769.toNat, 0]

def k0_chk122 (v3769 : BitVec 32) : Prop :=
  (∀ a, (k0_off244 v3769) a + S1x64.size a ≤ S1000000x64.size a) ∧
  (∀ a, (k0_off245 v3769) a + S1x16.size a ≤ S1000000x16.size a)
theorem k0_off244_inb : ∀ (v3769 : BitVec 32) (k0_hw122 : k0_chk122 v3769), ∀ a, (k0_off244 v3769) a + S1x64.size a ≤ S1000000x64.size a := fun v3769 k0_hw122 => k0_hw122.1
theorem k0_off245_inb : ∀ (v3769 : BitVec 32) (k0_hw122 : k0_chk122 v3769), ∀ a, (k0_off245 v3769) a + S1x16.size a ≤ S1000000x16.size a := fun v3769 k0_hw122 => k0_hw122.2

def k0_off246 (v3800 : BitVec 32) : Fin 2 → Nat :=
  let c0_i32_2078 : BitVec 32 := 0#32
  ![v3800.toNat, 0]

def k0_off247 (v3800 : BitVec 32) : Fin 2 → Nat :=
  let c0_i32_2088 : BitVec 32 := 0#32
  ![v3800.toNat, 0]

def k0_chk123 (v3800 : BitVec 32) : Prop :=
  (∀ a, (k0_off246 v3800) a + S1x64.size a ≤ S1000000x64.size a) ∧
  (∀ a, (k0_off247 v3800) a + S1x16.size a ≤ S1000000x16.size a)
theorem k0_off246_inb : ∀ (v3800 : BitVec 32) (k0_hw123 : k0_chk123 v3800), ∀ a, (k0_off246 v3800) a + S1x64.size a ≤ S1000000x64.size a := fun v3800 k0_hw123 => k0_hw123.1
theorem k0_off247_inb : ∀ (v3800 : BitVec 32) (k0_hw123 : k0_chk123 v3800), ∀ a, (k0_off247 v3800) a + S1x16.size a ≤ S1000000x16.size a := fun v3800 k0_hw123 => k0_hw123.2

def k0_off248 (v3831 : BitVec 32) : Fin 2 → Nat :=
  let c0_i32_2095 : BitVec 32 := 0#32
  ![v3831.toNat, 0]

def k0_off249 (v3831 : BitVec 32) : Fin 2 → Nat :=
  let c0_i32_2105 : BitVec 32 := 0#32
  ![v3831.toNat, 0]

def k0_chk124 (v3831 : BitVec 32) : Prop :=
  (∀ a, (k0_off248 v3831) a + S1x64.size a ≤ S1000000x64.size a) ∧
  (∀ a, (k0_off249 v3831) a + S1x16.size a ≤ S1000000x16.size a)
theorem k0_off248_inb : ∀ (v3831 : BitVec 32) (k0_hw124 : k0_chk124 v3831), ∀ a, (k0_off248 v3831) a + S1x64.size a ≤ S1000000x64.size a := fun v3831 k0_hw124 => k0_hw124.1
theorem k0_off249_inb : ∀ (v3831 : BitVec 32) (k0_hw124 : k0_chk124 v3831), ∀ a, (k0_off249 v3831) a + S1x16.size a ≤ S1000000x16.size a := fun v3831 k0_hw124 => k0_hw124.2

def k0_off250 (v3862 : BitVec 32) : Fin 2 → Nat :=
  let c0_i32_2112 : BitVec 32 := 0#32
  ![v3862.toNat, 0]

def k0_off251 (v3862 : BitVec 32) : Fin 2 → Nat :=
  let c0_i32_2122 : BitVec 32 := 0#32
  ![v3862.toNat, 0]

def k0_chk125 (v3862 : BitVec 32) : Prop :=
  (∀ a, (k0_off250 v3862) a + S1x64.size a ≤ S1000000x64.size a) ∧
  (∀ a, (k0_off251 v3862) a + S1x16.size a ≤ S1000000x16.size a)
theorem k0_off250_inb : ∀ (v3862 : BitVec 32) (k0_hw125 : k0_chk125 v3862), ∀ a, (k0_off250 v3862) a + S1x64.size a ≤ S1000000x64.size a := fun v3862 k0_hw125 => k0_hw125.1
theorem k0_off251_inb : ∀ (v3862 : BitVec 32) (k0_hw125 : k0_chk125 v3862), ∀ a, (k0_off251 v3862) a + S1x16.size a ≤ S1000000x16.size a := fun v3862 k0_hw125 => k0_hw125.2

def k0_off252 (v3893 : BitVec 32) : Fin 2 → Nat :=
  let c0_i32_2129 : BitVec 32 := 0#32
  ![v3893.toNat, 0]

def k0_off253 (v3893 : BitVec 32) : Fin 2 → Nat :=
  let c0_i32_2139 : BitVec 32 := 0#32
  ![v3893.toNat, 0]

def k0_chk126 (v3893 : BitVec 32) : Prop :=
  (∀ a, (k0_off252 v3893) a + S1x64.size a ≤ S1000000x64.size a) ∧
  (∀ a, (k0_off253 v3893) a + S1x16.size a ≤ S1000000x16.size a)
theorem k0_off252_inb : ∀ (v3893 : BitVec 32) (k0_hw126 : k0_chk126 v3893), ∀ a, (k0_off252 v3893) a + S1x64.size a ≤ S1000000x64.size a := fun v3893 k0_hw126 => k0_hw126.1
theorem k0_off253_inb : ∀ (v3893 : BitVec 32) (k0_hw126 : k0_chk126 v3893), ∀ a, (k0_off253 v3893) a + S1x16.size a ≤ S1000000x16.size a := fun v3893 k0_hw126 => k0_hw126.2

def k0_off254 (v3924 : BitVec 32) : Fin 2 → Nat :=
  let c0_i32_2146 : BitVec 32 := 0#32
  ![v3924.toNat, 0]

def k0_off255 (v3924 : BitVec 32) : Fin 2 → Nat :=
  let c0_i32_2156 : BitVec 32 := 0#32
  ![v3924.toNat, 0]

def k0_chk127 (v3924 : BitVec 32) : Prop :=
  (∀ a, (k0_off254 v3924) a + S1x64.size a ≤ S1000000x64.size a) ∧
  (∀ a, (k0_off255 v3924) a + S1x16.size a ≤ S1000000x16.size a)
theorem k0_off254_inb : ∀ (v3924 : BitVec 32) (k0_hw127 : k0_chk127 v3924), ∀ a, (k0_off254 v3924) a + S1x64.size a ≤ S1000000x64.size a := fun v3924 k0_hw127 => k0_hw127.1
theorem k0_off255_inb : ∀ (v3924 : BitVec 32) (k0_hw127 : k0_chk127 v3924), ∀ a, (k0_off255 v3924) a + S1x16.size a ≤ S1000000x16.size a := fun v3924 k0_hw127 => k0_hw127.2

def k0_off256 (v3955 : BitVec 32) : Fin 2 → Nat :=
  let c0_i32_2163 : BitVec 32 := 0#32
  ![v3955.toNat, 0]

def k0_off257 (v3955 : BitVec 32) : Fin 2 → Nat :=
  let c0_i32_2173 : BitVec 32 := 0#32
  ![v3955.toNat, 0]

def k0_chk128 (v3955 : BitVec 32) : Prop :=
  (∀ a, (k0_off256 v3955) a + S1x64.size a ≤ S1000000x64.size a) ∧
  (∀ a, (k0_off257 v3955) a + S1x16.size a ≤ S1000000x16.size a)
theorem k0_off256_inb : ∀ (v3955 : BitVec 32) (k0_hw128 : k0_chk128 v3955), ∀ a, (k0_off256 v3955) a + S1x64.size a ≤ S1000000x64.size a := fun v3955 k0_hw128 => k0_hw128.1
theorem k0_off257_inb : ∀ (v3955 : BitVec 32) (k0_hw128 : k0_chk128 v3955), ∀ a, (k0_off257 v3955) a + S1x16.size a ≤ S1000000x16.size a := fun v3955 k0_hw128 => k0_hw128.2

@[reducible] def k0_t1_loop : Scf.Loop 32 :=
  let c0_i32_2176 : BitVec 32 := 0#32
  let c128_i32_2177 : BitVec 32 := 128#32
  let v3980 : BitVec 32 := Scalar.addi c0_i32_2176 c128_i32_2177
  let c1_i32_2178 : BitVec 32 := 1#32
  ⟨c0_i32_2176, v3980, c1_i32_2178⟩
def k0_off258 (k0_t1 : Fin k0_t1_loop.trips) : Fin 2 → Nat :=
  let c0_i32_2189 : BitVec 32 := 0#32
  let c0_i32_2176 : BitVec 32 := 0#32
  let c1_i32_2178 : BitVec 32 := 1#32
  let arg16 : BitVec 32 := Scf.iv c0_i32_2176 c1_i32_2178 k0_t1
  let c1_i32_2188 : BitVec 32 := 1#32
  let v3983 : BitVec 32 := Scalar.muli arg16 c1_i32_2188
  let v3984 : BitVec 32 := Scalar.addi c0_i32_2189 v3983
  let c0_i32_2191 : BitVec 32 := 0#32
  ![v3984.toNat, 0]
@[reducible] def k0_t2_loop : Scf.Loop 32 :=
  let c0_i32_2180 : BitVec 32 := 0#32
  let c128_i32_2181 : BitVec 32 := 128#32
  let v3981 : BitVec 32 := Scalar.addi c0_i32_2180 c128_i32_2181
  let c1_i32_2182 : BitVec 32 := 1#32
  ⟨c0_i32_2180, v3981, c1_i32_2182⟩
def k0_off259 (k0_t2 : Fin k0_t2_loop.trips) : Fin 2 → Nat :=
  let c0_i32_2189 : BitVec 32 := 0#32
  let c0_i32_2180 : BitVec 32 := 0#32
  let c1_i32_2182 : BitVec 32 := 1#32
  let arg16 : BitVec 32 := Scf.iv c0_i32_2180 c1_i32_2182 k0_t2
  let c1_i32_2188 : BitVec 32 := 1#32
  let v3983 : BitVec 32 := Scalar.muli arg16 c1_i32_2188
  let v3984 : BitVec 32 := Scalar.addi c0_i32_2189 v3983
  let c0_i32_2191 : BitVec 32 := 0#32
  ![v3984.toNat, 0]
@[reducible] def k0_t3_loop : Scf.Loop 32 :=
  let c0_i32_2184 : BitVec 32 := 0#32
  let c128_i32_2185 : BitVec 32 := 128#32
  let v3982 : BitVec 32 := Scalar.addi c0_i32_2184 c128_i32_2185
  let c1_i32_2186 : BitVec 32 := 1#32
  ⟨c0_i32_2184, v3982, c1_i32_2186⟩
def k0_off260 (k0_t3 : Fin k0_t3_loop.trips) : Fin 2 → Nat :=
  let c0_i32_2189 : BitVec 32 := 0#32
  let c0_i32_2184 : BitVec 32 := 0#32
  let c1_i32_2186 : BitVec 32 := 1#32
  let arg16 : BitVec 32 := Scf.iv c0_i32_2184 c1_i32_2186 k0_t3
  let c1_i32_2188 : BitVec 32 := 1#32
  let v3983 : BitVec 32 := Scalar.muli arg16 c1_i32_2188
  let v3984 : BitVec 32 := Scalar.addi c0_i32_2189 v3983
  let c0_i32_2191 : BitVec 32 := 0#32
  ![v3984.toNat, 0]
def k0_off261 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2188_r1 : BitVec 32 := 0#32
  ![v2.toNat, 0]
def k0_off262 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2188_r3 : BitVec 32 := 0#32
  ![v2.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]

def k1_chk1 (v42 : IVec S16 32) (v44 : IVec S16 32) : Prop :=
  (∀ a x, ((![v44, v42] : Fin 2 → IVec S16 32) a x).toNat < S128x16.size a) ∧
  (∀ a x, ((![v44, v42] : Fin 2 → IVec S16 32) a x).toNat < S128x16.size a)
theorem k1_idx1_inb : ∀ (v42 : IVec S16 32) (v44 : IVec S16 32) (k1_hw1 : k1_chk1 v42 v44), ∀ a x, ((![v44, v42] : Fin 2 → IVec S16 32) a x).toNat < S128x16.size a := fun v42 v44 k1_hw1 => k1_hw1.1
theorem k1_idx2_inb : ∀ (v42 : IVec S16 32) (v44 : IVec S16 32) (k1_hw1 : k1_chk1 v42 v44), ∀ a x, ((![v44, v42] : Fin 2 → IVec S16 32) a x).toNat < S128x16.size a := fun v42 v44 k1_hw1 => k1_hw1.2

def k1_chk2 (v51 : IVec S16 32) (v53 : IVec S16 32) : Prop :=
  (∀ a x, ((![v53, v51] : Fin 2 → IVec S16 32) a x).toNat < S128x16.size a) ∧
  (∀ a x, ((![v53, v51] : Fin 2 → IVec S16 32) a x).toNat < S128x16.size a)
theorem k1_idx3_inb : ∀ (v51 : IVec S16 32) (v53 : IVec S16 32) (k1_hw2 : k1_chk2 v51 v53), ∀ a x, ((![v53, v51] : Fin 2 → IVec S16 32) a x).toNat < S128x16.size a := fun v51 v53 k1_hw2 => k1_hw2.1
theorem k1_idx4_inb : ∀ (v51 : IVec S16 32) (v53 : IVec S16 32) (k1_hw2 : k1_chk2 v51 v53), ∀ a x, ((![v53, v51] : Fin 2 → IVec S16 32) a x).toNat < S128x16.size a := fun v51 v53 k1_hw2 => k1_hw2.2

def k1_chk3 (v60 : IVec S16 32) (v62 : IVec S16 32) : Prop :=
  (∀ a x, ((![v62, v60] : Fin 2 → IVec S16 32) a x).toNat < S128x16.size a) ∧
  (∀ a x, ((![v62, v60] : Fin 2 → IVec S16 32) a x).toNat < S128x16.size a)
theorem k1_idx5_inb : ∀ (v60 : IVec S16 32) (v62 : IVec S16 32) (k1_hw3 : k1_chk3 v60 v62), ∀ a x, ((![v62, v60] : Fin 2 → IVec S16 32) a x).toNat < S128x16.size a := fun v60 v62 k1_hw3 => k1_hw3.1
theorem k1_idx6_inb : ∀ (v60 : IVec S16 32) (v62 : IVec S16 32) (k1_hw3 : k1_chk3 v60 v62), ∀ a x, ((![v62, v60] : Fin 2 → IVec S16 32) a x).toNat < S128x16.size a := fun v60 v62 k1_hw3 => k1_hw3.2

def k1_chk4 (v69 : IVec S16 32) (v71 : IVec S16 32) : Prop :=
  (∀ a x, ((![v71, v69] : Fin 2 → IVec S16 32) a x).toNat < S128x16.size a) ∧
  (∀ a x, ((![v71, v69] : Fin 2 → IVec S16 32) a x).toNat < S128x16.size a)
theorem k1_idx7_inb : ∀ (v69 : IVec S16 32) (v71 : IVec S16 32) (k1_hw4 : k1_chk4 v69 v71), ∀ a x, ((![v71, v69] : Fin 2 → IVec S16 32) a x).toNat < S128x16.size a := fun v69 v71 k1_hw4 => k1_hw4.1
theorem k1_idx8_inb : ∀ (v69 : IVec S16 32) (v71 : IVec S16 32) (k1_hw4 : k1_chk4 v69 v71), ∀ a x, ((![v71, v69] : Fin 2 → IVec S16 32) a x).toNat < S128x16.size a := fun v69 v71 k1_hw4 => k1_hw4.2

def k1_chk5 (v78 : IVec S16 32) (v80 : IVec S16 32) : Prop :=
  (∀ a x, ((![v80, v78] : Fin 2 → IVec S16 32) a x).toNat < S128x16.size a) ∧
  (∀ a x, ((![v80, v78] : Fin 2 → IVec S16 32) a x).toNat < S128x16.size a)
theorem k1_idx9_inb : ∀ (v78 : IVec S16 32) (v80 : IVec S16 32) (k1_hw5 : k1_chk5 v78 v80), ∀ a x, ((![v80, v78] : Fin 2 → IVec S16 32) a x).toNat < S128x16.size a := fun v78 v80 k1_hw5 => k1_hw5.1
theorem k1_idx10_inb : ∀ (v78 : IVec S16 32) (v80 : IVec S16 32) (k1_hw5 : k1_chk5 v78 v80), ∀ a x, ((![v80, v78] : Fin 2 → IVec S16 32) a x).toNat < S128x16.size a := fun v78 v80 k1_hw5 => k1_hw5.2

def k1_chk6 (v87 : IVec S16 32) (v89 : IVec S16 32) : Prop :=
  (∀ a x, ((![v89, v87] : Fin 2 → IVec S16 32) a x).toNat < S128x16.size a) ∧
  (∀ a x, ((![v89, v87] : Fin 2 → IVec S16 32) a x).toNat < S128x16.size a)
theorem k1_idx11_inb : ∀ (v87 : IVec S16 32) (v89 : IVec S16 32) (k1_hw6 : k1_chk6 v87 v89), ∀ a x, ((![v89, v87] : Fin 2 → IVec S16 32) a x).toNat < S128x16.size a := fun v87 v89 k1_hw6 => k1_hw6.1
theorem k1_idx12_inb : ∀ (v87 : IVec S16 32) (v89 : IVec S16 32) (k1_hw6 : k1_chk6 v87 v89), ∀ a x, ((![v89, v87] : Fin 2 → IVec S16 32) a x).toNat < S128x16.size a := fun v87 v89 k1_hw6 => k1_hw6.2

def k1_chk7 (v96 : IVec S16 32) (v98 : IVec S16 32) : Prop :=
  (∀ a x, ((![v98, v96] : Fin 2 → IVec S16 32) a x).toNat < S128x16.size a) ∧
  (∀ a x, ((![v98, v96] : Fin 2 → IVec S16 32) a x).toNat < S128x16.size a)
theorem k1_idx13_inb : ∀ (v96 : IVec S16 32) (v98 : IVec S16 32) (k1_hw7 : k1_chk7 v96 v98), ∀ a x, ((![v98, v96] : Fin 2 → IVec S16 32) a x).toNat < S128x16.size a := fun v96 v98 k1_hw7 => k1_hw7.1
theorem k1_idx14_inb : ∀ (v96 : IVec S16 32) (v98 : IVec S16 32) (k1_hw7 : k1_chk7 v96 v98), ∀ a x, ((![v98, v96] : Fin 2 → IVec S16 32) a x).toNat < S128x16.size a := fun v96 v98 k1_hw7 => k1_hw7.2

def k1_chk8 (v105 : IVec S16 32) (v107 : IVec S16 32) : Prop :=
  (∀ a x, ((![v107, v105] : Fin 2 → IVec S16 32) a x).toNat < S128x16.size a) ∧
  (∀ a x, ((![v107, v105] : Fin 2 → IVec S16 32) a x).toNat < S128x16.size a)
theorem k1_idx15_inb : ∀ (v105 : IVec S16 32) (v107 : IVec S16 32) (k1_hw8 : k1_chk8 v105 v107), ∀ a x, ((![v107, v105] : Fin 2 → IVec S16 32) a x).toNat < S128x16.size a := fun v105 v107 k1_hw8 => k1_hw8.1
theorem k1_idx16_inb : ∀ (v105 : IVec S16 32) (v107 : IVec S16 32) (k1_hw8 : k1_chk8 v105 v107), ∀ a x, ((![v107, v105] : Fin 2 → IVec S16 32) a x).toNat < S128x16.size a := fun v105 v107 k1_hw8 => k1_hw8.2
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1000000x64 : Shape := ⟨2, ![1000000, 64]⟩
abbrev S1000000x16 : Shape := ⟨2, ![1000000, 16]⟩
abbrev S1000000x1 : Shape := ⟨2, ![1000000, 1]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x64 : Shape := ⟨2, ![4096, 64]⟩
abbrev S4096x16 : Shape := ⟨2, ![4096, 16]⟩

abbrev nBuf : Space → Nat
  | .hbm => 121
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x16, .f32⟩
  | .hbm, ⟨3, _⟩ => ⟨S1000000x1, .f32⟩
  | .hbm, ⟨4, _⟩ => ⟨S1000000x1, .i32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x64, .f32⟩
  | .hbm, ⟨25, _⟩ => ⟨S4096x64, .i1⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S1, .i32⟩
  | .hbm, ⟨38, _⟩ => ⟨S_, .i32⟩
  | .hbm, ⟨39, _⟩ => ⟨S4096x1, .i32⟩
  | .hbm, ⟨40, _⟩ => ⟨S4096x1, .i1⟩
  | .hbm, ⟨41, _⟩ => ⟨S1x1, .i32⟩
  | .hbm, ⟨42, _⟩ => ⟨S4096x1, .i32⟩
  | .hbm, ⟨43, _⟩ => ⟨S4096x1, .i1⟩
  | .hbm, ⟨44, _⟩ => ⟨S4096x1, .i1⟩
  | .hbm, ⟨45, _⟩ => ⟨S_, .i1⟩
  | .hbm, ⟨46, _⟩ => ⟨S4096, .i1⟩
  | .hbm, ⟨47, _⟩ => ⟨S4096x64, .f32⟩
  | .hbm, ⟨48, _⟩ => ⟨S4096x64, .i1⟩
  | .hbm, ⟨49, _⟩ => ⟨S_, .f32⟩
  | .hbm, ⟨50, _⟩ => ⟨S4096x64, .f32⟩
  | .hbm, ⟨51, _⟩ => ⟨S4096x64, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S1, .i32⟩
  | .hbm, ⟨61, _⟩ => ⟨S_, .i32⟩
  | .hbm, ⟨62, _⟩ => ⟨S4096x1, .i32⟩
  | .hbm, ⟨63, _⟩ => ⟨S4096x1, .i1⟩
  | .hbm, ⟨64, _⟩ => ⟨S1x1, .i32⟩
  | .hbm, ⟨65, _⟩ => ⟨S4096x1, .i32⟩
  | .hbm, ⟨66, _⟩ => ⟨S4096x1, .i1⟩
  | .hbm, ⟨67, _⟩ => ⟨S4096x1, .i1⟩
  | .hbm, ⟨68, _⟩ => ⟨S_, .i1⟩
  | .hbm, ⟨69, _⟩ => ⟨S4096, .i1⟩
  | .hbm, ⟨70, _⟩ => ⟨S4096x16, .f32⟩
  | .hbm, ⟨71, _⟩ => ⟨S4096x16, .i1⟩
  | .hbm, ⟨72, _⟩ => ⟨S_, .f32⟩
  | .hbm, ⟨73, _⟩ => ⟨S4096x16, .f32⟩
  | .hbm, ⟨74, _⟩ => ⟨S4096x16, .f32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .i32⟩
  | .hbm, ⟨82, _⟩ => ⟨S4096x1, .i32⟩
  | .hbm, ⟨83, _⟩ => ⟨S1, .i32⟩
  | .hbm, ⟨84, _⟩ => ⟨S_, .i32⟩
  | .hbm, ⟨85, _⟩ => ⟨S4096x1, .i32⟩
  | .hbm, ⟨86, _⟩ => ⟨S4096x1, .i1⟩
  | .hbm, ⟨87, _⟩ => ⟨S1x1, .i32⟩
  | .hbm, ⟨88, _⟩ => ⟨S4096x1, .i32⟩
  | .hbm, ⟨89, _⟩ => ⟨S4096x1, .i1⟩
  | .hbm, ⟨90, _⟩ => ⟨S4096x1, .i1⟩
  | .hbm, ⟨91, _⟩ => ⟨S_, .i1⟩
  | .hbm, ⟨92, _⟩ => ⟨S4096, .i1⟩
  | .hbm, ⟨93, _⟩ => ⟨S4096x1, .f32⟩
  | .hbm, ⟨94, _⟩ => ⟨S4096x1, .i1⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .i32⟩
  | .hbm, ⟨99, _⟩ => ⟨S4096, .i32⟩
  | .hbm, ⟨100, _⟩ => ⟨S4096, .i1⟩
  | .hbm, ⟨101, _⟩ => ⟨S_, .i32⟩
  | .hbm, ⟨102, _⟩ => ⟨S4096, .i32⟩
  | .hbm, ⟨103, _⟩ => ⟨S4096, .i32⟩
  | .hbm, ⟨104, _⟩ => ⟨S4096, .i32⟩
  | .hbm, ⟨105, _⟩ => ⟨S4096x1, .i32⟩
  | .hbm, ⟨106, _⟩ => ⟨S1, .i32⟩
  | .hbm, ⟨107, _⟩ => ⟨S_, .i32⟩
  | .hbm, ⟨108, _⟩ => ⟨S4096x1, .i32⟩
  | .hbm, ⟨109, _⟩ => ⟨S4096x1, .i1⟩
  | .hbm, ⟨110, _⟩ => ⟨S1x1, .i32⟩
  | .hbm, ⟨111, _⟩ => ⟨S4096x1, .i32⟩
  | .hbm, ⟨112, _⟩ => ⟨S4096x1, .i1⟩
  | .hbm, ⟨113, _⟩ => ⟨S4096x1, .i1⟩
  | .hbm, ⟨114, _⟩ => ⟨S_, .i1⟩
  | .hbm, ⟨115, _⟩ => ⟨S4096, .i1⟩
  | .hbm, ⟨116, _⟩ => ⟨S4096x1, .i32⟩
  | .hbm, ⟨117, _⟩ => ⟨S4096x1, .i1⟩
  | .hbm, ⟨118, _⟩ => ⟨S_, .i32⟩
  | .hbm, ⟨119, _⟩ => ⟨S4096x1, .i32⟩
  | .hbm, ⟨120, _⟩ => ⟨S4096x1, .i32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v2 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_call3_cst : Ref sig .tc := ⟨.hbm, 95, rfl⟩
abbrev main_call3_v15 : Ref sig .tc := ⟨.hbm, 96, rfl⟩
abbrev main_v3 : Ref sig .tc := ⟨.hbm, 97, rfl⟩
abbrev main_call4_c : Ref sig .tc := ⟨.hbm, 98, rfl⟩
abbrev main_call4_v0 : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_c_1 : Ref sig .tc := ⟨.hbm, 106, rfl⟩
abbrev main_call4_c_2 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_3 : Ref sig .tc := ⟨.hbm, 114, rfl⟩
abbrev main_call4_v12 : Ref sig .tc := ⟨.hbm, 115, rfl⟩
abbrev main_call4_v13 : Ref sig .tc := ⟨.hbm, 116, rfl⟩
abbrev main_call4_v14 : Ref sig .tc := ⟨.hbm, 117, rfl⟩
abbrev main_call4_c_4 : Ref sig .tc := ⟨.hbm, 118, rfl⟩
abbrev main_call4_v15 : Ref sig .tc := ⟨.hbm, 119, rfl⟩
abbrev main_v4 : Ref sig .tc := ⟨.hbm, 120, rfl⟩

abbrev nD : Nat := 1
abbrev τ : Topo := Topo.v7x

variable {F : FTy → Type} [FloatOps F]
-- ==== Proof.Setup.lean ====
/-
  What the parts of the proof share: the program as the launch theorem sees it, the resource algebra (the launch
  handshakes' rounds and the copies' counters), row-and-column indices of a rank-two array, and the gathered arrays
  the two SparseCore calls are to produce.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the copies' counters -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## Indices of a rank-two array -/

/-- The index of row `r`, column `c`. -/
def rc {n w : ℕ} (r : Fin n) (c : Fin w) : (⟨2, ![n, w]⟩ : Shape).Idx := fun | 0 => r | 1 => c

/-- An index of a rank-two array is its row and its column. -/
theorem rc_eta {n w : ℕ} (i : (⟨2, ![n, w]⟩ : Shape).Idx) : rc (n := n) (w := w) (i 0) (i 1) = i := by
  funext a; match a with | 0 => rfl | 1 => rfl

/-- The index at place `r` of a rank-one array. -/
def ix1 {n : ℕ} (r : Fin n) : (⟨1, ![n]⟩ : Shape).Idx := fun | 0 => r

theorem ix1_eta {n : ℕ} (i : (⟨1, ![n]⟩ : Shape).Idx) : ix1 (n := n) (i 0) = i := by
  funext a; match a with | 0 => rfl

/-! ## The gathered arrays -/

/-- Rows of the table `t` at the row numbers in `ix`: row `r` of the result is row `ix[r]` of the table. -/
def gath {n b w : ℕ} [NeZero n] {α : Type} (t : (⟨2, ![n, w]⟩ : Shape).Idx → α) (ix : (⟨1, ![b]⟩ : Shape).Idx → BitVec 32) :
    (⟨2, ![b, w]⟩ : Shape).Idx → α :=
  fun i => t (rc (Fin.ofNat n (ix (ix1 (i 0))).toNat) (i 1))

end Cert.Proof
-- ==== Proof.Rows.lean ====
/-
  Copies of single rows: one row of a rank-two array, as the kernel addresses it (a slice of one row, squeezed to rank
  one), which elements that is, and what a copy of one such row into another leaves.
-/
module

public import proofs.«01_k».proof.Proof.Setup

@[expose] public section

noncomputable section

namespace Cert.Proof

open Idealize.ShloMosaic
open Idealize.SL Idealize.SL.RA Idealize.SL.BI
open scoped Idealize.SL.BI

variable {sig : RefSig} {κ : Kind} {sp : Space} {e : EltTy}

/-- One row of a rank-two array, squeezed to rank one. -/
abbrev rowM {n w : ℕ} (m : Memref sig κ sp ⟨2, ![n, w]⟩ e) (off : Fin 2 → ℕ)
    (inb : ∀ a, off a + (⟨2, ![1, w]⟩ : Shape).size a ≤ (⟨2, ![n, w]⟩ : Shape).size a)
    (hq : (⟨2, ![1, w]⟩ : Shape).Squeezes ⟨1, ![w]⟩) : Memref sig κ sp ⟨1, ![w]⟩ e :=
  (m.slice (Rect.unit (s := ⟨2, ![n, w]⟩) off (⟨2, ![1, w]⟩ : Shape).size inb) (fun _ => rfl)).squeeze ⟨1, ![w]⟩ hq

/-- The row's element at place `x`, as an index of the whole array. -/
theorem row_emb {n w : ℕ} (r : Fin n) (inb) (hq : (⟨2, ![1, w]⟩ : Shape).Squeezes ⟨1, ![w]⟩) (x : (⟨1, ![w]⟩ : Shape).Idx) :
    (Rect.unit (s := ⟨2, ![n, w]⟩) ![r.val, 0] (⟨2, ![1, w]⟩ : Shape).size inb).emb (Shape.reshapeEquiv hq.numel_eq x)
      = rc (n := n) (w := w) r (x 0) := by
  have hx : Shape.reshapeEquiv hq.numel_eq x = (rc (n := 1) (w := w) 0 (x 0)) := by
    refine Shape.reshapeEquiv_eq_of_rowMajor _ ?_
    refine (Shape.rowMajor_val_two _).trans (Eq.trans ?_ (Shape.rowMajor_val_one x).symm)
    show 0 * _ + (x 0).val = (x 0).val
    omega
  rw [hx]
  funext a
  match a with
  | 0 => exact Fin.ext (show r.val + 1 * 0 = r.val by omega)
  | 1 => exact Fin.ext (show 0 + 1 * (x 0).val = (x 0).val by omega)

/-- What the row reads: column `x` of that row. -/
theorem rowM_read {Val : EltTy → Type} {n w : ℕ} (m : Memref sig κ sp ⟨2, ![n, w]⟩ e) (r : Fin n)
    (off : Fin 2 → ℕ) (hoff : off = ![r.val, 0]) (inb) (hq) (f : m.view.ty.Contents Val) (x : (⟨1, ![w]⟩ : Shape).Idx) :
    (rowM m off inb hq).view.read Val f x = m.view.read Val f (rc r (x 0)) := by
  subst hoff
  show m.view.read Val f ((Rect.unit (s := ⟨2, ![n, w]⟩) ![r.val, 0] (⟨2, ![1, w]⟩ : Shape).size inb).emb
      (Shape.reshapeEquiv hq.numel_eq x)) = _
  rw [row_emb r inb hq]

/-- A write through a view of what some contents read there leaves those contents on the view's elements. -/
theorem write_of_read {Val : EltTy → Type} {s : Shape} (v : View sig κ sp s e) (f G : v.ty.Contents Val) (w : s.Idx → Val e)
    (h : ∀ x, v.read Val G x = w x) : ∀ i ∈ v.set, v.write Val f w Finset.univ i = G i := by
  intro i hi
  obtain ⟨x, -, rfl⟩ := Finset.mem_map.mp hi
  have := h x
  rw [View.write_emb, if_pos (Finset.mem_univ _), ← this]
  simp [View.read]

section Split

variable {nD : ℕ} {τ : Topo} {Ix Name U Lvl : Type} [DecidableEq Ix] [DecidableEq Name] [URA U] {Val : EltTy → Type}

local notation "𝕄'" => MT nD τ sig Ix Val Name U Lvl

/-- Holding all of an array through a memref is holding the pieces of it that a family of rectangles cuts, when the
    rectangles are pairwise disjoint and leave nothing out. -/
theorem pieces {c : Thread nD τ} {s : Shape} {sp : Space} {e : EltTy} {I : Type} [Fintype I] [DecidableEq I]
    (m : Memref sig c.2.kind sp s e) (r : I → Rect s)
    (hd : ∀ i j, i ≠ j → Disjoint (r i).set (r j).set) (hc : ∀ x : s.Idx, ∃ i, x ∈ (r i).set)
    (q : PosShare TreeShare) (f : Buf Val (m.view.loc c)) :
    (m.view.loc c ↦[m.view.set]{q} f : sProp 𝕄')
      = bigSep Finset.univ fun i => m.view.loc c ↦[(m.view.slice (r i)).set]{q} f := by
  have e : m.view.set = Finset.univ.biUnion fun i => (m.view.slice (r i)).set := by
    ext x
    simp only [Finset.mem_biUnion, Finset.mem_univ, true_and, View.set_slice]
    constructor
    · intro hx
      obtain ⟨y, -, rfl⟩ := Finset.mem_map.mp hx
      obtain ⟨i, hi⟩ := hc y
      exact ⟨i, Finset.mem_map_of_mem _ hi⟩
    · rintro ⟨i, hi⟩
      obtain ⟨y, -, rfl⟩ := Finset.mem_map.mp hi
      exact Finset.mem_map_of_mem _ (Finset.mem_univ _)
  refine Eq.trans ?_ (pointsTo_biUnion (ℓ := m.view.loc c) Finset.univ (fun i => (m.view.slice (r i)).set) ?_)
  · exact congrArg (fun S => (m.view.loc c ↦[S]{q} f : sProp 𝕄')) e
  · intro i _ j _ hij
    simp only [View.set_slice]
    exact (Finset.disjoint_map _).mpr (hd i j hij)

end Split

/-- Blocks of `b` rows of an array of `n` rows: block `i` holds the rows from `b * i`. -/
abbrev blockR {n w b : ℕ} (i : ℕ) (h : b * i + b ≤ n) : Rect (⟨2, ![n, w]⟩ : Shape) :=
  Rect.unit ![b * i, 0] (⟨2, ![b, w]⟩ : Shape).size (Fin.forall_fin_two.mpr ⟨h, by simp⟩)

theorem mem_blockR {n w b i : ℕ} (h : b * i + b ≤ n) (x : (⟨2, ![n, w]⟩ : Shape).Idx) :
    x ∈ (blockR (w := w) i h).set ↔ b * i ≤ (x 0).val ∧ (x 0).val < b * i + b := by
  rw [Rect.mem_set_unit, Fin.forall_fin_two]
  have h1 : (x 1).val < w := (x 1).isLt
  simp
  intro _ _
  omega

theorem blockR_disjoint {n w b i j : ℕ} (hi : b * i + b ≤ n) (hj : b * j + b ≤ n) (hij : i ≠ j) :
    Disjoint (blockR (w := w) i hi).set (blockR (w := w) j hj).set := by
  rw [Finset.disjoint_left]
  intro x hx hx'
  rw [mem_blockR] at hx hx'
  rcases Nat.lt_or_gt_of_ne hij with h | h
  · have := Nat.mul_le_mul_left b (Nat.succ_le_of_lt h); rw [Nat.mul_succ] at this; omega
  · have := Nat.mul_le_mul_left b (Nat.succ_le_of_lt h); rw [Nat.mul_succ] at this; omega

theorem blockR_cover {n w b k : ℕ} (hn : b * k = n) (hb : 0 < b) (x : (⟨2, ![n, w]⟩ : Shape).Idx) :
    ∃ i : Fin k, x ∈ (blockR (w := w) (b := b) i.val (by subst hn; have := Nat.mul_le_mul_left b i.isLt; rw [Nat.mul_succ] at this; exact this)).set := by
  have hx : (x 0).val < n := (x 0).isLt
  refine ⟨⟨(x 0).val / b, Nat.div_lt_of_lt_mul (by omega)⟩, ?_⟩
  rw [mem_blockR]
  have := Nat.div_add_mod (x 0).val b
  have := Nat.mod_lt (x 0).val hb
  constructor <;> show _ <;> simp only <;> omega

/-- The same for rank-one arrays. -/
abbrev blockR1 {n b : ℕ} (i : ℕ) (h : b * i + b ≤ n) : Rect (⟨1, ![n]⟩ : Shape) :=
  Rect.unit ![b * i] (⟨1, ![b]⟩ : Shape).size (Fin.forall_fin_one.mpr h)

theorem mem_blockR1 {n b i : ℕ} (h : b * i + b ≤ n) (x : (⟨1, ![n]⟩ : Shape).Idx) :
    x ∈ (blockR1 i h).set ↔ b * i ≤ (x 0).val ∧ (x 0).val < b * i + b := by
  rw [Rect.mem_set_unit, Fin.forall_fin_one]
  simp

theorem blockR1_disjoint {n b i j : ℕ} (hi : b * i + b ≤ n) (hj : b * j + b ≤ n) (hij : i ≠ j) :
    Disjoint (blockR1 i hi).set (blockR1 j hj).set := by
  rw [Finset.disjoint_left]
  intro x hx hx'
  rw [mem_blockR1] at hx hx'
  rcases Nat.lt_or_gt_of_ne hij with h | h
  · have := Nat.mul_le_mul_left b (Nat.succ_le_of_lt h); rw [Nat.mul_succ] at this; omega
  · have := Nat.mul_le_mul_left b (Nat.succ_le_of_lt h); rw [Nat.mul_succ] at this; omega

theorem blockR1_cover {n b k : ℕ} (hn : b * k = n) (hb : 0 < b) (x : (⟨1, ![n]⟩ : Shape).Idx) :
    ∃ i : Fin k, x ∈ (blockR1 (b := b) i.val (by subst hn; have := Nat.mul_le_mul_left b i.isLt; rw [Nat.mul_succ] at this; exact this)).set := by
  have hx : (x 0).val < n := (x 0).isLt
  refine ⟨⟨(x 0).val / b, Nat.div_lt_of_lt_mul (by omega)⟩, ?_⟩
  rw [mem_blockR1]
  have := Nat.div_add_mod (x 0).val b
  have := Nat.mod_lt (x 0).val hb
  constructor <;> show _ <;> simp only <;> omega

end Cert.Proof
-- ==== Proof.Copies.lean ====
/-
  Copies waited for at once, and the wait for a whole table's row copies. What a tile owes is carried with the waits
  it has made since its task began (`Owed`).
-/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

/-- What the thread owes, having waited since its task began (at `W`) on its own copies only. -/
def Owed (c : Thread nD τ) (O : CellTallies nD τ sig (HIx 2)) (W : Waits sig (HIx 2)) : sProp 𝕄 :=
  iprop(∃ W', ⌜∀ p ∈ W', p ∈ W ∨ p.2 = none⌝ ∗ owes c O W')

theorem owed_start {c : Thread nD τ} {O : CellTallies nD τ sig (HIx 2)} {W : Waits sig (HIx 2)} : (owes c O W : sProp 𝕄) ⊢ Owed c O W := by
  unfold Owed
  iintro H
  iexists W
  isplitr
  · ipureintro; exact fun p hp => Or.inl hp
  iexact H

theorem owed_elim {c : Thread nD τ} {O : CellTallies nD τ sig (HIx 2)} {W : Waits sig (HIx 2)} :
    (Owed c O W : sProp 𝕄) ⊢ iprop(∃ W', ⌜∀ p ∈ W', p ∈ W ∨ p.2 = none⌝ ∗ owes c O W') := by
  unfold Owed; exact .rfl

theorem owed_insert {c : Thread nD τ} {O : CellTallies nD τ sig (HIx 2)} {W W' : Waits sig (HIx 2)} {sm : SemLoc sig}
    (h : ∀ p ∈ W', p ∈ W ∨ p.2 = none) : (owes c O (insert (sm, none) W') : sProp 𝕄) ⊢ Owed c O W := by
  unfold Owed
  iintro H
  iexists insert (sm, none) W'
  isplitr
  · ipureintro
    intro p hp
    rcases Finset.mem_insert.1 hp with rfl | hp
    · exact Or.inr rfl
    · exact h p hp
  iexact H

/-- A copy within the chip, started and waited for at once: the destination holds what it is to hold (`G`), whose
    reading there is the source's. -/
theorem copy_wait {c : Thread nD τ} {α : Type} {Q : α → sProp 𝕄} {sp sp' : Space} {s : Shape} {e : EltTy}
    {src : Memref sig c.2.kind sp s e} {dst : Memref sig c.2.kind sp' s e} {sm : DmaSem sig} {hsrc hdst hsem hsrc' hdst'}
    {k : PUnit → Prog (TpuEff nD τ sig (Elt F) Λ₀ c.2) α} {q : PosShare TreeShare} {fs : Buf (Elt F) (src.view.loc c)}
    {fd G : Buf (Elt F) (dst.view.loc c)} {O : CellTallies nD τ sig (HIx 2)} {W : Waits sig (HIx 2)}
    (hN : 0 < dst.view.dmaCredit) (hG : ∀ x, dst.view.read (Elt F) G x = src.view.read (Elt F) fs x) :
    iprop((src.view.loc c ↦[src.view.set]{q} fs) ∗ (dst.view.loc c ↦[dst.view.set]{fullShare} fd) ∗ semVal (c, .dma sm) 0 ∗ Owed c O W ∗ MayWaits c none O)
      ⊢ iprop((((dst.view.loc c ↦[dst.view.set]{fullShare} G) ∗ (src.view.loc c ↦[src.view.set]{q} fs) ∗ semVal (c, .dma sm) 0 ∗ Owed c O W)
          -∗ wp frame (wpE (defs₀ (F := F)) 𝒱₀ c none) Set.univ (k ⟨⟩) Q)
        -∗ wp frame (wpE (defs₀ (F := F)) 𝒱₀ c none) Set.univ
          (.op (.enqueueDma src (.here dst) (.dma sm) hsrc hdst hsem) fun _ => .op (.waitDma2 sm src dst hsrc' hdst') k) Q) := by
  iintro ⟨Hs, Hd, Hv, HO, HM⟩ Hk
  ihave HO := owed_elim $$ HO
  icases HO with ⟨%W', %hW', HO⟩
  iapply (wp_dmaLocal countersEmb 𝒱₀ c none (none : HIx 2) (dst.view.dmaCredit) (src := src) (dst := dst) (fs := fs) (fd := fd) (q := q)
    (via := .same) (Sd := dst.view.set) rfl hN (Finset.Subset.refl _)) $$ [Hs Hd Hv]
  · isplitl [Hs]; · iexact Hs
    isplitl [Hd]; · iexact Hd
    iexact Hv
  iintro HF
  iapply (wp_waitLocalO countersEmb 𝒱₀ c none (none : HIx 2) (srcw := src) (dstw := dst) (O := O) (W := W') rfl) $$ [HF HO HM]
  · isplitl [HF]; · iexact HF
    isplitl [HO]; · iexact HO
    iapply (MayWaits.elim (.dma sm)) $$ HM
  iintro ⟨⟨Hd, Hs⟩, Hv, HO⟩
  iapply Hk
  isplitl [Hd]
  · iapply (Entails.of_eq (pointsTo_congr (write_of_read dst.view fd G _ hG))) $$ Hd
  isplitl [Hs]; · iexact Hs
  isplitl [Hv]; · iexact Hv
  iapply (owed_insert hW') $$ HO

/-- A loop of waits for one copy of `N` each, on a semaphore with `n` copies of `N` under way. -/
theorem wait_loop {c : Thread nD τ} {α : Type} {Q : α → sProp 𝕄} {lb ub st : BitVec 32} {hok} {sm : DmaSem sig} {n N M u v : ℕ} {D : Fin n → sProp 𝕄}
    {sp sp' : Space} {s s' : Shape} {e e' : EltTy} {srcw : Fin (Scf.trips lb ub st) → Memref sig c.2.kind sp' s' e'}
    {dstw : Fin (Scf.trips lb ub st) → Memref sig c.2.kind sp s e} {h1 : ∀ t, (srcw t).view.WordExact} {h2 : ∀ t, (dstw t).view.WordExact}
    {kk : Unit → Prog (TpuEff nD τ sig (Elt F) Λ₀ c.2) α} {O : CellTallies nD τ sig (HIx 2)} {W : Waits sig (HIx 2)}
    (hM : Scf.trips lb ub st = M) (hv : u + N * M = v) (hu : v ≤ N * n) (hb : ∀ t, (dstw t).view.dmaCredit = N) :
    iprop(Batch countersEmb c (.dma sm) (none : HIx 2) N D n u ∗ Owed c O W ∗ MayWaits c none O)
      ⊢ iprop(((Batch countersEmb c (.dma sm) (none : HIx 2) N D n v ∗ Owed c O W) -∗ wp frame (wpE (defs₀ (F := F)) 𝒱₀ c none) Set.univ (kk ⟨⟩) Q)
        -∗ wp frame (wpE (defs₀ (F := F)) 𝒱₀ c none) Set.univ
          (Scf.for lb ub st hok () (fun t _ => .op (.waitDma2 sm (srcw t) (dstw t) (h1 t) (h2 t)) fun _ => .ret ()) >>= kk) Q) := by
  iintro ⟨HB, HO, #HM⟩ Hk
  have hbody : ∀ (t : Fin (Scf.trips lb ub st)) (acc : Unit),
      iprop(Batch countersEmb c (.dma sm) (none : HIx 2) N D n (u + N * t.val) ∗ Owed c O W ∗ MayWaits c none O)
        ⊢ wp frame (wpE (defs₀ (F := F)) 𝒱₀ c none) Set.univ
            ((fun t (_ : Unit) => Prog.op (.waitDma2 sm (srcw t) (dstw t) (h1 t) (h2 t)) fun _ => .ret ()) t acc)
            (fun _ => iprop(Batch countersEmb c (.dma sm) (none : HIx 2) N D n (u + N * (t.val + 1)) ∗ Owed c O W ∗ MayWaits c none O)) := by
    intro t _
    have ht : u + N * (t.val + 1) = u + N * t.val + 1 * N := by ring
    have hu' : u + N * t.val + 1 * N ≤ N * n := by
      rw [← ht]
      exact (Nat.add_le_add_left (Nat.mul_le_mul_left N (hM ▸ t.isLt)) u).trans (hv.trans_le hu)
    iintro ⟨HB, HO, #HM⟩
    ihave HO := owed_elim $$ HO
    icases HO with ⟨%W', %hW', HO⟩
    iapply (wp_waitBatchMulO countersEmb 𝒱₀ c none (none : HIx 2) (srcw := srcw t) (dstw := dstw t) (O := O) (W := W') (q := 1)
      ((hb t).trans (Nat.one_mul N).symm) hu') $$ [HB HO]
    · isplitl [HB]; · iexact HB
      isplitl [HO]; · iexact HO
      iapply (MayWaits.elim (.dma sm)) $$ HM
    iintro ⟨HB, HO⟩
    rw [wp_ret]
    imodintro
    isplitl [HB]
    · rw [ht]
      iexact HB
    isplitl [HO]
    · iapply (owed_insert hW') $$ HO
    iexact HM
  iapply (Scf.wp_for_bind frame (wpE (defs₀ (F := F)) 𝒱₀ c none) Set.univ lb ub st hok () _
    (fun t _ => iprop(Batch countersEmb c (.dma sm) (none : HIx 2) N D n (u + N * t) ∗ Owed c O W ∗ MayWaits c none O)) hbody) $$ [HB HO]
  · isplitl [HB]; · iexact HB
    isplitl [HO]; · iexact HO
    iexact HM
  iintro %_ ⟨HB, HO, -⟩
  rw [hM, hv]
  iapply Hk
  isplitl [HB]; · iexact HB
  iexact HO

end Cert.Proof
-- ==== Proof.WideSteps.lean ====
/-
  The row-copying call, one operation at a time. A tile holds, for each of its three tables, the counters of that
  table's copies, a read share of the table for each copy still to be started, and each scratch row not yet being
  written; starting the copy of a row spends that row's share and scratch row.
-/
module

public import proofs.«01_k».proof.Proof.Copies

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

/-- The tile at grid coordinates `L` of the first call, as a thread of device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

variable (d : Dev nD) (L : grid0.Coords)

theorem row_inb {n w : ℕ} (t : Fin n) : ∀ a, (![t.val, 0] : Fin 2 → ℕ) a + (⟨2, ![1, w]⟩ : Shape).size a ≤ (⟨2, ![n, w]⟩ : Shape).size a :=
  Fin.forall_fin_two.mpr ⟨t.isLt, by simp⟩

section Table

variable {n w : ℕ} (src : Memref sig .scVector .hbm ⟨2, ![n, w]⟩ .f32) (dst : Memref sig .scVector .vmem ⟨2, ![128, w]⟩ .f32)
  (sm : DmaSem sig) (hq : (⟨2, ![1, w]⟩ : Shape).Squeezes ⟨1, ![w]⟩)
  (q : PosShare TreeShare) (fs : Buf (Elt F) (src.view.loc (thr d L))) (G f0 : Buf (Elt F) (dst.view.loc (thr d L)))

/-- What the copy of one row counts on its semaphore. -/
abbrev rowN : ℕ := dst.view.ref.dmaCredit ⟨1, ![w]⟩ .f32

/-- Scratch row `t` at contents `f`. -/
abbrev scrRow (f : Buf (Elt F) (dst.view.loc (thr d L))) (t : Fin 128) : sProp 𝕄 :=
  dst.view.loc (thr d L) ↦[(rowM dst ![t.val, 0] (row_inb t) hq).view.set]{fullShare} f

/-- The scratch's rows together are the scratch. -/
theorem rows_whole (f : Buf (Elt F) (dst.view.loc (thr d L))) :
    (bigSep Finset.univ (scrRow d L dst hq f) : sProp 𝕄) = (dst.view.loc (thr d L) ↦[dst.view.set]{fullShare} f) := by
  refine Eq.symm ((pieces (c := thr d L) dst (fun i : Fin 128 => Rect.unit (s := ⟨2, ![128, w]⟩) ![i.val, 0] (⟨2, ![1, w]⟩ : Shape).size (row_inb i))
    ?_ ?_ fullShare f).trans ?_)
  · intro i j hij
    have := blockR_disjoint (n := 128) (w := w) (b := 1) (i := i.val) (j := j.val) (by omega) (by omega) (fun h => hij (Fin.ext h))
    simpa [blockR] using this
  · intro x
    obtain ⟨i, hi⟩ := blockR_cover (n := 128) (w := w) (b := 1) (k := 128) rfl (by decide) x
    exact ⟨i, by simpa [blockR] using hi⟩
  · refine congrArg _ (funext fun i => ?_)
    exact congrArg (fun S : Finset (Idx (dst.view.loc (thr d L))) => (dst.view.loc (thr d L) ↦[S]{fullShare} f : sProp 𝕄))
      (View.set_reshape (dst.view.slice _) _).symm

instance (f : Buf (Elt F) (dst.view.loc (thr d L))) (t : Fin 128) : Storable (upEmb : UEmb _ 𝕄) (scrRow d L dst hq f t) := by
  unfold scrRow; infer_instance

/-- What the tile holds for the rows of one table from `t` on, their copies not yet started. -/
def Pend (t : ℕ) : sProp 𝕄 :=
  iprop(bigSep (pending t) (fun i : Fin 128 => src.view.loc (thr d L) ↦[src.view.set]{shareTok q 128 i} fs)
    ∗ bigSep (pending t) (scrRow d L dst hq f0))

/-- Starting the copy of row `t`, as copy `j` of those on its semaphore. -/
theorem Row_step {α : Type} {Q : α → sProp 𝕄} {k' j N : ℕ} {D : Fin k' → sProp 𝕄} {t : ℕ} {off : Fin 2 → ℕ} {inb inb'} {hq' hq''} {hsrc hdst hsem}
    {k : PUnit → Prog (TpuEff nD τ sig (Elt F) Λ₀ (thr d L).2) α} (ht : t < 128) (hN : rowN dst = N) (hj : j < k')
    (hD : scrRow d L dst hq G ⟨t, ht⟩ ⊢ D ⟨j, hj⟩)
    (hrd : ∀ x, (rowM dst ![t, 0] (row_inb (⟨t, ht⟩ : Fin 128)) hq).view.read (Elt F) G x = (rowM src off inb hq').view.read (Elt F) fs x) :
    iprop(Batch countersEmb (thr d L) (.dma sm) (none : HIx 2) N D j 0 ∗ Pend d L src dst hq q fs f0 t)
      ⊢ iprop(((Batch countersEmb (thr d L) (.dma sm) (none : HIx 2) N D (j + 1) 0 ∗ Pend d L src dst hq q fs f0 (t + 1))
          -∗ wp frame (wpE (defs₀ (F := F)) 𝒱₀ (thr d L) none) Set.univ (k ⟨⟩) Q)
        -∗ wp frame (wpE (defs₀ (F := F)) 𝒱₀ (thr d L) none) Set.univ
            (.op (.enqueueDma (rowM src off inb hq') (.here (rowM dst ![t, 0] inb' hq'')) (.dma sm) hsrc hdst hsem) k) Q) := by
  subst hN
  unfold Pend
  rw [bigSep_pending_step _ t ht, bigSep_pending_step _ t ht]
  iintro ⟨HB, ⟨Hs, Hss⟩, Hd, Hds⟩ Hk
  ihave Hs' := (pointsTo_split_subset (q := shareTok q 128 ⟨t, ht⟩) (f := fs) (S := src.view.set)
    (show (rowM src off inb hq').view.set ⊆ src.view.set from by
      show ((src.view.slice _).reshape _ _).set ⊆ _
      rw [View.set_reshape]; exact View.set_slice_subset _ _)).1 $$ Hs
  icases Hs' with ⟨Hs, -⟩
  have hD' : iprop(((rowM dst ![t, 0] inb' hq'').view.loc (thr d L) ↦[(rowM dst ![t, 0] inb' hq'').view.set]{fullShare}
        ((rowM dst ![t, 0] inb' hq'').view.write (Elt F) f0 ((rowM src off inb hq').view.read (Elt F) fs) Finset.univ))
      ∗ ((rowM src off inb hq').view.loc (thr d L) ↦[(rowM src off inb hq').view.set]{shareTok q 128 ⟨t, ht⟩} fs))
      ⊢ D ⟨j, hj⟩ :=
    (sep_elim_left.trans (Entails.of_eq (pointsTo_congr (write_of_read (rowM dst ![t, 0] inb' hq'').view f0 G _ hrd)))).trans hD
  iapply (wp_dmaBatch countersEmb 𝒱₀ (thr d L) none (none : HIx 2) (rowN dst) (Sd := (rowM dst ![t, 0] inb' hq'').view.set)
    (src := rowM src off inb hq') (dst := rowM dst ![t, 0] inb' hq'') (fs := fs) (fd := f0) (j := j) (u := 0) (via := .same)
    (D := D) (n := k')
    rfl (Finset.Subset.refl _) hj (Nat.zero_le _) hD') $$ [Hs Hd HB]
  · isplitl [Hs]; · iexact Hs
    isplitl [Hd]; · iexact Hd
    iexact HB
  iintro HB
  iapply Hk
  isplitl [HB]; · iexact HB
  isplitl [Hss]; · iexact Hss
  iexact Hds

/-- Before the first copy: a read share of the table, the scratch. -/
theorem Pend_start : iprop((src.view.loc (thr d L) ↦[src.view.set]{q} fs) ∗ (dst.view.loc (thr d L) ↦[dst.view.set]{fullShare} f0))
    ⊢ (Pend d L src dst hq q fs f0 0 : sProp 𝕄) := by
  unfold Pend
  rw [← bigSep_pending_zero, ← bigSep_pending_zero, rows_whole]
  iintro ⟨Hs, Hd⟩
  isplitl [Hs]
  · ihave Hs := (pointsTo_toks_split q 128) $$ Hs
    icases Hs with ⟨-, Hs⟩
    iexact Hs
  iexact Hd

/-- What the index list says at place `t` of the tile's part. -/
def word (ixs : S4096.Idx → BitVec 32) (L : grid0.Coords) (t : ℕ) : BitVec 32 :=
  ixs (ix1 (Fin.ofNat 4096 (256 * (L 1).val + 128 * (L 0).val + t)))

/-- The tile's part of the gathered table. -/
def part {n w : ℕ} [NeZero n] {α : Type} (tab : (⟨2, ![n, w]⟩ : Shape).Idx → α) (ixs : S4096.Idx → BitVec 32) (L : grid0.Coords) :
    (⟨2, ![128, w]⟩ : Shape).Idx → α :=
  fun i => gath tab ixs (rc (Fin.ofNat 4096 (256 * (L 1).val + 128 * (L 0).val + (i 0).val)) (i 1))

/-- Starting the copy of row `t` of the gathered table: the source row is the one the index list names. -/
theorem Row_step_word [NeZero n] {α : Type} {Q : α → sProp 𝕄} {k' j N : ℕ} {D : Fin k' → sProp 𝕄} {t : ℕ} {off : Fin 2 → ℕ} {inb inb'} {hq' hq''} {hsrc hdst hsem}
    {k : PUnit → Prog (TpuEff nD τ sig (Elt F) Λ₀ (thr d L).2) α}
    (tab : (⟨2, ![n, w]⟩ : Shape).Idx → Elt F .f32) (ixs : S4096.Idx → BitVec 32)
    (hfs : ∀ j, src.view.read (Elt F) fs j = tab j) (hG : ∀ j, dst.view.read (Elt F) G j = part tab ixs L j)
    (ht : t < 128) (hN : rowN dst = N) (hj : j < k') (hD : scrRow d L dst hq G ⟨t, ht⟩ ⊢ D ⟨j, hj⟩)
    (hlt : ∀ t, (word ixs L t).toNat < n) {v : BitVec 32} (hoff : off = ![v.toNat, 0]) (hv : v = word ixs L t) :
    iprop(Batch countersEmb (thr d L) (.dma sm) (none : HIx 2) N D j 0 ∗ Pend d L src dst hq q fs f0 t)
      ⊢ iprop(((Batch countersEmb (thr d L) (.dma sm) (none : HIx 2) N D (j + 1) 0 ∗ Pend d L src dst hq q fs f0 (t + 1))
          -∗ wp frame (wpE (defs₀ (F := F)) 𝒱₀ (thr d L) none) Set.univ (k ⟨⟩) Q)
        -∗ wp frame (wpE (defs₀ (F := F)) 𝒱₀ (thr d L) none) Set.univ
            (.op (.enqueueDma (rowM src off inb hq') (.here (rowM dst ![t, 0] inb' hq'')) (.dma sm) hsrc hdst hsem) k) Q) := by
  refine Row_step d L src dst sm hq q fs G f0 ht hN hj hD fun x => ?_
  rw [rowM_read dst ⟨t, ht⟩ _ rfl, rowM_read src (Fin.ofNat n (word ixs L t).toNat) off
    (by rw [hoff, hv]; congr 1; exact (Nat.mod_eq_of_lt (hlt t)).symm), hfs, hG]
  rfl

end Table

/-! ## The three tables of the call -/

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev a5Loc (d : Dev nD) : Loc nD τ sig := (SparseCore.T d).loc main_arg5

abbrev a0W : Memref sig .scVector .hbm S1000000x64 .f32 := Memref.whole main_arg0_scv
abbrev a1W : Memref sig .scVector .hbm S1000000x64 .f32 := Memref.whole main_arg1_scv
abbrev a2W : Memref sig .scVector .hbm S1000000x16 .f32 := Memref.whole main_arg2_scv
abbrev a5W : Memref sig .scVector .hbm S4096 .i32 := Memref.whole main_arg5_scv
abbrev s0W : Memref sig .scVector .vmem S128 .i32 := Memref.whole cc0_scratch0
abbrev s1W : Memref sig .scVector .vmem S128x64 .f32 := Memref.whole cc0_scratch1
abbrev s2W : Memref sig .scVector .vmem S128x64 .f32 := Memref.whole cc0_scratch2
abbrev s3W : Memref sig .scVector .vmem S128x16 .f32 := Memref.whole cc0_scratch3

abbrev ixs : S4096.Idx → BitVec 32 := m (a5Loc d)

/-- The tile's index list. -/
def lst : S128.Idx → BitVec 32 := fun x => word (ixs d m) L (x 0).val

/-- What the copies of each table's rows leave in its scratch. -/
abbrev got1 : Buf (Elt F) (s1W.view.loc (thr d L)) := part (m (a0Loc d)) (ixs d m) L
abbrev got2 : Buf (Elt F) (s2W.view.loc (thr d L)) := part (m (a1Loc d)) (ixs d m) L
abbrev got3 : Buf (Elt F) (s3W.view.loc (thr d L)) := part (m (a2Loc d)) (ixs d m) L

/-- The copies of the first two tables' rows take turns on one semaphore: what copy `j` of them delivers. -/
def pairRow (j : Fin 256) : sProp 𝕄 :=
  if j.val % 2 = 0 then scrRow d L s1W squeezes_S1x64_S64 (got1 d L m) ⟨j.val / 2, by omega⟩
  else scrRow d L s2W squeezes_S1x64_S64 (got2 d L m) ⟨j.val / 2, by omega⟩

instance (j : Fin 256) : Storable (upEmb : UEmb _ 𝕄) (pairRow d L m j) := by
  unfold pairRow; split <;> infer_instance

theorem pairRow_even (t : Fin 128) (h : t.val + t.val < 256) : pairRow d L m ⟨t.val + t.val, h⟩ = scrRow d L s1W squeezes_S1x64_S64 (got1 d L m) t := by
  unfold pairRow
  rw [if_pos (show (t.val + t.val) % 2 = 0 by omega)]
  exact congrArg _ (Fin.ext (show (t.val + t.val) / 2 = t.val by omega))

theorem pairRow_odd (t : Fin 128) (h : t.val + 1 + t.val < 256) : pairRow d L m ⟨t.val + 1 + t.val, h⟩ = scrRow d L s2W squeezes_S1x64_S64 (got2 d L m) t := by
  unfold pairRow
  rw [if_neg (show ¬(t.val + 1 + t.val) % 2 = 0 by omega)]
  exact congrArg _ (Fin.ext (show (t.val + 1 + t.val) / 2 = t.val by omega))

/-- All the deliveries together: both scratches, gathered. -/
theorem pairRow_all : (bigSep Finset.univ (pairRow d L m) : sProp 𝕄)
    = iprop((s1W.view.loc (thr d L) ↦[s1W.view.set]{fullShare} got1 d L m) ∗ (s2W.view.loc (thr d L) ↦[s2W.view.set]{fullShare} got2 d L m)) := by
  let e : Fin 128 → Fin 256 := fun t => ⟨t.val + t.val, by omega⟩
  let o : Fin 128 → Fin 256 := fun t => ⟨t.val + 1 + t.val, by omega⟩
  have he : Function.Injective e := fun a b h => Fin.ext (by have := congrArg Fin.val h; simp only [e] at this; omega)
  have ho : Function.Injective o := fun a b h => Fin.ext (by have := congrArg Fin.val h; simp only [o] at this; omega)
  have hrest : (Finset.univ : Finset (Fin 256)) \ Finset.univ.image e = Finset.univ.image o := by
    ext x
    simp only [Finset.mem_sdiff, Finset.mem_univ, true_and, Finset.mem_image]
    constructor
    · intro h
      refine ⟨⟨x.val / 2, by omega⟩, Fin.ext ?_⟩
      have : ¬x.val % 2 = 0 := fun h' => h ⟨⟨x.val / 2, by omega⟩, Fin.ext (by simp only [e]; omega)⟩
      simp only [o]; omega
    · rintro ⟨t, rfl⟩ ⟨t', h⟩
      have := congrArg Fin.val h
      simp only [e, o] at this; omega
  rw [SparseCore.bigSep_sdiff_split' (Finset.subset_univ (Finset.univ.image e)), hrest, SparseCore.bigSep_image_of_injOn he.injOn,
    SparseCore.bigSep_image_of_injOn ho.injOn, ← rows_whole d L s1W squeezes_S1x64_S64, ← rows_whole d L s2W squeezes_S1x64_S64]
  congr 1
  · exact congrArg _ (funext fun t => pairRow_even d L m t _)
  · exact congrArg _ (funext fun t => pairRow_odd d L m t _)

/-- The copies of the first two tables under way, `j` started and `u` of what they count waited for; and the third's. -/
abbrev Pair (j u : ℕ) : sProp 𝕄 :=
  Batch countersEmb (thr d L) (.dma cc0_scratch5.sem) (none : HIx 2) (rowN s1W) (pairRow d L m) j u
abbrev Third (j u : ℕ) : sProp 𝕄 :=
  Batch countersEmb (thr d L) (.dma cc0_scratch6.sem) (none : HIx 2) (rowN s3W) (scrRow d L s3W squeezes_S1x16_S16 (got3 d L m)) j u

/-- What the tile holds between two operations of its straight-line part, when `a`, `b` and `c` copies have been
    started from the three tables: its index list, the copies, the three tables' holdings, and whatever else (`R`). -/
def Inv (q : PosShare TreeShare) (f1 : Buf (Elt F) (s1W.view.loc (thr d L))) (f2 : Buf (Elt F) (s2W.view.loc (thr d L)))
    (f3 : Buf (Elt F) (s3W.view.loc (thr d L))) (R : sProp 𝕄) (a b c : ℕ) : sProp 𝕄 :=
  iprop((s0W.view.loc (thr d L) ↦[Finset.univ]{fullShare} lst d L m)
    ∗ Pair d L m (a + b) 0 ∗ Third d L m c 0
    ∗ Pend d L a0W s1W squeezes_S1x64_S64 q (m (a0Loc d)) f1 a
    ∗ Pend d L a1W s2W squeezes_S1x64_S64 q (m (a1Loc d)) f2 b
    ∗ Pend d L a2W s3W squeezes_S1x16_S16 q (m (a2Loc d)) f3 c
    ∗ R)

section Steps

variable {d L m}

variable {q : PosShare TreeShare}
variable {f1 : Buf (Elt F) (s1W.view.loc (thr d L))} {f2 : Buf (Elt F) (s2W.view.loc (thr d L))}
  {f3 : Buf (Elt F) (s3W.view.loc (thr d L))}
variable {a b c : ℕ}

/-- What the index list is asked to satisfy: every word is a row number of the tables. -/
def InRange (ix : S4096.Idx → BitVec 32) : Prop := ∀ i, (ix i).toNat < 1000000

/-- Starting a row's copy out of one table, beside everything else the tile holds. -/
theorem step_of {I : sProp 𝕄} {α : Type} {Q : α → sProp 𝕄} {n w : ℕ} [NeZero n] {src : Memref sig .scVector .hbm ⟨2, ![n, w]⟩ .f32} {dst : Memref sig .scVector .vmem ⟨2, ![128, w]⟩ .f32}
    {sm : DmaSem sig} {hq : (⟨2, ![1, w]⟩ : Shape).Squeezes ⟨1, ![w]⟩} {fs : Buf (Elt F) (src.view.loc (thr d L))}
    {G f0 : Buf (Elt F) (dst.view.loc (thr d L))} {k' j N : ℕ} {D : Fin k' → sProp 𝕄} {t : ℕ} {I' Fr : sProp 𝕄} (tab : (⟨2, ![n, w]⟩ : Shape).Idx → Elt F .f32)
    (hI : I ⊢ iprop((Batch countersEmb (thr d L) (.dma sm) (none : HIx 2) N D j 0 ∗ Pend d L src dst hq q fs f0 t) ∗ Fr))
    (hI' : iprop((Batch countersEmb (thr d L) (.dma sm) (none : HIx 2) N D (j + 1) 0 ∗ Pend d L src dst hq q fs f0 (t + 1)) ∗ Fr) ⊢ I')
    (hfs : ∀ j, src.view.read (Elt F) fs j = tab j) (hG : ∀ j, dst.view.read (Elt F) G j = part tab (ixs d m) L j)
    (ht : t < 128) (hN : rowN dst = N) (hj : j < k') (hD : scrRow d L dst hq G ⟨t, ht⟩ ⊢ D ⟨j, hj⟩)
    (hlt : ∀ t, (word (ixs d m) L t).toNat < n) {off : Fin 2 → ℕ} {inb inb'} {hq' hq''} {hsrc hdst hsem}
    {k : PUnit → Prog (TpuEff nD τ sig (Elt F) Λ₀ (thr d L).2) α} {v : BitVec 32} (hoff : off = ![v.toNat, 0]) (hv : v = word (ixs d m) L t)
    (h : I' ⊢ wp frame (wpE (defs₀ (F := F)) 𝒱₀ (thr d L) none) Set.univ (k ⟨⟩) Q) :
    I ⊢ wp frame (wpE (defs₀ (F := F)) 𝒱₀ (thr d L) none) Set.univ
      (.op (.enqueueDma (rowM src off inb hq') (.here (rowM dst ![t, 0] inb' hq'')) (.dma sm) hsrc hdst hsem) k) Q := by
  refine hI.trans ?_
  iintro ⟨H, HF⟩
  iapply (Row_step_word d L src dst sm hq q fs G f0 tab (ixs d m) hfs hG ht hN hj hD hlt hoff hv) $$ H
  iintro H
  iapply (hI'.trans h)
  isplitl [H]; · iexact H
  iexact HF

theorem deal₁ {A X Y B C D R : sProp 𝕄} : iprop(A ∗ X ∗ Y ∗ B ∗ C ∗ D ∗ R) ⊣⊢ iprop((X ∗ B) ∗ (A ∗ Y ∗ C ∗ D ∗ R)) := by
  constructor
  · iintro ⟨HA, HX, HY, HB, HC, HD, HR⟩
    isplitl [HX HB]; · (isplitl [HX]; · iexact HX); iexact HB
    isplitl [HA]; · iexact HA
    isplitl [HY]; · iexact HY
    isplitl [HC]; · iexact HC
    isplitl [HD]; · iexact HD
    iexact HR
  · iintro ⟨⟨HX, HB⟩, HA, HY, HC, HD, HR⟩
    isplitl [HA]; · iexact HA
    isplitl [HX]; · iexact HX
    isplitl [HY]; · iexact HY
    isplitl [HB]; · iexact HB
    isplitl [HC]; · iexact HC
    isplitl [HD]; · iexact HD
    iexact HR
theorem deal₂ {A X Y B C D R : sProp 𝕄} : iprop(A ∗ X ∗ Y ∗ B ∗ C ∗ D ∗ R) ⊣⊢ iprop((X ∗ C) ∗ (A ∗ Y ∗ B ∗ D ∗ R)) := by
  constructor
  · iintro ⟨HA, HX, HY, HB, HC, HD, HR⟩
    isplitl [HX HC]; · (isplitl [HX]; · iexact HX); iexact HC
    isplitl [HA]; · iexact HA
    isplitl [HY]; · iexact HY
    isplitl [HB]; · iexact HB
    isplitl [HD]; · iexact HD
    iexact HR
  · iintro ⟨⟨HX, HC⟩, HA, HY, HB, HD, HR⟩
    isplitl [HA]; · iexact HA
    isplitl [HX]; · iexact HX
    isplitl [HY]; · iexact HY
    isplitl [HB]; · iexact HB
    isplitl [HC]; · iexact HC
    isplitl [HD]; · iexact HD
    iexact HR
theorem deal₃ {A X Y B C D R : sProp 𝕄} : iprop(A ∗ X ∗ Y ∗ B ∗ C ∗ D ∗ R) ⊣⊢ iprop((Y ∗ D) ∗ (A ∗ X ∗ B ∗ C ∗ R)) := by
  constructor
  · iintro ⟨HA, HX, HY, HB, HC, HD, HR⟩
    isplitl [HY HD]; · (isplitl [HY]; · iexact HY); iexact HD
    isplitl [HA]; · iexact HA
    isplitl [HX]; · iexact HX
    isplitl [HB]; · iexact HB
    isplitl [HC]; · iexact HC
    iexact HR
  · iintro ⟨⟨HY, HD⟩, HA, HX, HB, HC, HR⟩
    isplitl [HA]; · iexact HA
    isplitl [HX]; · iexact HX
    isplitl [HY]; · iexact HY
    isplitl [HB]; · iexact HB
    isplitl [HC]; · iexact HC
    isplitl [HD]; · iexact HD
    iexact HR

theorem step₁ {R : sProp 𝕄} {α : Type} {Q : α → sProp 𝕄} (hlt : InRange (ixs d m)) {t : ℕ} (ht : t < 128) (hat : a = t) (hbt : b = t) {off : Fin 2 → ℕ} {inb inb'} {hq' hq''} {hsrc hdst hsem}
    {k : PUnit → Prog (TpuEff nD τ sig (Elt F) Λ₀ (thr d L).2) α} {v : BitVec 32} (hoff : off = ![v.toNat, 0]) (hv : v = word (ixs d m) L t)
    (h : Inv d L m q f1 f2 f3 R (t + 1) b c ⊢ wp frame (wpE (defs₀ (F := F)) 𝒱₀ (thr d L) none) Set.univ (k ⟨⟩) Q) :
    Inv d L m q f1 f2 f3 R a b c ⊢ wp frame (wpE (defs₀ (F := F)) 𝒱₀ (thr d L) none) Set.univ
      (.op (.enqueueDma (rowM a0W off inb hq') (.here (rowM s1W ![t, 0] inb' hq'')) (.dma cc0_scratch5.sem) hsrc hdst hsem) k) Q := by
  subst hat hbt
  unfold Inv at h
  rw [show b + 1 + b = b + b + 1 by omega] at h
  exact step_of _ deal₁.1 deal₁.2 (fun _ => rfl) (fun _ => rfl) ht rfl (by omega) (Entails.of_eq (pairRow_even d L m ⟨b, ht⟩ _).symm) (fun _ => hlt _) hoff hv h

theorem step₂ {R : sProp 𝕄} {α : Type} {Q : α → sProp 𝕄} (hlt : InRange (ixs d m)) {t : ℕ} (ht : t < 128) (hat : a = t + 1) (hbt : b = t) {off : Fin 2 → ℕ} {inb inb'} {hq' hq''} {hsrc hdst hsem}
    {k : PUnit → Prog (TpuEff nD τ sig (Elt F) Λ₀ (thr d L).2) α} {v : BitVec 32} (hoff : off = ![v.toNat, 0]) (hv : v = word (ixs d m) L t)
    (h : Inv d L m q f1 f2 f3 R a (t + 1) c ⊢ wp frame (wpE (defs₀ (F := F)) 𝒱₀ (thr d L) none) Set.univ (k ⟨⟩) Q) :
    Inv d L m q f1 f2 f3 R a b c ⊢ wp frame (wpE (defs₀ (F := F)) 𝒱₀ (thr d L) none) Set.univ
      (.op (.enqueueDma (rowM a1W off inb hq') (.here (rowM s2W ![t, 0] inb' hq'')) (.dma cc0_scratch5.sem) hsrc hdst hsem) k) Q := by
  subst hat hbt
  unfold Inv at h
  exact step_of _ deal₂.1 deal₂.2 (fun _ => rfl) (fun _ => rfl) ht rfl (by omega) (Entails.of_eq (pairRow_odd d L m ⟨b, ht⟩ _).symm) (fun _ => hlt _) hoff hv h

theorem step₃ {R : sProp 𝕄} {α : Type} {Q : α → sProp 𝕄} (hlt : InRange (ixs d m)) {t : ℕ} (ht : t < 128) (hat : c = t) {off : Fin 2 → ℕ} {inb inb'} {hq' hq''} {hsrc hdst hsem}
    {k : PUnit → Prog (TpuEff nD τ sig (Elt F) Λ₀ (thr d L).2) α} {v : BitVec 32} (hoff : off = ![v.toNat, 0]) (hv : v = word (ixs d m) L t)
    (h : Inv d L m q f1 f2 f3 R a b (t + 1) ⊢ wp frame (wpE (defs₀ (F := F)) 𝒱₀ (thr d L) none) Set.univ (k ⟨⟩) Q) :
    Inv d L m q f1 f2 f3 R a b c ⊢ wp frame (wpE (defs₀ (F := F)) 𝒱₀ (thr d L) none) Set.univ
      (.op (.enqueueDma (rowM a2W off inb hq') (.here (rowM s3W ![t, 0] inb' hq'')) (.dma cc0_scratch6.sem) hsrc hdst hsem) k) Q := by
  subst hat
  unfold Inv at h
  exact step_of _ deal₃.1 deal₃.2 (fun _ => rfl) (fun _ => rfl) ht rfl ht (Entails.refl _) (fun _ => hlt _) hoff hv h

theorem step_bind {I : sProp 𝕄} {α : Type} {Q : α → sProp 𝕄} {β : Type} {p : Prog (TpuEff nD τ sig (Elt F) Λ₀ (thr d L).2) β} {k : β → Prog (TpuEff nD τ sig (Elt F) Λ₀ (thr d L).2) α}
    (h : I ⊢ wp frame (wpE (defs₀ (F := F)) 𝒱₀ (thr d L) none) Set.univ p fun r => wp frame (wpE (defs₀ (F := F)) 𝒱₀ (thr d L) none) Set.univ (k r) Q) :
    I ⊢ wp frame (wpE (defs₀ (F := F)) 𝒱₀ (thr d L) none) Set.univ (p >>= k) Q :=
  h.trans (Entails.of_eq (wp_bind frame (wpE (defs₀ (F := F)) 𝒱₀ (thr d L) none) Set.univ p k _).symm)

theorem step_pure {I : sProp 𝕄} {α : Type} {Q : α → sProp 𝕄} {r : α} (h : I ⊢ Q r) :
    I ⊢ wp frame (wpE (defs₀ (F := F)) 𝒱₀ (thr d L) none) Set.univ (.ret r) Q :=
  h.trans fupd_intro

/-- The check before a row's copies. -/
theorem step_chk {I : sProp 𝕄} {α : Type} {Q : α → sProp 𝕄} {P : Prop} {dec : Decidable P} {k : PLift P → Prog (TpuEff nD τ sig (Elt F) Λ₀ (thr d L).2) α} (hP : P)
    (h : I ⊢ wp frame (wpE (defs₀ (F := F)) 𝒱₀ (thr d L) none) Set.univ (k ⟨hP⟩) Q) :
    I ⊢ wp frame (wpE (defs₀ (F := F)) 𝒱₀ (thr d L) none) Set.univ (.op (.assume P dec) k) Q :=
  h.trans (wp_assume 𝒱₀ (thr d L) none Set.univ hP)

/-- A row number below the tables' height keeps both row slices inside their tables. -/
theorem chk_of {v : BitVec 32} {t : ℕ} (hlt : InRange (ixs d m)) (hv : v = word (ixs d m) L t) :
    (∀ a, (![v.toNat, 0] : Fin 2 → ℕ) a + S1x64.size a ≤ S1000000x64.size a) ∧ (∀ a, (![v.toNat, 0] : Fin 2 → ℕ) a + S1x16.size a ≤ S1000000x16.size a) := by
  have h : v.toNat < 1000000 := by rw [hv]; exact hlt _
  exact ⟨Fin.forall_fin_two.mpr ⟨h, le_refl _⟩, Fin.forall_fin_two.mpr ⟨h, le_refl _⟩⟩

/-- Lane `l` of sixteen words loaded at `o`. -/
theorem load_lane (f : S128.Idx → BitVec 32) {o : ℕ} (ho : o + 16 ≤ 128) {inb} (l : Fin 16) :
    View.readAt (Elt F) (Memref.whole cc0_scratch0 : Memref sig .scVector .vmem S128 .i32).view (Rect.unit (s := S128) ![o] S16.size inb).toLoadRect f (ix1 l) = f (ix1 ⟨o + l.val, by omega⟩) := by
  show f _ = f _
  congr 1
  funext a
  match a with
  | 0 => exact Fin.ext (by simp; rfl)

/-- The load of sixteen words of the index list. -/
theorem step_load {R : sProp 𝕄} {α : Type} {Q : α → sProp 𝕄} {o : ℕ} (ho : o + 16 ≤ 128) {inb} {hl} {k : (S16.Idx → BitVec 32) → Prog (TpuEff nD τ sig (Elt F) Λ₀ (thr d L).2) α}
    (h : ∀ v : S16.Idx → BitVec 32, (∀ l : Fin 16, v (ix1 l) = word (ixs d m) L (o + l.val)) →
      (Inv d L m q f1 f2 f3 R a b c ⊢ wp frame (wpE (defs₀ (F := F)) 𝒱₀ (thr d L) none) Set.univ (k v) Q)) :
    Inv d L m q f1 f2 f3 R a b c ⊢ wp frame (wpE (defs₀ (F := F)) 𝒱₀ (thr d L) none) Set.univ
      (.op (.load s0W (Rect.unit (s := S128) ![o] S16.size inb).toLoadRect hl) k) Q := by
  have hr : ∀ l : Fin 16, View.readAt (Elt F) s0W.view (Rect.unit (s := S128) ![o] S16.size inb).toLoadRect (lst d L m) (ix1 l)
      = word (ixs d m) L (o + l.val) := fun l =>
    load_lane (F := F) (lst d L m) ho l
  have h' := h _ hr
  unfold Inv at h' ⊢
  iintro ⟨Hi, H⟩
  iapply (wp_load 𝒱₀ (thr d L) none Set.univ (Finset.subset_univ _)) $$ Hi
  iintro Hi
  iapply h'
  isplitl [Hi]; · iexact Hi
  iexact H

/-- The running sum of sixteen words at its last lane, written out. -/
theorem scan_last (u : IVec S16 32) {hp} :
    extractAt ![15] (scan .sum u) hp
      = [1, 2, 3, 4, 5, 6, 7, 8, 9, 10, 11, 12, 13, 14, 15].foldl (fun r (k : Fin 16) => r + u (ix1 k)) (u (ix1 0)) := by
  have hf : ((List.finRange 16).filter fun k : Fin 16 => decide (0 < k.val ∧ k.val ≤ 15)) = [1, 2, 3, 4, 5, 6, 7, 8, 9, 10, 11, 12, 13, 14, 15] := by decide
  have e : ∀ k : Fin 16, (Shape.ofLane (d := ![16]) k : S16.Idx) = ix1 k := fun k => by
    funext a; match a with | 0 => rfl
  rw [← hf]
  show List.foldl (fun r (k : Fin 16) => r + u (Shape.ofLane (d := ![16]) k)) (u (Shape.ofLane (d := ![16]) (0 : Fin 16))) ((List.finRange 16).filter fun k : Fin 16 => decide (0 < k.val ∧ k.val ≤ 15)) = _
  simp only [e]

/-- Extracting lane `l` of a vector of sixteen words by a masked running sum: the sum, at the last lane, of the vector
    with every other lane set to zero. -/
theorem lane {v : S16.Idx → BitVec 32} {l : ℕ} (hl : l < 16) {hp} :
    extractAt ![15] (scan .sum (select (cmpi .eq (iota .scVector S16 32 [0] iota_S16_d0_w32_scVector) (broadcast S16 (BitVec.ofNat 32 l))) v
      (broadcast S16 0#32))) hp = v (ix1 ⟨l, hl⟩) := by
  have hu : ∀ k : Fin 16, select (cmpi .eq (iota .scVector S16 32 [0] iota_S16_d0_w32_scVector) (broadcast S16 (BitVec.ofNat 32 l))) v
      (broadcast S16 0#32) (ix1 k) = if k = ⟨l, hl⟩ then v (ix1 k) else 0#32 := by
    intro k
    have hk : iota .scVector S16 32 [0] iota_S16_d0_w32_scVector (ix1 k) = BitVec.ofNat 32 k.val := by
      simp [iota, ix1]
    have hb : (BitVec.ofNat 32 k.val = BitVec.ofNat 32 l) ↔ k = ⟨l, hl⟩ := by
      rw [← BitVec.toNat_inj, Fin.ext_iff]
      simp only [BitVec.toNat_ofNat]
      rw [Nat.mod_eq_of_lt (by omega), Nat.mod_eq_of_lt (by omega)]
    show Scalar.select (IntOp.cmpi .eq (iota .scVector S16 32 [0] iota_S16_d0_w32_scVector (ix1 k)) (BitVec.ofNat 32 l)) (v (ix1 k)) 0#32 = _
    rw [hk]
    have hc : IntOp.cmpi .eq (BitVec.ofNat 32 k.val) (BitVec.ofNat 32 l) = BitVec.ofBool (decide (k = ⟨l, hl⟩)) := by
      show BitVec.ofBool (BitVec.ofNat 32 k.val == BitVec.ofNat 32 l) = _
      rw [beq_eq_decide]; simp only [hb]
    rw [hc]
    by_cases hh : k = ⟨l, hl⟩ <;> simp [hh, Scalar.select]
  rw [scan_last]
  generalize select (cmpi .eq (iota .scVector S16 32 [0] iota_S16_d0_w32_scVector) (broadcast S16 (BitVec.ofNat 32 l))) v
      (broadcast S16 0#32) = u at hu
  simp only [hu, List.foldl_cons, List.foldl_nil]
  generalize (⟨l, hl⟩ : Fin 16) = j
  fin_cases j <;> simp

theorem lane_of {v : S16.Idx → BitVec 32} {o l : ℕ} (hl : l < 16) (hv : ∀ l : Fin 16, v (ix1 l) = word (ixs d m) L (o + l.val)) {hp} :
    extractAt ![15] (scan .sum (select (cmpi .eq (iota .scVector S16 32 [0] iota_S16_d0_w32_scVector) (broadcast S16 (BitVec.ofNat 32 l))) v
      (broadcast S16 0#32)) ) hp = word (ixs d m) L (o + l) := by
  exact (lane hl).trans (hv ⟨l, hl⟩)

end Steps

end Cert.Proof
-- ==== Proof.WideHalf.lean ====
/-
  The row-copying call's straight-line part.
-/
module

public import proofs.«01_k».proof.Proof.WideSteps

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

variable {d : Dev nD} {L : grid0.Coords} {m : (ℓ : Loc nD τ sig) → Buf (Elt F) ℓ}
  {q : PosShare TreeShare} {f1 : Buf (Elt F) (s1W.view.loc (thr d L))} {f2 : Buf (Elt F) (s2W.view.loc (thr d L))}
  {f3 : Buf (Elt F) (s3W.view.loc (thr d L))}

variable (F L) in
/-- The first half of the call's straight-line part. -/
abbrev half₁ :=
  k0_part115 (F := F) L (Memref.whole main_arg0_scv) (Memref.isWhole_whole _) (Memref.whole main_arg1_scv) (Memref.isWhole_whole _) (Memref.whole main_arg2_scv) (Memref.isWhole_whole _) (Memref.whole main_arg5_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 cc0_scoped2 cc0_scoped3

attribute [local irreducible] wp Inv

theorem half₁_spec {R : sProp 𝕄} (hr : InRange (ixs d m)) {Q : (Σ' (_ : IVec S16 32) (_ : Vec F S16 .i32) (w : BitVec 32), k0_chk68 w) → sProp 𝕄} {Start : sProp 𝕄}
    (h : ∀ v w (hw : k0_chk68 w), (∀ l : Fin 16, v (ix1 l) = word (ixs d m) L (64 + l.val)) → w = word (ixs d m) L 67 →
      (Inv d L m q f1 f2 f3 R 68 67 67 ⊢ Q ⟨iota .scVector S16 32 [0] iota_S16_d0_w32_scVector, v, w, hw⟩))
    (hs : ∀ {α : Type} {Q : α → sProp 𝕄} {k : PUnit → Prog (TpuEff nD τ sig (Elt F) Λ₀ (thr d L).2) α} {h1 h2 h3 h4 h5},
      (Inv d L m q f1 f2 f3 R 0 0 0 ⊢ wp frame (wpE (defs₀ (F := F)) 𝒱₀ (thr d L) none) Set.univ (k ⟨⟩) Q) →
      (Start ⊢ wp frame (wpE (defs₀ (F := F)) 𝒱₀ (thr d L) none) Set.univ
        (.op (.enqueueDma (a5W.slice (Rect.unit (s := S4096) (k0_off1 L) S128.size (k0_off1_inb L)) (fun _ => rfl)) (.here s0W) (.dma cc0_scoped0.sem) h1 h2 h3) fun _ =>
          .op (.waitDma2 cc0_scoped0.sem (a5W.slice (Rect.unit (s := S4096) (k0_off1 L) S128.size (k0_off1_inb L)) (fun _ => rfl)) s0W h4 h5) k) Q)) :
    Start ⊢ wp frame (wpE (defs₀ (F := F)) 𝒱₀ (thr d L) none) Set.univ (half₁ F L) Q := by
  rw [half₁, k0_part115_eq_skeleton, k0_part115_skel]
  refine step_bind ?_
  rw [k0_part1_eq_skeleton, k0_part1_skel]
  refine hs ?_
  refine step_load (by decide) ?_
  intro v hv
  repeat
    first
      | refine step_chk (chk_of hr (lane_of (by decide) hv)) ?_
      | refine step₁ hr (by decide) (by rfl) (by rfl) rfl (lane_of (by decide) hv) ?_
      | refine step₂ hr (by decide) (by rfl) (by rfl) rfl (lane_of (by decide) hv) ?_
      | refine step₃ hr (by decide) (by rfl) rfl (lane_of (by decide) hv) ?_
      | (refine step_load (by decide) fun v hv => ?_)
      | refine step_pure ?_
      | refine step_bind ?_
  exact h v _ _ hv (lane_of (l := 3) (by decide) hv)

end Cert.Proof
-- ==== Proof.WideDrain.lean ====
/-
  The row-copying call, after its straight-line part: one table's row copies waited for, and the scratch copied out
  to the tile's block of the result.
-/
module

public import proofs.«01_k».proof.Proof.WideSteps

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

section Drain

variable {d : Dev nD} {L : grid0.Coords} {w : ℕ} {dst : Memref sig .scVector .vmem ⟨2, ![128, w]⟩ .f32} {out : Memref sig .scVector .hbm ⟨2, ![4096, w]⟩ .f32}
  {sm sm' : DmaSem sig} {G : Buf (Elt F) (dst.view.loc (thr d L))}
  {g Gout : Buf (Elt F) (out.view.loc (thr d L))} {O : CellTallies nD τ sig (HIx 2)} {W : Waits sig (HIx 2)}
  {off : Fin 2 → ℕ} {inb : ∀ a, off a + (⟨2, ![128, w]⟩ : Shape).size a ≤ (⟨2, ![4096, w]⟩ : Shape).size a}

/-- The tile's block of one of the call's results. -/
abbrev blk (out : Memref sig .scVector .hbm ⟨2, ![4096, w]⟩ .f32) (off : Fin 2 → ℕ)
    (inb : ∀ a, off a + (⟨2, ![128, w]⟩ : Shape).size a ≤ (⟨2, ![4096, w]⟩ : Shape).size a) : Memref sig .scVector .hbm ⟨2, ![128, w]⟩ .f32 :=
  out.slice (Rect.unit (s := ⟨2, ![4096, w]⟩) off (⟨2, ![128, w]⟩ : Shape).size inb) (fun _ => rfl)

/-- What a tile owes, and that it may wait on its own copies. -/
def OM (d : Dev nD) (L : grid0.Coords) (O : CellTallies nD τ sig (HIx 2)) (W : Waits sig (HIx 2)) : sProp 𝕄 :=
  iprop(Owed (thr d L) O W ∗ MayWaits (thr d L) none O)

/-- One table, gathered into the scratch. -/
def Held (d : Dev nD) (L : grid0.Coords) (dst : Memref sig .scVector .vmem ⟨2, ![128, w]⟩ .f32)
    (G : Buf (Elt F) (dst.view.loc (thr d L))) (B : sProp 𝕄) : sProp 𝕄 :=
  iprop((dst.view.loc (thr d L) ↦[dst.view.set]{fullShare} G) ∗ B)

/-- The tile's block of a result, and the semaphore its copy is to count on. -/
def Dest (d : Dev nD) (L : grid0.Coords) (out : Memref sig .scVector .hbm ⟨2, ![4096, w]⟩ .f32) (off : Fin 2 → ℕ)
    (inb : ∀ a, off a + (⟨2, ![128, w]⟩ : Shape).size a ≤ (⟨2, ![4096, w]⟩ : Shape).size a) (sm : DmaSem sig) (g : Buf (Elt F) (out.view.loc (thr d L))) : sProp 𝕄 :=
  iprop((out.view.loc (thr d L) ↦[(blk out off inb).view.set]{fullShare} g) ∗ semVal (thr d L, .dma sm) 0)

/-- A loop of waits, beside what it leaves alone. -/
theorem step_drain {I Fr : sProp 𝕄} {Q : Unit → sProp 𝕄} {lb ub st : BitVec 32} {hok} {n N M u v : ℕ} {D : Fin n → sProp 𝕄}
    {sp sp' : Space} {s s' : Shape} {e e' : EltTy} {srcw : Fin (Scf.trips lb ub st) → Memref sig .scVector sp' s' e'}
    {dstw : Fin (Scf.trips lb ub st) → Memref sig .scVector sp s e} {h1 : ∀ t, (srcw t).view.WordExact} {h2 : ∀ t, (dstw t).view.WordExact}
    (hI : I ⊢ iprop(Batch countersEmb (thr d L) (.dma sm) (none : HIx 2) N D n u ∗ OM d L O W ∗ Fr))
    (hM : Scf.trips lb ub st = M) (hv : u + N * M = v) (hu : v ≤ N * n) (hb : ∀ t, (dstw t).view.dmaCredit = N)
    (h : iprop(Batch countersEmb (thr d L) (.dma sm) (none : HIx 2) N D n v ∗ OM d L O W ∗ Fr) ⊢ Q ()) :
    I ⊢ wp frame (wpE (defs₀ (F := F)) 𝒱₀ (thr d L) none) Set.univ
      (Scf.for lb ub st hok () (fun t _ => .op (.waitDma2 sm (srcw t) (dstw t) (h1 t) (h2 t)) fun _ => .ret ())) Q := by
  refine hI.trans ?_
  have hw := wait_loop (F := F) (c := thr d L) (Q := Q) (lb := lb) (ub := ub) (st := st) (hok := hok) (srcw := srcw) (dstw := dstw) (h1 := h1) (h2 := h2)
    (sm := sm) (D := D) (kk := fun _ => .ret ()) (O := O) (W := W) hM hv hu hb
  rw [wp_bind] at hw
  simp only [wp_ret] at hw
  unfold OM
  unfold OM at h
  iintro ⟨HB, ⟨HO, #HM⟩, HR⟩
  iapply (wp_fupd frame (wpE (defs₀ (F := F)) 𝒱₀ (thr d L) none) Set.univ _ Q)
  iapply hw $$ [HB HO]
  · isplitl [HB]; · iexact HB
    isplitl [HO]; · iexact HO
    iexact HM
  iintro ⟨HB, HO⟩
  imodintro
  iapply h
  isplitl [HB]; · iexact HB
  isplitl [HO]
  · isplitl [HO]; · iexact HO
    iexact HM
  iexact HR

theorem step_out {I Fr : sProp 𝕄} {α : Type} {Q : α → sProp 𝕄} {hsrc hdst hsem hsrc' hdst'}
    {k : PUnit → Prog (TpuEff nD τ sig (Elt F) Λ₀ (thr d L).2) α}
    (hI : I ⊢ iprop(Held d L dst G (Dest d L out off inb sm' g) ∗ OM d L O W ∗ Fr))
    (hN : 0 < (blk out off inb).view.dmaCredit) (hG : ∀ x, (blk out off inb).view.read (Elt F) Gout x = dst.view.read (Elt F) G x)
    (h : iprop(Held d L dst G (Dest d L out off inb sm' Gout) ∗ OM d L O W ∗ Fr) ⊢ wp frame (wpE (defs₀ (F := F)) 𝒱₀ (thr d L) none) Set.univ (k ⟨⟩) Q) :
    I ⊢ wp frame (wpE (defs₀ (F := F)) 𝒱₀ (thr d L) none) Set.univ
      (.op (.enqueueDma dst (.here (blk out off inb)) (.dma sm') hsrc hdst hsem) fun _ => .op (.waitDma2 sm' dst (blk out off inb) hsrc' hdst') k) Q := by
  refine hI.trans ?_
  unfold Held Dest OM
  unfold Held Dest OM at h
  iintro ⟨⟨Hs, Hd, Hv'⟩, ⟨HO, #HM⟩, HR⟩
  iapply (copy_wait (F := F) (c := thr d L) (src := dst) (dst := blk out off inb) (fs := G) (fd := g) (G := Gout) (O := O) (W := W) (q := fullShare) hN hG) $$ [Hs Hd Hv' HO]
  · isplitl [Hs]; · iexact Hs
    isplitl [Hd]; · iexact Hd
    isplitl [Hv']; · iexact Hv'
    isplitl [HO]; · iexact HO
    iexact HM
  iintro ⟨Hd, Hs, Hv', HO⟩
  iapply h
  isplitl [Hs Hd Hv']
  · isplitl [Hs]; · iexact Hs
    isplitl [Hd]; · iexact Hd
    iexact Hv'
  isplitl [HO]
  · isplitl [HO]; · iexact HO
    iexact HM
  iexact HR

end Drain

/-! ## The order of a tile's holdings -/

theorem perm₁ {A B C X Y : sProp 𝕄} : iprop(A ∗ B ∗ C ∗ X ∗ Y) ⊢ iprop(A ∗ X ∗ (B ∗ C ∗ Y)) := by
  iintro ⟨HA, HB, HC, HX, HY⟩
  isplitl [HA]; · iexact HA
  isplitl [HX]; · iexact HX
  isplitl [HB]; · iexact HB
  isplitl [HC]; · iexact HC
  iexact HY
theorem perm₁' {A B C X Y : sProp 𝕄} : iprop(A ∗ X ∗ (B ∗ C ∗ Y)) ⊢ iprop(A ∗ B ∗ C ∗ X ∗ Y) := by
  iintro ⟨HA, HX, HB, HC, HY⟩
  isplitl [HA]; · iexact HA
  isplitl [HB]; · iexact HB
  isplitl [HC]; · iexact HC
  isplitl [HX]; · iexact HX
  iexact HY
theorem rot {A B C X : sProp 𝕄} : iprop(A ∗ B ∗ C ∗ X) ⊢ iprop(B ∗ C ∗ A ∗ X) := by
  iintro ⟨HA, HB, HC, HX⟩
  isplitl [HB]; · iexact HB
  isplitl [HC]; · iexact HC
  isplitl [HA]; · iexact HA
  iexact HX

end Cert.Proof
-- ==== Proof.Wide.lean ====
/-
  The row-copying call on one tile, from its first copy to its last.
-/
module

public import proofs.«01_k».proof.Proof.WideHalf
public import proofs.«01_k».proof.Proof.WideDrain

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

variable {d : Dev nD} {L : grid0.Coords} {m : (ℓ : Loc nD τ sig) → Buf (Elt F) ℓ}
  {q : PosShare TreeShare} {f1 : Buf (Elt F) (s1W.view.loc (thr d L))} {f2 : Buf (Elt F) (s2W.view.loc (thr d L))}
  {f3 : Buf (Elt F) (s3W.view.loc (thr d L))} {f0 : Buf (Elt F) (s0W.view.loc (thr d L))} {O : CellTallies nD τ sig (HIx 2)} {W : Waits sig (HIx 2)}

abbrev o0W : Memref sig .scVector .hbm S4096x64 .f32 := Memref.whole main_v2_0_scv
abbrev o1W : Memref sig .scVector .hbm S4096x64 .f32 := Memref.whole main_v2_1_scv
abbrev o2W : Memref sig .scVector .hbm S4096x16 .f32 := Memref.whole main_v2_2_scv
abbrev v20Loc (d : Dev nD) : Loc nD τ sig := (SparseCore.T d).loc main_v2_0
abbrev v21Loc (d : Dev nD) : Loc nD τ sig := (SparseCore.T d).loc main_v2_1
abbrev v22Loc (d : Dev nD) : Loc nD τ sig := (SparseCore.T d).loc main_v2_2

/-- The tile's part of the index list, in memory. -/
abbrev idxM (L : grid0.Coords) : Memref sig .scVector .hbm S128 .i32 :=
  a5W.slice (Rect.unit (s := S4096) (k0_off1 L) S128.size (k0_off1_inb L)) (fun _ => rfl)

variable (d L m q f1 f2 f3 f0 O W) in
/-- What the tile starts the call's straight-line part with, its result blocks and their semaphores (`R`) apart. -/
def WideStart (R : sProp 𝕄) : sProp 𝕄 :=
  iprop(((idxM L).view.loc (thr d L) ↦[(idxM L).view.set]{q} (m (a5Loc d))) ∗ (s0W.view.loc (thr d L) ↦[s0W.view.set]{fullShare} f0)
    ∗ semVal (thr d L, .dma cc0_scoped0.sem) 0 ∗ Owed (thr d L) O W ∗ MayWaits (thr d L) none O
    ∗ Pair d L m 0 0 ∗ Third d L m 0 0
    ∗ Pend d L a0W s1W squeezes_S1x64_S64 q (m (a0Loc d)) f1 0
    ∗ Pend d L a1W s2W squeezes_S1x64_S64 q (m (a1Loc d)) f2 0
    ∗ Pend d L a2W s3W squeezes_S1x16_S16 q (m (a2Loc d)) f3 0 ∗ R)

/-- The list as the copy brings it in. -/
theorem lst_read (x : S128.Idx) : (idxM L).view.read (Elt F) (m (a5Loc d)) x = lst d L m x := by
  show m (a5Loc d) _ = m (a5Loc d) _
  congr 1
  funext a
  match a with
  | 0 =>
    refine Fin.ext ?_
    have h1 : (x 0).val < 128 := (x 0).isLt
    have h2 : (L 0).val < 2 := (L 0).isLt
    have h3 : (L 1).val < 16 := (L 1).isLt
    have e : k0_off1 L 0 = 256 * (L 1).val + 128 * (L 0).val := congrFun (k0_off1_eq L) 0
    show k0_off1 L 0 + 1 * (x 0).val = (256 * (L 1).val + 128 * (L 0).val + (x 0).val) % 4096
    rw [e, Nat.mod_eq_of_lt (by omega)]; omega

/-- The index list's copy. -/
theorem wide_idx {R : sProp 𝕄} {α : Type} {Q : α → sProp 𝕄} {k : PUnit → Prog (TpuEff nD τ sig (Elt F) Λ₀ (thr d L).2) α} {h1 h2 h3 h4 h5}
    (h : Inv d L m q f1 f2 f3 iprop(OM d L O W ∗ semVal (thr d L, .dma cc0_scoped0.sem) 0 ∗ R) 0 0 0
      ⊢ wp frame (wpE (defs₀ (F := F)) 𝒱₀ (thr d L) none) Set.univ (k ⟨⟩) Q) :
    WideStart d L m q f1 f2 f3 f0 O W R ⊢ wp frame (wpE (defs₀ (F := F)) 𝒱₀ (thr d L) none) Set.univ
      (.op (.enqueueDma (idxM L) (.here s0W) (.dma cc0_scoped0.sem) h1 h2 h3) fun _ => .op (.waitDma2 cc0_scoped0.sem (idxM L) s0W h4 h5) k) Q := by
  unfold WideStart
  unfold Inv OM at h
  have hN : 0 < s0W.view.dmaCredit := by decide +revert
  iintro ⟨Hi, Hs, Hv, HO, #HM, HP, HT, H1, H2, H3, HR⟩
  iapply (copy_wait (F := F) (c := thr d L) (src := idxM L) (dst := s0W) (fs := m (a5Loc d)) (fd := f0) (G := lst d L m) (O := O) (W := W) (q := q)
    hN fun x => (lst_read x).symm) $$ [Hi Hs Hv HO]
  · isplitl [Hi]; · iexact Hi
    isplitl [Hs]; · iexact Hs
    isplitl [Hv]; · iexact Hv
    isplitl [HO]; · iexact HO
    iexact HM
  iintro ⟨Hs, -, Hv, HO⟩
  iapply h
  isplitl [Hs]
  · iapply (Entails.of_eq (congrArg (fun S : Finset (Idx (s0W.view.loc (thr d L))) => (s0W.view.loc (thr d L) ↦[S]{fullShare} lst d L m : sProp 𝕄))
      (View.set_whole cc0_scratch0))) $$ Hs
  isplitl [HP]; · iexact HP
  isplitl [HT]; · iexact HT
  isplitl [H1]; · iexact H1
  isplitl [H2]; · iexact H2
  isplitl [H3]; · iexact H3
  isplitl [HO]
  · isplitl [HO]; · iexact HO
    iexact HM
  isplitl [Hv]; · iexact Hv
  iexact HR

/-- The three tables' copies under way, and the tile's blocks of the three results. -/
theorem Inv_end {E : sProp 𝕄} :
    Inv d L m q f1 f2 f3 iprop(OM d L O W ∗ E) 128 128 128
      ⊢ iprop(Pair d L m 256 0 ∗ OM d L O W ∗ (Third d L m 128 0 ∗ (s0W.view.loc (thr d L) ↦[Finset.univ]{fullShare} lst d L m) ∗ E)) := by
  unfold Inv
  iintro ⟨Hi, HP, HT, -, -, -, HO, HE⟩
  isplitl [HP]; · iexact HP
  isplitl [HO]; · iexact HO
  isplitl [HT]; · iexact HT
  isplitl [Hi]; · iexact Hi
  iexact HE

theorem pair_next {A B C X : sProp 𝕄} : iprop(A ∗ B ∗ (C ∗ X)) ⊢ iprop(C ∗ B ∗ (A ∗ X)) := by
  iintro ⟨HA, HB, HC, HX⟩
  isplitl [HC]; · iexact HC
  isplitl [HB]; · iexact HB
  isplitl [HA]; · iexact HA
  iexact HX

/-- All the copies waited for: the three scratches hold the gathered tables. -/
theorem landed {A B C S : sProp 𝕄} :
    iprop(Third d L m 128 (rowN s3W * 128) ∗ OM d L O W ∗ (Pair d L m 256 (rowN s1W * 256)
        ∗ (s0W.view.loc (thr d L) ↦[Finset.univ]{fullShare} lst d L m) ∗ S ∗ A ∗ B ∗ C))
      ⊢ |={Set.univ}=> iprop(Held d L s1W (got1 d L m) A ∗ Held d L s2W (got2 d L m) B ∗ Held d L s3W (got3 d L m) C
        ∗ OM d L O W ∗ (s0W.view.loc (thr d L) ↦[Finset.univ]{fullShare} lst d L m)
        ∗ semVal (thr d L, .dma cc0_scratch5.sem) 0 ∗ semVal (thr d L, .dma cc0_scratch6.sem) 0 ∗ S : sProp 𝕄) := by
  unfold Held
  iintro ⟨HT, HO, HP, Hi, HS, HA, HB, HC⟩
  imod (batch_collect' countersEmb (thr d L) (show 0 < rowN s3W by decide)) $$ HT with ⟨H3, HV⟩
  imod (batch_collect' countersEmb (thr d L) (show 0 < rowN s1W by decide)) $$ HP with ⟨HP, HV'⟩
  ihave H3 := (Entails.of_eq (rows_whole d L s3W squeezes_S1x16_S16 (got3 d L m))) $$ H3
  ihave HP := (Entails.of_eq (pairRow_all d L m)) $$ HP
  icases HP with ⟨H1, H2⟩
  imodintro
  isplitl [H1 HA]
  · isplitl [H1]; · iexact H1
    iexact HA
  isplitl [H2 HB]
  · isplitl [H2]; · iexact H2
    iexact HB
  isplitl [H3 HC]
  · isplitl [H3]; · iexact H3
    iexact HC
  isplitl [HO]; · iexact HO
  isplitl [Hi]; · iexact Hi
  isplitl [HV']; · iexact HV'
  isplitl [HV]; · iexact HV
  iexact HS

/-- The gathered scratch, as the tile's block of the result reads. -/
theorem blk_read {n w : ℕ} [NeZero n] {α : Type} (tab : (⟨2, ![n, w]⟩ : Shape).Idx → α) (ix : S4096.Idx → BitVec 32) (L : grid0.Coords)
    {off : Fin 2 → ℕ} (hoff : off = ![256 * (L 1).val + 128 * (L 0).val, 0])
    (inb : ∀ a, off a + (⟨2, ![128, w]⟩ : Shape).size a ≤ (⟨2, ![4096, w]⟩ : Shape).size a) (x : (⟨2, ![128, w]⟩ : Shape).Idx) :
    gath tab ix ((Rect.unit (s := ⟨2, ![4096, w]⟩) off (⟨2, ![128, w]⟩ : Shape).size inb).emb x) = part tab ix L x := by
  subst hoff
  have h1 : (x 0).val < 128 := (x 0).isLt
  have h2 : (L 0).val < 2 := (L 0).isLt
  have h3 : (L 1).val < 16 := (L 1).isLt
  unfold part
  congr 1
  funext a
  match a with
  | 0 =>
    refine Fin.ext ?_
    show 256 * (L 1).val + 128 * (L 0).val + 1 * (x 0).val = (256 * (L 1).val + 128 * (L 0).val + (x 0).val) % 4096
    rw [Nat.mod_eq_of_lt (by omega)]; omega
  | 1 =>
    refine Fin.ext ?_
    show 0 + 1 * (x 1).val = (x 1).val
    omega

/-- A program stepped up to a bind, its continuation taken up again. -/
theorem step_unbind {I : sProp 𝕄} {α β : Type} {Q : α → sProp 𝕄} {p : Prog (TpuEff nD τ sig (Elt F) Λ₀ (thr d L).2) β}
    {k : β → Prog (TpuEff nD τ sig (Elt F) Λ₀ (thr d L).2) α}
    (h : I ⊢ wp frame (wpE (defs₀ (F := F)) 𝒱₀ (thr d L) none) Set.univ (p >>= k) Q) :
    I ⊢ wp frame (wpE (defs₀ (F := F)) 𝒱₀ (thr d L) none) Set.univ p fun r => wp frame (wpE (defs₀ (F := F)) 𝒱₀ (thr d L) none) Set.univ (k r) Q :=
  h.trans (Entails.of_eq (wp_bind frame (wpE (defs₀ (F := F)) 𝒱₀ (thr d L) none) Set.univ p k _))

attribute [local irreducible] wp Inv

variable (F L) in
/-- The call's program on the tile. -/
abbrev wideProg := cc0__wide_kernel (F := F) L (Memref.whole main_arg0_scv) (Memref.isWhole_whole _) (Memref.whole main_arg1_scv) (Memref.isWhole_whole _) (Memref.whole main_arg2_scv) (Memref.isWhole_whole _) (Memref.whole main_arg5_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 cc0_scoped2 cc0_scoped3

theorem wide_spec (hr : InRange (ixs d m)) {g0 g1 g2} :
    WideStart d L m q f1 f2 f3 f0 O W iprop(Dest d L o0W (k0_off261 L) (k0_off261_inb L) cc0_scoped1.sem g0
        ∗ Dest d L o1W (k0_off261 L) (k0_off261_inb L) cc0_scoped2.sem g1 ∗ Dest d L o2W (k0_off262 L) (k0_off262_inb L) cc0_scoped3.sem g2)
      ⊢ wp frame (wpE (defs₀ (F := F)) 𝒱₀ (thr d L) none) Set.univ (wideProg F L) fun _ =>
        iprop(Held d L s1W (got1 d L m) (Dest d L o0W (k0_off261 L) (k0_off261_inb L) cc0_scoped1.sem (gath (m (a0Loc d)) (ixs d m)))
          ∗ Held d L s2W (got2 d L m) (Dest d L o1W (k0_off261 L) (k0_off261_inb L) cc0_scoped2.sem (gath (m (a1Loc d)) (ixs d m)))
          ∗ Held d L s3W (got3 d L m) (Dest d L o2W (k0_off262 L) (k0_off262_inb L) cc0_scoped3.sem (gath (m (a2Loc d)) (ixs d m)))
          ∗ OM d L O W ∗ (s0W.view.loc (thr d L) ↦[Finset.univ]{fullShare} lst d L m)
          ∗ semVal (thr d L, .dma cc0_scratch5.sem) 0 ∗ semVal (thr d L, .dma cc0_scratch6.sem) 0 ∗ semVal (thr d L, .dma cc0_scoped0.sem) 0) := by
  rw [wideProg, cc0__wide_kernel_eq_skeleton, cc0__wide_kernel_skel]
  refine step_bind (half₁_spec hr (fun v w hw hv hwd => ?_) fun h => wide_idx h)
  refine step_bind ?_
  rw [k0_part116_eq_skeleton, k0_part116_skel]
  refine step₂ hr (by decide) (by rfl) (by rfl) rfl hwd ?_
  refine step₃ hr (by decide) (by rfl) rfl hwd ?_
  repeat
    first
      | refine step_chk (chk_of hr (lane_of (by decide) hv)) ?_
      | refine step₁ hr (by decide) (by rfl) (by rfl) rfl (lane_of (by decide) hv) ?_
      | refine step₂ hr (by decide) (by rfl) (by rfl) rfl (lane_of (by decide) hv) ?_
      | refine step₃ hr (by decide) (by rfl) rfl (lane_of (by decide) hv) ?_
      | (refine step_load (by decide) fun v hv => ?_)
  refine Inv_end.trans ?_
  refine step_bind (step_bind (step_pure (step_bind ?_)))
  refine step_drain (F := F) (d := d) (L := L) (O := O) (W := W) (N := rowN s1W) (D := pairRow d L m) (v := rowN s1W * 128) (Entails.refl _) (M := 128) (by rfl)
    (Nat.zero_add _) (Nat.mul_le_mul_left _ (by decide)) (fun _ => by rfl) ?_
  beta_reduce
  refine step_bind ?_
  refine step_drain (F := F) (d := d) (L := L) (O := O) (W := W) (N := rowN s1W) (D := pairRow d L m) (v := rowN s1W * 256) (Entails.refl _) (M := 128) (by rfl)
    (Nat.mul_add _ 128 128).symm (le_refl _) (fun _ => by rfl) ?_
  beta_reduce
  refine step_bind ?_
  refine step_drain (F := F) (d := d) (L := L) (O := O) (W := W) (N := rowN s3W) (v := rowN s3W * 128) pair_next (M := 128) (by rfl)
    (Nat.zero_add _) (le_refl _) (fun _ => by rfl) ?_
  beta_reduce
  refine wp_of_fupd frame _ Set.univ landed ?_
  refine step_unbind (step_unbind ?_)
  refine step_out (F := F) (d := d) (L := L) (O := O) (W := W) (out := o0W) (Gout := gath (m (a0Loc d)) (ixs d m)) perm₁ ?_ ?_ ((perm₁'.trans rot).trans ?_)
  · exact View.dmaCredit_pos _ (by decide)
  · exact fun x => blk_read _ _ L (k0_off261_eq L) _ x
  refine step_out (F := F) (d := d) (L := L) (O := O) (W := W) (out := o1W) (Gout := gath (m (a1Loc d)) (ixs d m)) perm₁ ?_ ?_ ((perm₁'.trans rot).trans ?_)
  · exact View.dmaCredit_pos _ (by decide)
  · exact fun x => blk_read _ _ L (k0_off261_eq L) _ x
  refine step_out (F := F) (d := d) (L := L) (O := O) (W := W) (out := o2W) (Gout := gath (m (a2Loc d)) (ixs d m)) perm₁ ?_ ?_ ((perm₁'.trans rot).trans ?_)
  · exact View.dmaCredit_pos _ (by decide)
  · exact fun x => blk_read _ _ L (k0_off262_eq L) _ x
  exact step_pure (Entails.refl _)

end Cert.Proof
-- ==== Proof.Gather.lean ====
/-
  An indirect gather issued as part of a batch: its rows are the next transfers of the batch, one row's credit each,
  so two gathers may be in flight on one semaphore and be waited for one after the other.
-/
module

public import proofs.«01_k».proof.Proof.Copies

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

/-- The first issue rights of a batch, apart from those after them. -/
theorem pending_take {n : ℕ} (Φ : Fin n → sProp 𝕄) : ∀ (o j : ℕ) (h : j + o ≤ n),
    bigSep (pending j) Φ ⊢ iprop((bigSep Finset.univ fun i : Fin o => Φ ⟨j + i.val, by have := i.isLt; omega⟩) ∗ bigSep (pending (j + o)) Φ)
  | 0, j, h => by
    rw [Finset.univ_eq_empty, BI.bigSep_empty]
    iintro H
    isplitr; · iempintro
    iexact H
  | o + 1, j, h => by
    have ih := pending_take Φ o (j + 1) (by omega)
    have e : j + 1 + o = j + (o + 1) := by omega
    have e₂ : bigSep (pending (j + 1 + o)) Φ = bigSep (pending (j + (o + 1))) Φ := by rw [e]
    rw [e₂] at ih
    rw [bigSep_univ_succ, pending_succ (show j < n by omega), BI.bigSep_insert (not_mem_pending_succ (show j < n by omega))]
    have e' : (bigSep Finset.univ fun i : Fin o => Φ ⟨j + 1 + i.val, by have := i.isLt; omega⟩)
        = bigSep Finset.univ fun i : Fin o => Φ ⟨j + (Fin.succ i).val, by have := i.isLt; simp only [Fin.val_succ]; omega⟩ :=
      BI.bigSep_congr fun i _ => congrArg Φ (Fin.ext (by simp only [Fin.val_succ]; omega))
    rw [e'] at ih
    change iprop(Φ ⟨j + (0 : Fin (o + 1)).val, by simp only [Fin.val_zero]; omega⟩ ∗ bigSep (pending (j + 1)) Φ) ⊢ _
    iintro ⟨H0, H⟩
    ihave H := ih $$ H
    icases H with ⟨H1, H2⟩
    isplitl [H0 H1]
    · isplitl [H0]; · iexact H0
      iexact H1
    iexact H2

section Gather

variable {c : Thread nD τ} {sp : Space} {s₀ s si : Shape} {e : EltTy} {a : ℕ}

/-- The list's entry that names row `j`. -/
def entryOf {o : ℕ} (hn : si.numel = o) (j : Fin o) : si.Idx := si.rowMajor.symm (j.cast hn.symm)

theorem entryOf_bijective {o : ℕ} (hn : si.numel = o) : Function.Bijective (entryOf hn) :=
  si.rowMajor.symm.bijective.comp (finCongr hn.symm).bijective

/-- A gathered row, and the list's entry that named it. -/
def gotRow (c : Thread nD τ) (dst : Memref sig c.2.kind .vmem s e) (hg : s₀.Gathers a s) (offs : Memref sig c.2.kind .vmem si .i32)
    (hn : si.numel = s.size hg.axis') (qo : PosShare TreeShare) (fo : Buf (Elt F) (offs.view.loc c)) (G : Buf (Elt F) (dst.view.loc c))
    (j : Fin (s.size hg.axis')) : sProp 𝕄 :=
  iprop((dst.view.loc c ↦[(dst.view.slice (s.rowRect hg.axis' j)).set]{fullShare} G) ∗ (offs.view.loc c ↦[{offs.view.emb (entryOf hn j)}]{qo} fo))

instance gotRow_storable {dst : Memref sig c.2.kind .vmem s e} {hg : s₀.Gathers a s} {offs : Memref sig c.2.kind .vmem si .i32}
    {hn : si.numel = s.size hg.axis'} {qo : PosShare TreeShare} {fo : Buf (Elt F) (offs.view.loc c)} {G : Buf (Elt F) (dst.view.loc c)}
    {j : Fin (s.size hg.axis')} : Storable (upEmb : UEmb _ 𝕄) (gotRow c dst hg offs hn qo fo G j) := by
  unfold gotRow; infer_instance

/-- The rows gathered are the destination, and their entries the list. -/
theorem gotRows {dst : Memref sig c.2.kind .vmem s e} {hg : s₀.Gathers a s} {offs : Memref sig c.2.kind .vmem si .i32}
    {hn : si.numel = s.size hg.axis'} {qo : PosShare TreeShare} {fo : Buf (Elt F) (offs.view.loc c)} {G : Buf (Elt F) (dst.view.loc c)} :
    (bigSep Finset.univ fun j => gotRow c dst hg offs hn qo fo G j)
      ⊢ (iprop((dst.view.loc c ↦[dst.view.set]{fullShare} G) ∗ (offs.view.loc c ↦[offs.view.set]{qo} fo)) : sProp 𝕄) := by
  unfold gotRow
  rw [pointsTo_rows c dst.view hg.axis' fullShare G, pointsTo_entries c offs.view (entryOf hn) (entryOf_bijective hn) qo fo]
  exact bigSep_sep_out _ _ _

set_option maxHeartbeats 1000000 in
/-- The gather's issue: its rows are the batch's next transfers. -/
theorem gather_issue {n : ℕ} {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {α : Type} {Q : α → sProp 𝕄} {k : PUnit → Prog (TpuEff nD τ sig (Elt F) Λ₀ c.2) α}
    {q qo : PosShare TreeShare} {fs : Buf (Elt F) (src.view.loc c)} {fd G : Buf (Elt F) (dst.view.loc c)} {fo : Buf (Elt F) (offs.view.loc c)}
    {D : Fin n → sProp 𝕄} {j u N : ℕ} (hs : 0 < s.numel) (hj : j + s.size hg.axis' ≤ n) (hu : u ≤ j * N)
    (hN : ∀ i, (dst.slice (s.rowRect hg.axis' i) (s.stride_rowRect hg.axis' i)).view.dmaCredit = N)
    (hin : ∀ x, (offs.view.read (Elt F) fo x).toNat < s₀.size hg.axis)
    (hG : ∀ i x, dst.view.read (Elt F) G ((s.rowRect hg.axis' i).emb x)
      = src.view.read (Elt F) fs (hg.rowIdx ⟨(offs.view.read (Elt F) fo (entryOf hn i)).toNat, hin _⟩ x))
    (hD : ∀ i : Fin (s.size hg.axis'), gotRow c dst hg offs hn qo fo G i ⊢ D ⟨j + i.val, by have := i.isLt; omega⟩) :
    iprop((src.view.loc c ↦[src.view.set]{q} fs) ∗ (dst.view.loc c ↦[dst.view.set]{fullShare} fd)
        ∗ (offs.view.loc c ↦[offs.view.set]{qo} fo) ∗ MixedBatch countersEmb c (.dma sem) (none : HIx 2) (fun _ : Fin n => N) D j u)
      ⊢ iprop((MixedBatch countersEmb c (.dma sem) (none : HIx 2) (fun _ : Fin n => N) D (j + s.size hg.axis') u
            -∗ wp frame (wpE (defs₀ (F := F)) 𝒱₀ c none) Set.univ (k ⟨⟩) Q)
          -∗ wp frame (wpE (defs₀ (F := F)) 𝒱₀ c none) Set.univ (SparseCore.enqueueIndirectGather hp src dst hg offs hn sem hsrc he hsp hr >>= k) Q) := by
  rw [SparseCore.enqueueIndirectGather_bind]
  have ho : 0 < s.size hg.axis' := Shape.size_pos_of_numel_pos hs _
  let S : Stream nD τ sig (Elt F) :=
    Stream.issued c offs.view hn sem (fun j w => (SparseCore.rowOf (s₀.size hg.axis) w).map (SparseCore.gatherRow c src dst hg sem hsrc he hsp hr j)) 0
  let rd : Fin (s.size hg.axis') → RowDma τ sig (Elt F) c.2 sem := fun i =>
    SparseCore.gatherRow c src dst hg sem hsrc he hsp hr i ⟨(offs.view.read (Elt F) fo (entryOf hn i)).toNat, hin _⟩
  have hA : S.RowsAgree := by
    intro i w w' r r' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (SparseCore.rowOf (s₀.size hg.axis) (offs.view.read (Elt F) fo (entryOf hn i))).map _ = _
    rw [SparseCore.rowOf_of_lt (hin _)]; rfl
  have hsum : ∑ i, (rd i).dst.view.dmaCredit = s.size hg.axis' * N := by
    rw [Finset.sum_congr rfl fun i _ => hN i]; simp
  unfold MixedBatch
  iintro ⟨Hs, Hd, Ho, ⟨%γ, %γ₀, %κ, #Hinv, HI, H0, Hcred⟩⟩ Hk
  ihave HI := (pending_take (F := F) (fun t => count countersEmb (γ t) 0) (s.size hg.axis') j hj) $$ HI
  icases HI with ⟨Ht, HI⟩
  ihave Hd := (Entails.of_eq (pointsTo_rows c dst.view hg.axis' fullShare fd)) $$ Hd
  ihave Ho := (Entails.of_eq (pointsTo_entries c offs.view (entryOf hn) (entryOf_bijective hn) qo fo)) $$ Ho
  ihave Hs := (Entails.of_eq (pointsTo_piecesOf (src.view.set) fs ho q)) $$ Hs
  have hrow : ∀ i, iprop(inv κ (mixedBody countersEmb (c, SemLoc.dma sem) (fun _ : Fin n => N) D γ γ₀)
        ∗ (((dst.view.loc c ↦[(dst.view.slice (s.rowRect hg.axis' i)).set]{fullShare} fd) ∗ (offs.view.loc c ↦[{offs.view.emb (entryOf hn i)}]{qo} fo))
        ∗ ((src.view.loc c ↦[src.view.set]{pieceOf q _ ho i} fs) ∗ count countersEmb (γ ⟨j + i.val, by have := i.isLt; omega⟩) 0)))
      ⊢ iprop(S.heldEntry qo fo i ∗ (S.heldEntry qo fo i -∗ rowRes c (rd i))) := fun i => by
    have hres : iprop(BI.emp ∗ (((dst.view.loc c ↦[(dst.view.slice (s.rowRect hg.axis' i)).set]{fullShare}
            ((dst.view.slice (s.rowRect hg.axis' i)).write (Elt F) fd (fun x => src.view.read (Elt F) fs (hg.rowIdx ⟨(offs.view.read (Elt F) fo (entryOf hn i)).toNat, hin _⟩ x)) Finset.univ))
          ∗ S.heldEntry qo fo i) ∗ (src.view.loc c ↦[src.view.set]{pieceOf q _ ho i} fs))) ⊢ D ⟨j + i.val, by have := i.isLt; omega⟩ := by
      refine BIBase.Entails.trans ?_ (hD i)
      unfold gotRow
      rw [pointsTo_congr (write_of_read (Val := Elt F) (dst.view.slice (s.rowRect hg.axis' i)) fd G _ fun x => hG i x)]
      iintro ⟨-, ⟨Hr, He⟩, -⟩
      isplitl [Hr]; · iexact Hr
      iexact He
    have hcr := mixedBatch_creditUpdate_with countersEmb (g := (c, SemLoc.dma sem)) (A := fun _ : Fin n => N) (D := D) (γ := γ) (γ₀ := γ₀) (ι := κ)
      ⟨j + i.val, by have := i.isLt; omega⟩ hres
    iintro ⟨#Hinv, ⟨Hr, He⟩, Hsq, Hγ⟩
    isplitl [He]; · iexact He
    iintro He
    unfold rowRes
    iexists pieceOf q _ ho i, fs, iprop((dst.view.loc c ↦[(dst.view.slice (s.rowRect hg.axis' i)).set]{fullShare}
            ((dst.view.slice (s.rowRect hg.axis' i)).write (Elt F) fd (fun x => src.view.read (Elt F) fs (hg.rowIdx ⟨(offs.view.read (Elt F) fo (entryOf hn i)).toNat, hin _⟩ x)) Finset.univ))
          ∗ S.heldEntry qo fo i)
    isplitl [Hsq]; · iexact Hsq
    isplitl [Hr He]
    · iapply writeUpdate_frame
      isplitl [Hr]
      · iapply (pointsTo_writeUpdate c (v := dst.view.slice (s.rowRect hg.axis' i)) subset_rfl) $$ Hr
      · iexact He
    rw [show (rd i).dst.view.amount (.dma sem) = N from hN i]
    iapply hcr
    isplitr; · iexact Hinv
    isplitl [Hγ]; · iexact Hγ
    iempintro
  iapply (wp_enqueueIndirectDma 𝒱₀ c none Set.univ (qo := qo) (fo := fo) (rd := rd) (none : HIx 2) (s.size hg.axis' * N) hA hrd hsum) $$ [Hd Ho Hs Ht]
  · unfold Stream.res
    ihave H1 := bigSep_sep_in _ _ _ $$ [Hd Ho]; · isplitl [Hd] <;> iassumption
    ihave H2 := bigSep_sep_in _ _ _ $$ [Hs Ht]; · isplitl [Hs] <;> iassumption
    ihave H3 := bigSep_sep_in _ _ _ $$ [H1 H2]; · isplitl [H1] <;> iassumption
    iapply (bigSep_mono_pers Finset.univ _ _ _ fun i _ => hrow i)
    isplitr; · iexact Hinv
    iexact H3
  iintro Hcred'
  iapply Hk
  iexists γ, γ₀, κ
  isplitr; · iexact Hinv
  isplitl [HI]; · iexact HI
  isplitl [H0]; · iexact H0
  rw [show sumTo (fun _ : Fin n => N) (j + s.size hg.axis') - u = (sumTo (fun _ : Fin n => N) j - u) + s.size hg.axis' * N by
    rw [sumTo_const N hj, sumTo_const N (Nat.le_trans (Nat.le_add_right _ _) hj), Nat.add_mul]; omega, ← tallyAt_add]
  icombine Hcred Hcred' as H
  iexact H

end Gather

end Cert.Proof
-- ==== Proof.NarrowSteps.lean ====
/-
  The word-gathering call, one operation at a time. Its two tables are one-column tables laid out sixteen words to the
  row, so a word is named by a row (the index shifted right by four bits) and a column (its low four bits). A tile
  forms the row numbers sixteen at a time, gathers those rows into its scratch, and picks each row's one word out.
-/
module

public import proofs.«01_k».proof.Proof.Wide
public import proofs.«01_k».proof.Proof.Gather

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

variable {d : Dev nD} {L : grid0.Coords} {m : (ℓ : Loc nD τ sig) → Buf (Elt F) ℓ} {O : CellTallies nD τ sig (HIx 2)} {W : Waits sig (HIx 2)}

abbrev t3W : Memref sig .scVector .hbm S62500x16 .f32 := Memref.whole main_v0_scv
abbrev t4W : Memref sig .scVector .hbm S62500x16 .i32 := Memref.whole main_v1_scv
abbrev p3W : Memref sig .scVector .hbm S4096 .f32 := Memref.whole main_v3_0_scv
abbrev p4W : Memref sig .scVector .hbm S4096 .i32 := Memref.whole main_v3_1_scv
abbrev n0W : Memref sig .scVector .vmem S128 .i32 := Memref.whole cc1_scratch0
abbrev n1W : Memref sig .scVector .vmem S128 .i32 := Memref.whole cc1_scratch1
abbrev n2W : Memref sig .scVector .vmem S128x16 .f32 := Memref.whole cc1_scratch2
abbrev n3W : Memref sig .scVector .vmem S128x16 .i32 := Memref.whole cc1_scratch3
abbrev n4W : Memref sig .scVector .vmem S128 .f32 := Memref.whole cc1_scratch4
abbrev n5W : Memref sig .scVector .vmem S128 .i32 := Memref.whole cc1_scratch5

/-! ## The words named -/

/-- The row of a word, and its column there. -/
def hiW (w : BitVec 32) : BitVec 32 := IntOp.shrsi .vector w 4#32
def loW (w : BitVec 32) : BitVec 32 := IntOp.andi w 15#32

theorem hiW_toNat {w : BitVec 32} (h : w.toNat < 1000000) : (hiW w).toNat = w.toNat / 16 := by
  have hm : w.msb = false := by rw [BitVec.msb_eq_decide]; simp; omega
  unfold hiW IntOp.shrsi
  rw [if_pos (by decide), BitVec.sshiftRight', BitVec.sshiftRight_eq_of_msb_false hm, BitVec.toNat_ushiftRight, Nat.shiftRight_eq_div_pow]
  rfl

theorem loW_toNat (w : BitVec 32) : (loW w).toNat = w.toNat % 16 := by
  show (w &&& 15#32).toNat = _
  rw [BitVec.toNat_and]
  exact Nat.and_two_pow_sub_one_eq_mod _ 4

/-- The rows of the words of an index list. -/
def hiL (ix : S4096.Idx → BitVec 32) : S4096.Idx → BitVec 32 := fun x => hiW (ix x)

/-- A table laid out sixteen words to the row, at the words an index list names. -/
def pick {α : Type} (t : S62500x16.Idx → α) (ix : S4096.Idx → BitVec 32) : S4096.Idx → α :=
  fun x => t (rc (Fin.ofNat 62500 (hiW (ix x)).toNat) (Fin.ofNat 16 (loW (ix x)).toNat))

/-- Word `t` of the tile's part of them. -/
def sel {α : Type} (tab : S62500x16.Idx → α) (ix : S4096.Idx → BitVec 32) (L : grid0.Coords) (t : ℕ) : α :=
  pick tab ix (ix1 (Fin.ofNat 4096 (256 * (L 1).val + 128 * (L 0).val + t)))

/-! ## A scratch vector being filled from its start -/

section Fill

variable {e : EltTy} (M : Memref sig .scVector .vmem S128 e) (G : ℕ → Elt F e)

variable (d L) in
/-- The first `k` words are `G`'s. -/
def Fill (k : ℕ) : sProp 𝕄 :=
  iprop(∃ f, ⌜∀ i : Fin 128, i.val < k → M.view.read (Elt F) f (ix1 i) = G i.val⌝ ∗ (M.view.loc (thr d L) ↦[M.view.set]{fullShare} f))

theorem Fill_start (f : Buf (Elt F) (M.view.loc (thr d L))) : ((M.view.loc (thr d L) ↦[M.view.set]{fullShare} f) : sProp 𝕄) ⊢ Fill d L M G 0 := by
  unfold Fill
  iintro H
  iexists f
  isplitr
  · ipureintro; intro i h; exact absurd h (Nat.not_lt_zero _)
  iexact H

theorem Fill_end (g : Buf (Elt F) (M.view.loc (thr d L))) (hg : ∀ i : Fin 128, M.view.read (Elt F) g (ix1 i) = G i.val) :
    Fill d L M G 128 ⊢ ((M.view.loc (thr d L) ↦[M.view.set]{fullShare} g) : sProp 𝕄) := by
  unfold Fill
  iintro ⟨%f, %hf, H⟩
  have hfg : ∀ i ∈ M.view.set, f i = g i := by
    intro i hi
    obtain ⟨x, -, rfl⟩ := Finset.mem_map.mp hi
    have h := (hf (x 0) (x 0).isLt).trans (hg (x 0)).symm
    have hx : (ix1 (n := 128) (x 0) : S128.Idx) = x := ix1_eta x
    rw [hx, View.read_apply, View.read_apply] at h
    exact (cast_inj _).1 h
  iapply (Entails.of_eq (pointsTo_congr hfg)) $$ H

/-- Sixteen more words. -/
theorem Fill_store {α : Type} {Q : α → sProp 𝕄} {I I' Fr : sProp 𝕄} {k : PUnit → Prog (TpuEff nD τ sig (Elt F) Λ₀ (thr d L).2) α}
    {o : ℕ} {inb} {w : S16.Idx → Elt F e} {h1 h2} (hI : I ⊢ iprop(Fill d L M G o ∗ Fr)) (hI' : iprop(Fill d L M G (o + 16) ∗ Fr) ⊢ I')
    (hw : ∀ l : Fin 16, w (ix1 l) = G (o + l.val))
    (h : I' ⊢ wp frame (wpE (defs₀ (F := F)) 𝒱₀ (thr d L) none) Set.univ (k ⟨⟩) Q) :
    I ⊢ wp frame (wpE (defs₀ (F := F)) 𝒱₀ (thr d L) none) Set.univ
      (.op (.store M (Rect.unit (s := S128) ![o] S16.size inb) w Finset.univ h1 h2) k) Q := by
  refine hI.trans ?_
  have hF : ∀ f : Buf (Elt F) (M.view.loc (thr d L)), (∀ i : Fin 128, i.val < o → M.view.read (Elt F) f (ix1 i) = G i.val) →
      ∀ i : Fin 128, i.val < o + 16 → M.view.read (Elt F) ((M.access (Rect.unit (s := S128) ![o] S16.size inb)).write (Elt F) f w Finset.univ) (ix1 i) = G i.val := by
    intro f hf i hi
    by_cases hlt : i.val < o
    · refine (View.read_slice_write_of_not_mem (v := M.view) (Rect.unit (s := S128) ![o] S16.size inb) f w _ ?_).trans (hf i hlt)
      intro hmem
      obtain ⟨x, -, hx⟩ := Finset.mem_map.mp hmem
      have hx0 : o + 1 * (x 0).val = i.val := congrArg (fun z : S128.Idx => (z 0).val) hx
      omega
    · have he : (ix1 i : S128.Idx) = (Rect.unit (s := S128) ![o] S16.size inb).emb (ix1 (n := 16) ⟨i.val - o, by omega⟩) := by
        funext a
        match a with
        | 0 => refine Fin.ext ?_; show i.val = o + 1 * (i.val - o); omega
      rw [he]
      refine (View.read_slice_write_emb (v := M.view) (Rect.unit (s := S128) ![o] S16.size inb) f w (Finset.mem_univ _)).trans ((hw _).trans ?_)
      congr 1
      show o + (i.val - o) = i.val
      omega
  unfold Fill at hI' ⊢
  iintro ⟨⟨%f, %hf, H⟩, HF⟩
  iapply (wp_store 𝒱₀ (thr d L) none Set.univ (m := M) (r := (Rect.unit (s := S128) ![o] S16.size inb)) (S := M.view.set) (f := f) (View.set_slice_subset M.view _)) $$ H
  iintro H
  iapply (hI'.trans h)
  isplitl [H]
  · iexists _
    isplitr; · ipureintro; exact hF f hf
    iexact H
  iexact HF

/-- A load whose words nothing reads. -/
theorem Fill_load {α : Type} {Q : α → sProp 𝕄} {I Fr : sProp 𝕄} {a o : ℕ} {inb hl} {k : (S16.Idx → Elt F e) → Prog (TpuEff nD τ sig (Elt F) Λ₀ (thr d L).2) α}
    (hI : I ⊢ iprop(Fill d L M G a ∗ Fr)) (hI' : iprop(Fill d L M G a ∗ Fr) ⊢ I)
    (h : ∀ v, I ⊢ wp frame (wpE (defs₀ (F := F)) 𝒱₀ (thr d L) none) Set.univ (k v) Q) :
    I ⊢ wp frame (wpE (defs₀ (F := F)) 𝒱₀ (thr d L) none) Set.univ
      (.op (.load M (Rect.unit (s := S128) ![o] S16.size inb).toLoadRect hl) k) Q := by
  refine hI.trans ?_
  unfold Fill at hI' ⊢
  iintro ⟨⟨%f, %hf, H⟩, HF⟩
  iapply (wp_load_rect 𝒱₀ (thr d L) none Set.univ (m := M) (r := (Rect.unit (s := S128) ![o] S16.size inb)) (S := M.view.set) (f := f) (View.set_slice_subset M.view _)) $$ H
  iintro H
  iapply (hI'.trans (h _))
  isplitl [H]
  · iexists f
    isplitr; · ipureintro; exact hf
    iexact H
  iexact HF

/-- A load of sixteen words. -/
theorem whole_load {α : Type} {Q : α → sProp 𝕄} {I Fr : sProp 𝕄} {o : ℕ} {inb hl} {k : (S16.Idx → Elt F e) → Prog (TpuEff nD τ sig (Elt F) Λ₀ (thr d L).2) α}
    {f : Buf (Elt F) (M.view.loc (thr d L))} (hf : ∀ i : Fin 128, M.view.read (Elt F) f (ix1 i) = G i.val)
    (hI : I ⊢ iprop((M.view.loc (thr d L) ↦[M.view.set]{fullShare} f) ∗ Fr)) (hI' : iprop((M.view.loc (thr d L) ↦[M.view.set]{fullShare} f) ∗ Fr) ⊢ I)
    (h : ∀ v : S16.Idx → Elt F e, (∀ l : Fin 16, v (ix1 l) = G (o + l.val)) → (I ⊢ wp frame (wpE (defs₀ (F := F)) 𝒱₀ (thr d L) none) Set.univ (k v) Q)) :
    I ⊢ wp frame (wpE (defs₀ (F := F)) 𝒱₀ (thr d L) none) Set.univ
      (.op (.load M (Rect.unit (s := S128) ![o] S16.size inb).toLoadRect hl) k) Q := by
  refine hI.trans ?_
  have ho : o + 16 ≤ 128 := inb 0
  have hv : ∀ l : Fin 16, (M.access (Rect.unit (s := S128) ![o] S16.size inb)).read (Elt F) f (ix1 l) = G (o + l.val) := by
    intro l
    refine Eq.trans ?_ (hf ⟨o + l.val, by omega⟩)
    show M.view.read (Elt F) f _ = M.view.read (Elt F) f _
    congr 1
    funext a
    match a with
    | 0 => refine Fin.ext ?_; show o + 1 * l.val = o + l.val; omega
  iintro ⟨H, HF⟩
  iapply (wp_load_rect 𝒱₀ (thr d L) none Set.univ (m := M) (r := (Rect.unit (s := S128) ![o] S16.size inb)) (S := M.view.set) (f := f) (View.set_slice_subset M.view _)) $$ H
  iintro H
  iapply (hI'.trans (h _ hv))
  isplitl [H]; · iexact H
  iexact HF

end Fill

/-! ## Picking sixteen words out of sixteen gathered rows -/

/-- The row numbers within the scratch. -/
theorem rows_of {o : ℕ} (ho : o + 16 ≤ 128) (l : Fin 16) :
    (addi (iota .scVector S16 32 [0] iota_S16_d0_w32_scVector) (broadcast S16 (BitVec.ofNat 32 o)) (ix1 l)).toNat = o + l.val := by
  have hk : iota .scVector S16 32 [0] iota_S16_d0_w32_scVector (ix1 l) = BitVec.ofNat 32 l.val := by
    simp [iota, ix1]
  show (iota .scVector S16 32 [0] iota_S16_d0_w32_scVector (ix1 l) + BitVec.ofNat 32 o).toNat = _
  have := l.isLt
  rw [hk, BitVec.toNat_add, BitVec.toNat_ofNat, BitVec.toNat_ofNat]
  omega

theorem idx_lt {rows cols : IVec S16 32} {o : ℕ} (ho : o + 16 ≤ 128) {ix : S4096.Idx → BitVec 32}
    (hr : ∀ l : Fin 16, (rows (ix1 l)).toNat = o + l.val) (hc : ∀ l : Fin 16, cols (ix1 l) = loW (word ix L (o + l.val))) :
    ∀ a x, ((![rows, cols] : Fin 2 → IVec S16 32) a x).toNat < S128x16.size a := by
  intro a x
  rw [← ix1_eta x]
  match a with
  | 0 => refine (Eq.trans_lt (hr (x 0)) ?_); have := (x 0).isLt; change o + (x 0).val < 128; change (x 0).val < 16 at this; omega
  | 1 =>
    show (cols (ix1 (x 0))).toNat < 16
    exact Eq.trans_lt ((congrArg BitVec.toNat (hc (x 0))).trans (loW_toNat _)) (Nat.mod_lt _ (by decide))

/-- A load of the whole of a scratch of gathered rows. -/
theorem rows_load {α : Type} {e : EltTy} {Q : α → sProp 𝕄} {I Fr : sProp 𝕄} {M : Memref sig .scVector .vmem S128x16 e} {hl}
    {k : (S128x16.Idx → Elt F e) → Prog (TpuEff nD τ sig (Elt F) Λ₀ (thr d L).2) α} {f : Buf (Elt F) (M.view.loc (thr d L))}
    (G : S128x16.Idx → Elt F e) (hf : ∀ x, M.view.read (Elt F) f x = G x)
    (hI : I ⊢ iprop((M.view.loc (thr d L) ↦[M.view.set]{fullShare} f) ∗ Fr)) (hI' : iprop((M.view.loc (thr d L) ↦[M.view.set]{fullShare} f) ∗ Fr) ⊢ I)
    (h : ∀ v : S128x16.Idx → Elt F e, (∀ x, v x = G x) → (I ⊢ wp frame (wpE (defs₀ (F := F)) 𝒱₀ (thr d L) none) Set.univ (k v) Q)) :
    I ⊢ wp frame (wpE (defs₀ (F := F)) 𝒱₀ (thr d L) none) Set.univ
      (.op (.load M (Rect.whole S128x16).toLoadRect hl) k) Q := by
  refine hI.trans ?_
  have hv : ∀ x, (M.access (.whole S128x16)).read (Elt F) f x = G x := by
    intro x
    refine Eq.trans ?_ (hf x)
    show M.view.read (Elt F) f _ = M.view.read (Elt F) f _
    congr 1
    funext a
    exact Fin.ext (by show 0 + 1 * (x a).val = (x a).val; omega)
  iintro ⟨H, HF⟩
  iapply (wp_load_rect 𝒱₀ (thr d L) none Set.univ (m := M) (r := .whole S128x16) (S := M.view.set) (f := f) (View.set_slice_subset M.view _)) $$ H
  iintro H
  iapply (hI'.trans (h _ hv))
  isplitl [H]; · iexact H
  iexact HF

/-- The sixteen words picked out of them. -/
theorem pick_words {α : Type} {o : ℕ} {tab : S62500x16.Idx → α} {ix : S4096.Idx → BitVec 32} {v : S128x16.Idx → α} {rows cols : IVec S16 32}
    (hv : ∀ x, v x = part tab (hiL ix) L x) (hr : ∀ l : Fin 16, (rows (ix1 l)).toNat = o + l.val)
    (hc : ∀ l : Fin 16, cols (ix1 l) = loW (word ix L (o + l.val)))
    (hin : ∀ a x, ((![rows, cols] : Fin 2 → IVec S16 32) a x).toNat < S128x16.size a) (l : Fin 16) :
    v (idxAt (s := S128x16) ![rows, cols] hin (ix1 l)) = sel tab ix L (o + l.val) := by
  have hx : idxAt (s := S128x16) ![rows, cols] hin (ix1 l) = rc (n := 128) (w := 16) ⟨o + l.val, by have := hin 0 (ix1 l); change (rows (ix1 l)).toNat < 128 at this; rw [hr] at this; exact this⟩
      (Fin.ofNat 16 (loW (word ix L (o + l.val))).toNat) := by
    funext a
    match a with
    | 0 => refine Fin.ext ?_; show (rows (ix1 l)).toNat = o + l.val; rw [hr]
    | 1 =>
      refine Fin.ext ?_
      show (cols (ix1 l)).toNat = (loW (word ix L (o + l.val))).toNat % 16
      rw [hc, Nat.mod_eq_of_lt (by rw [loW_toNat]; exact Nat.mod_lt _ (by decide))]
  rw [hv, hx]
  rfl

end Cert.Proof
-- ==== Proof.Narrow.lean ====
/-
  The word-gathering call on one tile, from its first copy to its last.
-/
module

public import proofs.«01_k».proof.Proof.NarrowSteps

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

variable {d : Dev nD} {L : grid0.Coords} {m : (ℓ : Loc nD τ sig) → Buf (Elt F) ℓ} {O : CellTallies nD τ sig (HIx 2)} {W : Waits sig (HIx 2)}

variable {rs : S62500x16.Idx → Elt F .f32} {ri : S62500x16.Idx → Elt F .i32} {q : PosShare TreeShare}

/-! ## The two gathers -/

/-- The tables, as the gathers name them. -/
abbrev t3M : Memref sig .scVector .hbm S62500x16 .f32 :=
  t3W.slice (Rect.unit (s := S62500x16) ![0, 0] S62500x16.size inb_S62500x16_S62500x16_0_0) (fun _ => rfl)
abbrev t4M : Memref sig .scVector .hbm S62500x16 .i32 :=
  t4W.slice (Rect.unit (s := S62500x16) ![0, 0] S62500x16.size inb_S62500x16_S62500x16_0_0) (fun _ => rfl)

/-- What one gathered row counts on its semaphore. -/
abbrev rowC : ℕ := (n2W.slice (S128x16.rowRect gathers_S62500x16_S128x16.axis' (0 : Fin 128)) (S128x16.stride_rowRect gathers_S62500x16_S128x16.axis' (0 : Fin 128))).view.dmaCredit

/-- The list of row numbers. -/
def slst (d : Dev nD) (L : grid0.Coords) (m : (ℓ : Loc nD τ sig) → Buf (Elt F) ℓ) : S128.Idx → BitVec 32 := fun x => hiW (word (ixs d m) L (x 0).val)

theorem slst_lt (hr : InRange (ixs d m)) (x : S128.Idx) : (slst d L m x).toNat < S62500x16.size gathers_S62500x16_S128x16.axis := by
  show (hiW _).toNat < 62500
  have := hr (ix1 (Fin.ofNat 4096 (256 * (L 1).val + 128 * (L 0).val + (x 0).val)))
  exact (hiW_toNat this).trans_lt (by omega)

theorem entry_eq (hn : S128.numel = S128x16.size gathers_S62500x16_S128x16.axis') (i : Fin 128) : entryOf (si := S128) hn i = ix1 i := by
  unfold entryOf
  rw [Equiv.symm_apply_eq]
  refine Fin.ext ?_
  rw [Shape.rowMajor_val_one]
  rfl

/-- Row `i` of the gathered scratch is the table's row that entry `i` of the list names. -/
theorem row_read {α : Type} (tab : S62500x16.Idx → α) (hr : InRange (ixs d m)) {hn : S128.numel = S128x16.size gathers_S62500x16_S128x16.axis'}
    (i : Fin (S128x16.size gathers_S62500x16_S128x16.axis')) (x : (S128x16.rowShape gathers_S62500x16_S128x16.axis').Idx) :
    part tab (hiL (ixs d m)) L ((S128x16.rowRect gathers_S62500x16_S128x16.axis' i).emb x)
      = tab ((Rect.unit (s := S62500x16) ![0, 0] S62500x16.size inb_S62500x16_S62500x16_0_0).emb
          (gathers_S62500x16_S128x16.rowIdx ⟨(slst d L m (entryOf hn i)).toNat, slst_lt hr _⟩ x)) := by
  have hlt := slst_lt (L := L) hr (entryOf hn i)
  rw [show entryOf (si := S128) hn i = ix1 (n := 128) i from entry_eq hn i] at hlt
  change (hiW (word (ixs d m) L i.val)).toNat < 62500 at hlt
  have h0 : ((S128x16.rowRect gathers_S62500x16_S128x16.axis' i).emb x 0).val = i.val := by
    show i.val + 1 * (x (0 : Fin 2)).val = i.val
    have : (x (0 : Fin 2)).val < 1 := (x (0 : Fin 2)).isLt
    omega
  unfold part gath
  congr 1
  funext a
  match a with
  | 0 =>
    refine Fin.ext ?_
    show (hiW (word (ixs d m) L ((S128x16.rowRect gathers_S62500x16_S128x16.axis' i).emb x 0).val)).toNat % 62500 = 0 + 1 * (slst d L m (entryOf hn i)).toNat
    rw [h0, show entryOf (si := S128) hn i = ix1 (n := 128) i from entry_eq hn i, Nat.mod_eq_of_lt hlt]
    show _ = 0 + 1 * (hiW (word (ixs d m) L i.val)).toNat
    omega
  | 1 =>
    refine Fin.ext ?_
    show 0 + 1 * (x (1 : Fin 2)).val = 0 + 1 * (x (1 : Fin 2)).val
    rfl

variable (d L m) in
/-- The tile's scratch while it forms the list of row numbers: its first `k` are in place. -/
def N1 (k : ℕ) (R : sProp 𝕄) : sProp 𝕄 :=
  iprop((n0W.view.loc (thr d L) ↦[n0W.view.set]{fullShare} lst d L m) ∗ Fill d L n1W (fun t => hiW (word (ixs d m) L t)) k ∗ R)

variable (d L m rs ri) in
/-- The tile's scratch while it picks words: `a` and `b` of the two results' words are in place. -/
def N2 (a b : ℕ) (R : sProp 𝕄) : sProp 𝕄 :=
  iprop((n0W.view.loc (thr d L) ↦[n0W.view.set]{fullShare} lst d L m)
    ∗ (n2W.view.loc (thr d L) ↦[n2W.view.set]{fullShare} part rs (hiL (ixs d m)) L)
    ∗ (n3W.view.loc (thr d L) ↦[n3W.view.set]{fullShare} part ri (hiL (ixs d m)) L)
    ∗ Fill d L n4W (sel rs (ixs d m) L) a ∗ Fill d L n5W (sel ri (ixs d m) L) b ∗ R)

variable (d L rs ri q) in
/-- What the gathers start from, beside the list. -/
def GStart (f2 : Buf (Elt F) (n2W.view.loc (thr d L))) (f3 : Buf (Elt F) (n3W.view.loc (thr d L)))
    (f4 : Buf (Elt F) (n4W.view.loc (thr d L))) (f5 : Buf (Elt F) (n5W.view.loc (thr d L))) (O : CellTallies nD τ sig (HIx 2)) (W : Waits sig (HIx 2)) (S : sProp 𝕄) : sProp 𝕄 :=
  iprop((t3M.view.loc (thr d L) ↦[t3M.view.set]{q} rs) ∗ (t4M.view.loc (thr d L) ↦[t4M.view.set]{q} ri)
    ∗ (n2W.view.loc (thr d L) ↦[n2W.view.set]{fullShare} f2) ∗ (n3W.view.loc (thr d L) ↦[n3W.view.set]{fullShare} f3)
    ∗ semVal (thr d L, .dma cc1_scratch6.sem) 0 ∗ OM d L O W
    ∗ (n4W.view.loc (thr d L) ↦[n4W.view.set]{fullShare} f4) ∗ (n5W.view.loc (thr d L) ↦[n5W.view.set]{fullShare} f5) ∗ S)

section Gathers

variable (d L m rs ri) in
/-- The batch's deliveries: the first table's rows, then the second's. -/
def rowsD (t : Fin 256) : sProp 𝕄 :=
  if h : t.val < 128 then
    gotRow (thr d L) n2W gathers_S62500x16_S128x16 n1W rfl fullShare.left (slst d L m) (part rs (hiL (ixs d m)) L) ⟨t.val, h⟩
  else
    gotRow (thr d L) n3W gathers_S62500x16_S128x16 n1W rfl fullShare.right (slst d L m) (part ri (hiL (ixs d m)) L) ⟨t.val - 128, by have := t.isLt; show t.val - 128 < 128; omega⟩

instance rowsD_storable {t : Fin 256} : Storable (upEmb : UEmb _ 𝕄) (rowsD d L m rs ri t) := by
  unfold rowsD; split <;> exact gotRow_storable

/-- All of them: both scratches gathered, and the list. -/
theorem rowsD_all : bigSep Finset.univ (rowsD d L m rs ri)
    ⊢ iprop((n2W.view.loc (thr d L) ↦[n2W.view.set]{fullShare} part rs (hiL (ixs d m)) L)
      ∗ (n3W.view.loc (thr d L) ↦[n3W.view.set]{fullShare} part ri (hiL (ixs d m)) L)
      ∗ (n1W.view.loc (thr d L) ↦[n1W.view.set]{fullShare} slst d L m)) := by
  have h0 := pending_take (F := F) (n := 256) (rowsD d L m rs ri) 128 0 (by decide)
  have h1 := pending_take (F := F) (n := 256) (rowsD d L m rs ri) 128 128 (by decide)
  rw [pending_zero] at h0
  have e0 : (fun i : Fin 128 => rowsD d L m rs ri ⟨0 + i.val, by have := i.isLt; omega⟩)
      = fun i : Fin 128 => gotRow (thr d L) n2W gathers_S62500x16_S128x16 n1W rfl fullShare.left (slst d L m) (part rs (hiL (ixs d m)) L) i := by
    funext i
    unfold rowsD
    rw [dif_pos (by show 0 + i.val < 128; have := i.isLt; omega)]
    congr 1
    exact Fin.ext (Nat.zero_add _)
  have e1 : (fun i : Fin 128 => rowsD d L m rs ri ⟨128 + i.val, by have := i.isLt; omega⟩)
      = fun i : Fin 128 => gotRow (thr d L) n3W gathers_S62500x16_S128x16 n1W rfl fullShare.right (slst d L m) (part ri (hiL (ixs d m)) L) i := by
    funext i
    unfold rowsD
    rw [dif_neg (by show ¬ (128 + i.val < 128); omega)]
    congr 1
    exact Fin.ext (Nat.add_sub_cancel_left _ _)
  have g2 : (bigSep Finset.univ fun i : Fin 128 => gotRow (thr d L) n2W gathers_S62500x16_S128x16 n1W rfl fullShare.left (slst d L m) (part rs (hiL (ixs d m)) L) i) ⊢ _ :=
    gotRows (F := F) (c := thr d L) (dst := n2W) (hg := gathers_S62500x16_S128x16) (offs := n1W) (hn := rfl) (qo := fullShare.left)
      (fo := slst d L m) (G := part rs (hiL (ixs d m)) L)
  have g3 : (bigSep Finset.univ fun i : Fin 128 => gotRow (thr d L) n3W gathers_S62500x16_S128x16 n1W rfl fullShare.right (slst d L m) (part ri (hiL (ixs d m)) L) i) ⊢ _ :=
    gotRows (F := F) (c := thr d L) (dst := n3W) (hg := gathers_S62500x16_S128x16) (offs := n1W) (hn := rfl) (qo := fullShare.right)
      (fo := slst d L m) (G := part ri (hiL (ixs d m)) L)
  rw [e0] at h0
  rw [e1] at h1
  iintro H
  ihave H := h0 $$ H
  icases H with ⟨H2, H⟩
  ihave H := h1 $$ H
  icases H with ⟨H3, -⟩
  ihave H2 := g2 $$ H2
  ihave H3 := g3 $$ H3
  icases H2 with ⟨H2, Ha⟩
  icases H3 with ⟨H3, Hb⟩
  isplitl [H2]; · iexact H2
  isplitl [H3]; · iexact H3
  iapply (pointsTo_share (PosShare.mem_left_op_right fullShare)).2
  isplitl [Ha]; · iexact Ha
  iexact Hb

theorem step_gathers {f2 f3 f4 f5} {S : sProp 𝕄} {α : Type} {Q : α → sProp 𝕄} (hr : InRange (ixs d m)) {hn hsrc he hsp hr' hsrc2 he2 hsp2 hr2 h1 h2 h3 h4}
    {k : PUnit → Prog (TpuEff nD τ sig (Elt F) Λ₀ (thr d L).2) α}
    (h : N2 d L m rs ri 0 0 iprop(OM d L O W ∗ semVal (thr d L, .dma cc1_scratch6.sem) 0
        ∗ (n1W.view.loc (thr d L) ↦[n1W.view.set]{fullShare} slst d L m) ∗ S)
      ⊢ wp frame (wpE (defs₀ (F := F)) 𝒱₀ (thr d L) none) Set.univ (k ⟨⟩) Q) :
    N1 d L m 128 (GStart d L rs ri q f2 f3 f4 f5 O W S) ⊢ wp frame (wpE (defs₀ (F := F)) 𝒱₀ (thr d L) none) Set.univ
      (SparseCore.enqueueIndirectGather rfl t3M n2W gathers_S62500x16_S128x16 n1W hn cc1_scratch6.sem hsrc he hsp hr' >>= fun _ =>
        SparseCore.enqueueIndirectGather rfl t4M n3W gathers_S62500x16_S128x16 n1W hn cc1_scratch6.sem hsrc2 he2 hsp2 hr2 >>= fun _ =>
        .op (.waitDma2 cc1_scratch6.sem t3M n2W h1 h2) fun _ => .op (.waitDma2 cc1_scratch6.sem t4M n3W h3 h4) k) Q := by
  obtain ⟨N, hC, hN2, hN3, hJ2, hJ3⟩ : ∃ N : ℕ, 0 < N
      ∧ (∀ i, (n2W.slice (S128x16.rowRect gathers_S62500x16_S128x16.axis' i) (S128x16.stride_rowRect gathers_S62500x16_S128x16.axis' i)).view.dmaCredit = N)
      ∧ (∀ i, (n3W.slice (S128x16.rowRect gathers_S62500x16_S128x16.axis' i) (S128x16.stride_rowRect gathers_S62500x16_S128x16.axis' i)).view.dmaCredit = N)
      ∧ n2W.view.dmaCredit = 128 * N ∧ n3W.view.dmaCredit = 128 * N :=
    ⟨rowC, by decide, fun i => rfl, fun i => rfl, by decide, by decide⟩
  have hsum : sumTo (fun _ : Fin 256 => N) 256 = 256 * N := sumTo_const N (le_refl _)
  unfold N1 GStart
  unfold N2 at h
  iintro ⟨Hi, Hl, H3, H4, Hd2, Hd3, Hv, HOM, Hn4, Hn5, HS⟩
  ihave Hl := (Fill_end n1W _ (slst d L m) fun i => rfl) $$ Hl
  ihave Hl := (pointsTo_share (PosShare.mem_left_op_right fullShare)).1 $$ Hl
  icases Hl with ⟨Hl, Hl'⟩
  unfold OM at h ⊢
  icases HOM with ⟨HO, #HM⟩
  imod (mixedBatch_alloc' countersEmb (thr d L) (none : HIx 2) (fun _ : Fin 256 => N) (rowsD d L m rs ri)) $$ Hv with HB
  iapply (gather_issue (F := F) (c := thr d L) (n := 256) (src := t3M) (dst := n2W) (offs := n1W) (hn := hn) (q := q) (qo := fullShare.left) (fs := rs) (fd := f2)
    (G := part rs (hiL (ixs d m)) L) (fo := slst d L m) (D := rowsD d L m rs ri) (j := 0) (u := 0) (N := N)
    (by decide) (by decide) (Nat.zero_le _) hN2 (fun x => slst_lt hr x) (fun i x => row_read rs hr (hn := hn) i x) ?_) $$ [H3 Hd2 Hl HB]
  · intro i
    unfold rowsD
    rw [dif_pos (by show 0 + i.val < 128; have : i.val < 128 := i.isLt; omega)]
    refine Entails.of_eq ?_
    congr 1
    exact Fin.ext (Nat.zero_add _).symm
  · isplitl [H3]; · iexact H3
    isplitl [Hd2]; · iexact Hd2
    isplitl [Hl]; · iexact Hl
    iexact HB
  iintro HB
  iapply (gather_issue (F := F) (c := thr d L) (n := 256) (src := t4M) (dst := n3W) (offs := n1W) (hn := hn) (q := q) (qo := fullShare.right) (fs := ri) (fd := f3)
    (G := part ri (hiL (ixs d m)) L) (fo := slst d L m) (D := rowsD d L m rs ri) (j := 128) (u := 0) (N := N)
    (by decide) (by decide) (Nat.zero_le _) hN3 (fun x => slst_lt hr x) (fun i x => row_read ri hr (hn := hn) i x) ?_) $$ [H4 Hd3 Hl' HB]
  · intro i
    unfold rowsD
    rw [dif_neg (by show ¬ (128 + i.val < 128); omega)]
    refine Entails.of_eq ?_
    congr 1
    exact Fin.ext (Nat.add_sub_cancel_left _ _).symm
  · isplitl [H4]; · iexact H4
    isplitl [Hd3]; · iexact Hd3
    isplitl [Hl']; · iexact Hl'
    iexact HB
  iintro HB
  ihave HO := owed_elim $$ HO
  icases HO with ⟨%W', %hW', HO⟩
  iapply (wp_waitMixedBatchO countersEmb 𝒱₀ (thr d L) none (none : HIx 2) (dstw := n2W) (A := fun _ : Fin 256 => N) (D := rowsD d L m rs ri) (J := 128 * N) (j := 256) (u := 0) (O := O) (W := W') hJ2
    (by rw [hsum]; omega)) $$ [HB HO]
  · isplitl [HB]; · iexact HB
    isplitl [HO]; · iexact HO
    iapply (MayWaits.elim (.dma cc1_scratch6.sem)) $$ HM
  iintro ⟨HB, HO⟩
  iapply (wp_waitMixedBatchAllO countersEmb 𝒱₀ (thr d L) none (none : HIx 2) (dstw := n3W) (A := fun _ : Fin 256 => N) (D := rowsD d L m rs ri) (J := 128 * N) (u := 0 + 128 * N) (O := O) hJ3 (fun _ => hC)
    (by rw [hsum]; omega)) $$ [HB HO]
  · isplitl [HB]; · iexact HB
    isplitl [HO]; · iexact HO
    iapply (MayWaits.elim (.dma cc1_scratch6.sem)) $$ HM
  iintro ⟨HD, Hv, HO⟩
  ihave HD := rowsD_all $$ HD
  icases HD with ⟨H2, H3, Hl⟩
  iapply h
  isplitl [Hi]; · iexact Hi
  isplitl [H2]; · iexact H2
  isplitl [H3]; · iexact H3
  isplitl [Hn4]
  · iapply (Fill_start n4W _ f4) $$ Hn4
  isplitl [Hn5]
  · iapply (Fill_start n5W _ f5) $$ Hn5
  isplitl [HO]
  · isplitl [HO]
    · iapply (owed_insert (fun p hp => (Finset.mem_insert.1 hp).elim (fun e => Or.inr (e ▸ rfl)) (hW' p))) $$ HO
    iexact HM
  isplitl [Hv]; · iexact Hv
  isplitl [Hl]; · iexact Hl
  iexact HS

end Gathers

end Cert.Proof
-- ==== Proof.NarrowTile.lean ====
/-
  The word-gathering call on one tile, from its first copy to its last.
-/
module

public import proofs.«01_k».proof.Proof.Narrow

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

variable {d : Dev nD} {L : grid0.Coords} {m : (ℓ : Loc nD τ sig) → Buf (Elt F) ℓ} {O : CellTallies nD τ sig (HIx 2)} {W : Waits sig (HIx 2)}

variable {rs : S62500x16.Idx → Elt F .f32} {ri : S62500x16.Idx → Elt F .i32} {q : PosShare TreeShare}

/-! ## The order of a tile's holdings -/

theorem third {A B C X : sProp 𝕄} : iprop(A ∗ B ∗ C ∗ X) ⊣⊢ iprop(C ∗ A ∗ B ∗ X) :=
  ⟨(sep_mono_right sep_left_comm.1).trans sep_left_comm.1, sep_left_comm.1.trans (sep_mono_right sep_left_comm.1)⟩
theorem fourth {A B C E X : sProp 𝕄} : iprop(A ∗ B ∗ C ∗ E ∗ X) ⊣⊢ iprop(E ∗ A ∗ B ∗ C ∗ X) :=
  ⟨(sep_mono_right third.1).trans sep_left_comm.1, sep_left_comm.1.trans (sep_mono_right third.2)⟩
theorem fifth {A B C E H X : sProp 𝕄} : iprop(A ∗ B ∗ C ∗ E ∗ H ∗ X) ⊣⊢ iprop(H ∗ A ∗ B ∗ C ∗ E ∗ X) :=
  ⟨(sep_mono_right fourth.1).trans sep_left_comm.1, sep_left_comm.1.trans (sep_mono_right fourth.2)⟩

/-! ## One operation at a time -/

section Steps

variable {α : Type} {a b o : ℕ} {inb : ∀ x, (![o] : Fin 1 → ℕ) x + S16.size x ≤ S128.size x}

/-- Sixteen words of the index list, while the row numbers are formed; -/
theorem n1_idx {R : sProp 𝕄} {Q : α → sProp 𝕄} {hl} {k : (S16.Idx → BitVec 32) → Prog (TpuEff nD τ sig (Elt F) Λ₀ (thr d L).2) α}
    (h : ∀ v : S16.Idx → BitVec 32, (∀ l : Fin 16, v (ix1 l) = word (ixs d m) L (o + l.val)) →
      (N1 d L m a R ⊢ wp frame (wpE (defs₀ (F := F)) 𝒱₀ (thr d L) none) Set.univ (k v) Q)) :
    N1 d L m a R ⊢ wp frame (wpE (defs₀ (F := F)) 𝒱₀ (thr d L) none) Set.univ
      (.op (.load n0W (Rect.unit (s := S128) ![o] S16.size inb).toLoadRect hl) k) Q :=
  whole_load (F := F) n0W (word (ixs d m) L) (fun i => rfl) (Entails.refl _) (Entails.refl _) h

/-- the row-number list's own words, which nothing reads; -/
theorem n1_old {R : sProp 𝕄} {Q : α → sProp 𝕄} {hl} {k : (S16.Idx → BitVec 32) → Prog (TpuEff nD τ sig (Elt F) Λ₀ (thr d L).2) α}
    (h : ∀ v : S16.Idx → BitVec 32, (N1 d L m a R ⊢ wp frame (wpE (defs₀ (F := F)) 𝒱₀ (thr d L) none) Set.univ (k v) Q)) :
    N1 d L m a R ⊢ wp frame (wpE (defs₀ (F := F)) 𝒱₀ (thr d L) none) Set.univ
      (.op (.load n1W (Rect.unit (s := S128) ![o] S16.size inb).toLoadRect hl) k) Q :=
  Fill_load (F := F) n1W _ sep_left_comm.1 sep_left_comm.1 h

/-- and sixteen row numbers put in place. -/
theorem n1_put {R : sProp 𝕄} {Q : α → sProp 𝕄} {w : S16.Idx → BitVec 32} {h1 h2} {k : PUnit → Prog (TpuEff nD τ sig (Elt F) Λ₀ (thr d L).2) α} {v : S16.Idx → BitVec 32}
    (hao : a = o) (hv : ∀ l : Fin 16, v (ix1 l) = word (ixs d m) L (o + l.val)) (hw : ∀ l : Fin 16, w (ix1 l) = hiW (v (ix1 l)))
    (h : N1 d L m (o + 16) R ⊢ wp frame (wpE (defs₀ (F := F)) 𝒱₀ (thr d L) none) Set.univ (k ⟨⟩) Q) :
    N1 d L m a R ⊢ wp frame (wpE (defs₀ (F := F)) 𝒱₀ (thr d L) none) Set.univ
      (.op (.store n1W (Rect.unit (s := S128) ![o] S16.size inb) w Finset.univ h1 h2) k) Q := by
  subst hao
  exact Fill_store (F := F) n1W _ sep_left_comm.1 sep_left_comm.1 (fun l => (hw l).trans (congrArg hiW (hv l))) h

/-- Sixteen words of the index list, while words are picked; -/
theorem n2_idx {R : sProp 𝕄} {Q : α → sProp 𝕄} {hl} {k : (S16.Idx → BitVec 32) → Prog (TpuEff nD τ sig (Elt F) Λ₀ (thr d L).2) α}
    (h : ∀ v : S16.Idx → BitVec 32, (∀ l : Fin 16, v (ix1 l) = word (ixs d m) L (o + l.val)) →
      (N2 d L m rs ri a b R ⊢ wp frame (wpE (defs₀ (F := F)) 𝒱₀ (thr d L) none) Set.univ (k v) Q)) :
    N2 d L m rs ri a b R ⊢ wp frame (wpE (defs₀ (F := F)) 𝒱₀ (thr d L) none) Set.univ
      (.op (.load n0W (Rect.unit (s := S128) ![o] S16.size inb).toLoadRect hl) k) Q :=
  whole_load (F := F) n0W (word (ixs d m) L) (fun i => rfl) (Entails.refl _) (Entails.refl _) h

/-- the gathered rows; -/
theorem n2_rows {R : sProp 𝕄} {Q : α → sProp 𝕄} {hl} {k : (S128x16.Idx → Elt F .f32) → Prog (TpuEff nD τ sig (Elt F) Λ₀ (thr d L).2) α}
    (h : ∀ v : S128x16.Idx → Elt F .f32, (∀ x, v x = part rs (hiL (ixs d m)) L x) →
      (N2 d L m rs ri a b R ⊢ wp frame (wpE (defs₀ (F := F)) 𝒱₀ (thr d L) none) Set.univ (k v) Q)) :
    N2 d L m rs ri a b R ⊢ wp frame (wpE (defs₀ (F := F)) 𝒱₀ (thr d L) none) Set.univ
      (.op (.load n2W (Rect.whole S128x16).toLoadRect hl) k) Q :=
  rows_load (F := F) _ (fun i => rfl) sep_left_comm.1 sep_left_comm.1 h

theorem n2_rows' {R : sProp 𝕄} {Q : α → sProp 𝕄} {hl} {k : (S128x16.Idx → BitVec 32) → Prog (TpuEff nD τ sig (Elt F) Λ₀ (thr d L).2) α}
    (h : ∀ v : S128x16.Idx → BitVec 32, (∀ x, v x = part (α := BitVec 32) ri (hiL (ixs d m)) L x) →
      (N2 d L m rs ri a b R ⊢ wp frame (wpE (defs₀ (F := F)) 𝒱₀ (thr d L) none) Set.univ (k v) Q)) :
    N2 d L m rs ri a b R ⊢ wp frame (wpE (defs₀ (F := F)) 𝒱₀ (thr d L) none) Set.univ
      (.op (.load n3W (Rect.whole S128x16).toLoadRect hl) k) Q :=
  rows_load (F := F) (part ri (hiL (ixs d m)) L) (fun i => rfl) third.1 third.2 h

/-- the results' old words, which nothing reads; -/
theorem n2_old {R : sProp 𝕄} {Q : α → sProp 𝕄} {hl} {k : (S16.Idx → Elt F .f32) → Prog (TpuEff nD τ sig (Elt F) Λ₀ (thr d L).2) α}
    (h : ∀ v, N2 d L m rs ri a b R ⊢ wp frame (wpE (defs₀ (F := F)) 𝒱₀ (thr d L) none) Set.univ (k v) Q) :
    N2 d L m rs ri a b R ⊢ wp frame (wpE (defs₀ (F := F)) 𝒱₀ (thr d L) none) Set.univ
      (.op (.load n4W (Rect.unit (s := S128) ![o] S16.size inb).toLoadRect hl) k) Q :=
  Fill_load (F := F) n4W _ fourth.1 fourth.2 h

theorem n2_old' {R : sProp 𝕄} {Q : α → sProp 𝕄} {hl} {k : (S16.Idx → BitVec 32) → Prog (TpuEff nD τ sig (Elt F) Λ₀ (thr d L).2) α}
    (h : ∀ v, N2 d L m rs ri a b R ⊢ wp frame (wpE (defs₀ (F := F)) 𝒱₀ (thr d L) none) Set.univ (k v) Q) :
    N2 d L m rs ri a b R ⊢ wp frame (wpE (defs₀ (F := F)) 𝒱₀ (thr d L) none) Set.univ
      (.op (.load n5W (Rect.unit (s := S128) ![o] S16.size inb).toLoadRect hl) k) Q :=
  Fill_load (F := F) n5W _ fifth.1 fifth.2 h

/-- and sixteen picked words put in place. -/
theorem n2_put {R : sProp 𝕄} {Q : α → sProp 𝕄} {v : S128x16.Idx → Elt F .f32} {rows cols : IVec S16 32} {hin h1 h2} {k : PUnit → Prog (TpuEff nD τ sig (Elt F) Λ₀ (thr d L).2) α}
    (hao : a = o) (hv : ∀ x, v x = part rs (hiL (ixs d m)) L x) (hr : ∀ l : Fin 16, (rows (ix1 l)).toNat = o + l.val)
    (hc : ∀ l : Fin 16, cols (ix1 l) = loW (word (ixs d m) L (o + l.val)))
    (h : N2 d L m rs ri (o + 16) b R ⊢ wp frame (wpE (defs₀ (F := F)) 𝒱₀ (thr d L) none) Set.univ (k ⟨⟩) Q) :
    N2 d L m rs ri a b R ⊢ wp frame (wpE (defs₀ (F := F)) 𝒱₀ (thr d L) none) Set.univ
      (.op (.store n4W (Rect.unit (s := S128) ![o] S16.size inb) (loadIdx (F := F) (e := .f32) (s := S128x16) v ![rows, cols] hin) Finset.univ h1 h2) k) Q := by
  subst hao
  exact Fill_store (F := F) n4W _ fourth.1 fourth.2 (fun l => pick_words hv hr hc hin l) h

theorem n2_put' {R : sProp 𝕄} {Q : α → sProp 𝕄} {v : S128x16.Idx → BitVec 32} {rows cols : IVec S16 32} {hin h1 h2} {k : PUnit → Prog (TpuEff nD τ sig (Elt F) Λ₀ (thr d L).2) α}
    (hao : b = o) (hv : ∀ x, v x = part (α := BitVec 32) ri (hiL (ixs d m)) L x) (hr : ∀ l : Fin 16, (rows (ix1 l)).toNat = o + l.val)
    (hc : ∀ l : Fin 16, cols (ix1 l) = loW (word (ixs d m) L (o + l.val)))
    (h : N2 d L m rs ri a (o + 16) R ⊢ wp frame (wpE (defs₀ (F := F)) 𝒱₀ (thr d L) none) Set.univ (k ⟨⟩) Q) :
    N2 d L m rs ri a b R ⊢ wp frame (wpE (defs₀ (F := F)) 𝒱₀ (thr d L) none) Set.univ
      (.op (.store n5W (Rect.unit (s := S128) ![o] S16.size inb) (loadIdx (F := F) (e := .i32) (s := S128x16) v ![rows, cols] hin) Finset.univ h1 h2) k) Q := by
  subst hao
  exact Fill_store (F := F) n5W _ fifth.1 fifth.2 (fun l => pick_words hv hr hc hin l) h

end Steps

/-- A rank-one array's block of the tile, as an index of the whole. -/
theorem blk1_emb {α : Type} (g : S4096.Idx → α) (L : grid0.Coords) {off : Fin 1 → ℕ} (hoff : off = ![256 * (L 1).val + 128 * (L 0).val])
    (inb : ∀ a, off a + S128.size a ≤ S4096.size a) (x : S128.Idx) :
    g ((Rect.unit (s := S4096) off S128.size inb).emb x) = g (ix1 (Fin.ofNat 4096 (256 * (L 1).val + 128 * (L 0).val + (x 0).val))) := by
  subst hoff
  congr 1
  funext a
  match a with
  | 0 =>
    refine Fin.ext ?_
    have h1 : (x 0).val < 128 := (x 0).isLt
    have h2 : (L 0).val < 2 := (L 0).isLt
    have h3 : (L 1).val < 16 := (L 1).isLt
    show 256 * (L 1).val + 128 * (L 0).val + 1 * (x 0).val = (256 * (L 1).val + 128 * (L 0).val + (x 0).val) % 4096
    rw [Nat.mod_eq_of_lt (by omega)]; omega

/-- The tile's part of the index list, and its blocks of the two results. -/
abbrev idxM1 (L : grid0.Coords) : Memref sig .scVector .hbm S128 .i32 :=
  a5W.slice (Rect.unit (s := S4096) (k1_off1 L) S128.size (k1_off1_inb L)) (fun _ => rfl)
abbrev p3M (L : grid0.Coords) : Memref sig .scVector .hbm S128 .f32 :=
  p3W.slice (Rect.unit (s := S4096) (k1_off2 L) S128.size (k1_off2_inb L)) (fun _ => rfl)
abbrev p4M (L : grid0.Coords) : Memref sig .scVector .hbm S128 .i32 :=
  p4W.slice (Rect.unit (s := S4096) (k1_off2 L) S128.size (k1_off2_inb L)) (fun _ => rfl)

/-- A copy made and waited for at once, beside everything else the tile holds. -/
theorem step_copy {I I' Fr : sProp 𝕄} {α : Type} {Q : α → sProp 𝕄} {sp sp' : Space} {s : Shape} {e : EltTy}
    {src : Memref sig .scVector sp s e} {dst : Memref sig .scVector sp' s e} {sm : DmaSem sig} {hsrc hdst hsem hsrc' hdst'}
    {k : PUnit → Prog (TpuEff nD τ sig (Elt F) Λ₀ (thr d L).2) α} {p : PosShare TreeShare} {fs : Buf (Elt F) (src.view.loc (thr d L))}
    {fd G : Buf (Elt F) (dst.view.loc (thr d L))} (hN : 0 < dst.view.dmaCredit) (hG : ∀ x, dst.view.read (Elt F) G x = src.view.read (Elt F) fs x)
    (hI : I ⊢ iprop((src.view.loc (thr d L) ↦[src.view.set]{p} fs) ∗ (dst.view.loc (thr d L) ↦[dst.view.set]{fullShare} fd) ∗ semVal (thr d L, .dma sm) 0 ∗ OM d L O W ∗ Fr))
    (hI' : iprop((dst.view.loc (thr d L) ↦[dst.view.set]{fullShare} G) ∗ (src.view.loc (thr d L) ↦[src.view.set]{p} fs) ∗ semVal (thr d L, .dma sm) 0 ∗ OM d L O W ∗ Fr) ⊢ I')
    (h : I' ⊢ wp frame (wpE (defs₀ (F := F)) 𝒱₀ (thr d L) none) Set.univ (k ⟨⟩) Q) :
    I ⊢ wp frame (wpE (defs₀ (F := F)) 𝒱₀ (thr d L) none) Set.univ
      (.op (.enqueueDma src (.here dst) (.dma sm) hsrc hdst hsem) fun _ => .op (.waitDma2 sm src dst hsrc' hdst') k) Q := by
  refine hI.trans ?_
  have hk := hI'.trans h
  unfold OM at hk ⊢
  iintro ⟨Hs, Hd, Hv, ⟨HO, #HM⟩, HR⟩
  iapply (copy_wait (F := F) (c := thr d L) (src := src) (dst := dst) (fs := fs) (fd := fd) (G := G) (O := O) (W := W) (q := p) hN hG) $$ [Hs Hd Hv HO]
  · isplitl [Hs]; · iexact Hs
    isplitl [Hd]; · iexact Hd
    isplitl [Hv]; · iexact Hv
    isplitl [HO]; · iexact HO
    iexact HM
  iintro ⟨Hd, Hs, Hv, HO⟩
  iapply hk
  isplitl [Hd]; · iexact Hd
  isplitl [Hs]; · iexact Hs
  isplitl [Hv]; · iexact Hv
  isplitl [HO]
  · isplitl [HO]; · iexact HO
    iexact HM
  iexact HR

attribute [local irreducible] wp N1 N2 Fill

variable (F L) in
/-- The call's program on the tile. -/
abbrev narrowProg := cc1__narrow_kernel (F := F) L (Memref.whole main_v0_scv) (Memref.isWhole_whole _) (Memref.whole main_v1_scv) (Memref.isWhole_whole _) (Memref.whole main_arg5_scv) (Memref.isWhole_whole _) (Memref.whole main_v3_0_scv) (Memref.isWhole_whole _) (Memref.whole main_v3_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scoped0 cc1_scoped1 cc1_scoped2

variable (d L m rs ri q O W) in
/-- What the tile starts the call with. -/
def NStart (f0 : Buf (Elt F) (n0W.view.loc (thr d L))) (f1 : Buf (Elt F) (n1W.view.loc (thr d L))) (f2 : Buf (Elt F) (n2W.view.loc (thr d L)))
    (f3 : Buf (Elt F) (n3W.view.loc (thr d L))) (f4 : Buf (Elt F) (n4W.view.loc (thr d L))) (f5 : Buf (Elt F) (n5W.view.loc (thr d L)))
    (g3 : Buf (Elt F) (p3W.view.loc (thr d L))) (g4 : Buf (Elt F) (p4W.view.loc (thr d L))) : sProp 𝕄 :=
  iprop(((idxM1 L).view.loc (thr d L) ↦[(idxM1 L).view.set]{q} (m (a5Loc d))) ∗ (n0W.view.loc (thr d L) ↦[n0W.view.set]{fullShare} f0)
    ∗ semVal (thr d L, .dma cc1_scoped0.sem) 0 ∗ OM d L O W ∗ (n1W.view.loc (thr d L) ↦[n1W.view.set]{fullShare} f1)
    ∗ (t3M.view.loc (thr d L) ↦[t3M.view.set]{q} rs) ∗ (t4M.view.loc (thr d L) ↦[t4M.view.set]{q} ri)
    ∗ (n2W.view.loc (thr d L) ↦[n2W.view.set]{fullShare} f2) ∗ (n3W.view.loc (thr d L) ↦[n3W.view.set]{fullShare} f3)
    ∗ semVal (thr d L, .dma cc1_scratch6.sem) 0
    ∗ (n4W.view.loc (thr d L) ↦[n4W.view.set]{fullShare} f4) ∗ (n5W.view.loc (thr d L) ↦[n5W.view.set]{fullShare} f5)
    ∗ ((p3M L).view.loc (thr d L) ↦[(p3M L).view.set]{fullShare} g3) ∗ semVal (thr d L, .dma cc1_scoped1.sem) 0
    ∗ ((p4M L).view.loc (thr d L) ↦[(p4M L).view.set]{fullShare} g4) ∗ semVal (thr d L, .dma cc1_scoped2.sem) 0)

variable (d L m rs ri O W) in
/-- What it ends with. -/
def NEnd : sProp 𝕄 :=
  iprop(((p4M L).view.loc (thr d L) ↦[(p4M L).view.set]{fullShare} pick ri (ixs d m)) ∗ ((p3M L).view.loc (thr d L) ↦[(p3M L).view.set]{fullShare} pick rs (ixs d m))
    ∗ OM d L O W
    ∗ (n0W.view.loc (thr d L) ↦[n0W.view.set]{fullShare} lst d L m) ∗ (n1W.view.loc (thr d L) ↦[n1W.view.set]{fullShare} slst d L m)
    ∗ (n2W.view.loc (thr d L) ↦[n2W.view.set]{fullShare} part rs (hiL (ixs d m)) L) ∗ (n3W.view.loc (thr d L) ↦[n3W.view.set]{fullShare} part ri (hiL (ixs d m)) L)
    ∗ (n4W.view.loc (thr d L) ↦[n4W.view.set]{fullShare} fun x : S128.Idx => sel rs (ixs d m) L (x 0).val)
    ∗ (n5W.view.loc (thr d L) ↦[n5W.view.set]{fullShare} fun x : S128.Idx => sel ri (ixs d m) L (x 0).val)
    ∗ semVal (thr d L, .dma cc1_scratch6.sem) 0 ∗ semVal (thr d L, .dma cc1_scoped0.sem) 0 ∗ semVal (thr d L, .dma cc1_scoped1.sem) 0 ∗ semVal (thr d L, .dma cc1_scoped2.sem) 0)

/-- The rest of what it holds while the words are gathered and picked. -/
abbrev NRest (d : Dev nD) (L : grid0.Coords) (g3 : Buf (Elt F) (p3W.view.loc (thr d L))) (g4 : Buf (Elt F) (p4W.view.loc (thr d L))) : sProp 𝕄 :=
  iprop(semVal (thr d L, .dma cc1_scoped0.sem) 0
    ∗ ((p3M L).view.loc (thr d L) ↦[(p3M L).view.set]{fullShare} g3) ∗ semVal (thr d L, .dma cc1_scoped1.sem) 0
    ∗ ((p4M L).view.loc (thr d L) ↦[(p4M L).view.set]{fullShare} g4) ∗ semVal (thr d L, .dma cc1_scoped2.sem) 0)

variable {f0 : Buf (Elt F) (n0W.view.loc (thr d L))} {f1 : Buf (Elt F) (n1W.view.loc (thr d L))} {f2 : Buf (Elt F) (n2W.view.loc (thr d L))}
    {f3 : Buf (Elt F) (n3W.view.loc (thr d L))} {f4 : Buf (Elt F) (n4W.view.loc (thr d L))} {f5 : Buf (Elt F) (n5W.view.loc (thr d L))}
    {g3 : Buf (Elt F) (p3W.view.loc (thr d L))} {g4 : Buf (Elt F) (p4W.view.loc (thr d L))}

/-- The list in, the row numbers yet to be formed. -/
theorem N_begin : iprop((n0W.view.loc (thr d L) ↦[n0W.view.set]{fullShare} lst d L m) ∗ ((idxM1 L).view.loc (thr d L) ↦[(idxM1 L).view.set]{q} (m (a5Loc d)))
      ∗ semVal (thr d L, .dma cc1_scoped0.sem) 0 ∗ OM d L O W ∗ (n1W.view.loc (thr d L) ↦[n1W.view.set]{fullShare} f1)
      ∗ (t3M.view.loc (thr d L) ↦[t3M.view.set]{q} rs) ∗ (t4M.view.loc (thr d L) ↦[t4M.view.set]{q} ri)
      ∗ (n2W.view.loc (thr d L) ↦[n2W.view.set]{fullShare} f2) ∗ (n3W.view.loc (thr d L) ↦[n3W.view.set]{fullShare} f3)
      ∗ semVal (thr d L, .dma cc1_scratch6.sem) 0
      ∗ (n4W.view.loc (thr d L) ↦[n4W.view.set]{fullShare} f4) ∗ (n5W.view.loc (thr d L) ↦[n5W.view.set]{fullShare} f5)
      ∗ ((p3M L).view.loc (thr d L) ↦[(p3M L).view.set]{fullShare} g3) ∗ semVal (thr d L, .dma cc1_scoped1.sem) 0
      ∗ ((p4M L).view.loc (thr d L) ↦[(p4M L).view.set]{fullShare} g4) ∗ semVal (thr d L, .dma cc1_scoped2.sem) 0)
    ⊢ N1 d L m 0 (GStart d L rs ri q f2 f3 f4 f5 O W (NRest d L g3 g4)) := by
  unfold N1 GStart NRest
  iintro ⟨Hi, -, Hv, HO, H1, H3, H4, H2, H5, Hv6, Hn4, Hn5, HR⟩
  isplitl [Hi]; · iexact Hi
  isplitl [H1]; · iapply (Fill_start n1W _ f1) $$ H1
  isplitl [H3]; · iexact H3
  isplitl [H4]; · iexact H4
  isplitl [H2]; · iexact H2
  isplitl [H5]; · iexact H5
  isplitl [Hv6]; · iexact Hv6
  isplitl [HO]; · iexact HO
  isplitl [Hn4]; · iexact Hn4
  isplitl [Hn5]; · iexact Hn5
  isplitl [Hv]; · iexact Hv
  iexact HR

/-- The words all picked. -/
theorem N_end {R : sProp 𝕄} : N2 d L m rs ri 128 128 R ⊢ iprop((n4W.view.loc (thr d L) ↦[n4W.view.set]{fullShare} fun x : S128.Idx => sel rs (ixs d m) L (x 0).val)
    ∗ (n5W.view.loc (thr d L) ↦[n5W.view.set]{fullShare} fun x : S128.Idx => sel ri (ixs d m) L (x 0).val)
    ∗ ((n0W.view.loc (thr d L) ↦[n0W.view.set]{fullShare} lst d L m)
      ∗ (n2W.view.loc (thr d L) ↦[n2W.view.set]{fullShare} part rs (hiL (ixs d m)) L) ∗ (n3W.view.loc (thr d L) ↦[n3W.view.set]{fullShare} part ri (hiL (ixs d m)) L)) ∗ R) := by
  unfold N2
  iintro ⟨H0, H2, H3, H4, H5, HR⟩
  ihave H4 := (Fill_end n4W _ (fun x : S128.Idx => sel rs (ixs d m) L (x 0).val) fun i => rfl) $$ H4
  ihave H5 := (Fill_end n5W _ (fun x : S128.Idx => sel ri (ixs d m) L (x 0).val) fun i => rfl) $$ H5
  isplitl [H4]; · iexact H4
  isplitl [H5]; · iexact H5
  isplitl [H0 H2 H3]
  · isplitl [H0]; · iexact H0
    isplitl [H2]; · iexact H2
    iexact H3
  iexact HR

section Out

/-- The holdings in the order in which the first result's copy takes them; -/
theorem out_a {A4 A5 A1 A6 X B3 V1 B4 V2 M Y : sProp 𝕄} : iprop(A4 ∗ A5 ∗ X ∗ M ∗ A6 ∗ A1 ∗ Y ∗ B3 ∗ V1 ∗ B4 ∗ V2) ⊢ iprop(A4 ∗ B3 ∗ V1 ∗ M ∗ (A5 ∗ X ∗ A6 ∗ A1 ∗ Y ∗ B4 ∗ V2)) := by
  iintro ⟨H4, H5, HX, HM, H6, H1, HY, HB, HV, HR⟩
  isplitl [H4]; · iexact H4
  isplitl [HB]; · iexact HB
  isplitl [HV]; · iexact HV
  isplitl [HM]; · iexact HM
  isplitl [H5]; · iexact H5
  isplitl [HX]; · iexact HX
  isplitl [H6]; · iexact H6
  isplitl [H1]; · iexact H1
  isplitl [HY]; · iexact HY
  iexact HR

/-- in the second result's; -/
theorem out_b {A4 A5 A1 A6 X B3 V1 B4 V2 M Y : sProp 𝕄} : iprop(B3 ∗ A4 ∗ V1 ∗ M ∗ (A5 ∗ X ∗ A6 ∗ A1 ∗ Y ∗ B4 ∗ V2)) ⊢ iprop(A5 ∗ B4 ∗ V2 ∗ M ∗ (B3 ∗ A4 ∗ V1 ∗ X ∗ A6 ∗ A1 ∗ Y)) := by
  iintro ⟨HB, H4, HV, HM, H5, HX, H6, H1, HY, HB4, HV2⟩
  isplitl [H5]; · iexact H5
  isplitl [HB4]; · iexact HB4
  isplitl [HV2]; · iexact HV2
  isplitl [HM]; · iexact HM
  isplitl [HB]; · iexact HB
  isplitl [H4]; · iexact H4
  isplitl [HV]; · iexact HV
  isplitl [HX]; · iexact HX
  isplitl [H6]; · iexact H6
  isplitl [H1]; · iexact H1
  iexact HY

end Out

/-- The gathers and their waits, as the program's operations. -/
theorem step_gathers_op {S : sProp 𝕄} {α : Type} {Q : α → sProp 𝕄} (hr : InRange (ixs d m)) {hp hp' hn hn' hsrc he hsp hr' hsrc2 he2 hsp2 hr2 h1 h2 h3 h4}
    {k : PUnit → Prog (TpuEff nD τ sig (Elt F) Λ₀ (thr d L).2) α}
    (h : N2 d L m rs ri 0 0 iprop(OM d L O W ∗ semVal (thr d L, .dma cc1_scratch6.sem) 0
        ∗ (n1W.view.loc (thr d L) ↦[n1W.view.set]{fullShare} slst d L m) ∗ S)
      ⊢ wp frame (wpE (defs₀ (F := F)) 𝒱₀ (thr d L) none) Set.univ (k ⟨⟩) Q) :
    N1 d L m 128 (GStart d L rs ri q f2 f3 f4 f5 O W S) ⊢ wp frame (wpE (defs₀ (F := F)) 𝒱₀ (thr d L) none) Set.univ
      (.op (.enqueueIndirectDma hp n1W hn cc1_scratch6.sem fun j w => (SparseCore.rowOf (S62500x16.size gathers_S62500x16_S128x16.axis) w).map
          (SparseCore.gatherRow (thr d L) t3M n2W gathers_S62500x16_S128x16 cc1_scratch6.sem hsrc he hsp hr' j)) fun _ =>
        .op (.enqueueIndirectDma hp' n1W hn' cc1_scratch6.sem fun j w => (SparseCore.rowOf (S62500x16.size gathers_S62500x16_S128x16.axis) w).map
          (SparseCore.gatherRow (thr d L) t4M n3W gathers_S62500x16_S128x16 cc1_scratch6.sem hsrc2 he2 hsp2 hr2 j)) fun _ =>
        .op (.waitDma2 cc1_scratch6.sem t3M n2W h1 h2) fun _ => .op (.waitDma2 cc1_scratch6.sem t4M n3W h3 h4) k) Q :=
  step_gathers (hsp := hsp) (hr' := hr') (hsp2 := hsp2) (hr2 := hr2) hr h

/-- and at the tile's end. -/
theorem out_c {A0 A1 A2 A3 A4 A5 A6 B3 V1 B4 V2 M Y : sProp 𝕄} : iprop(B4 ∗ A5 ∗ V2 ∗ M ∗ (B3 ∗ A4 ∗ V1 ∗ (A0 ∗ A2 ∗ A3) ∗ A6 ∗ A1 ∗ Y))
    ⊢ iprop(B4 ∗ B3 ∗ M ∗ A0 ∗ A1 ∗ A2 ∗ A3 ∗ A4 ∗ A5 ∗ A6 ∗ Y ∗ V1 ∗ V2) := by
  iintro ⟨HB4, H5, HV2, HM, HB3, H4, HV1, ⟨H0, H2, H3⟩, H6, H1, HY⟩
  isplitl [HB4]; · iexact HB4
  isplitl [HB3]; · iexact HB3
  isplitl [HM]; · iexact HM
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HY]; · iexact HY
  isplitl [HV1]; · iexact HV1
  iexact HV2

/-- The call's program on a tile: its block of the two columns written. -/
theorem narrow_spec (hr : InRange (ixs d m)) :
    NStart d L m O W rs ri q f0 f1 f2 f3 f4 f5 g3 g4
      ⊢ wp frame (wpE (defs₀ (F := F)) 𝒱₀ (thr d L) none) Set.univ (narrowProg F L) fun _ => NEnd d L m O W rs ri := by
  rw [narrowProg, cc1__narrow_kernel_eq_skeleton, cc1__narrow_kernel_skel]
  refine step_bind ?_
  rw [k1_part1_eq_skeleton, k1_part1_skel]
  unfold NStart
  refine step_copy (F := F) (d := d) (L := L) (O := O) (W := W) (dst := n0W) (G := lst d L m) ?_ ?_ (Entails.refl _)
    (N_begin (rs := rs) (ri := ri) (q := q) (O := O) (W := W) (f1 := f1) (f2 := f2) (f3 := f3) (f4 := f4) (f5 := f5) (g3 := g3) (g4 := g4)) ?_
  · exact View.dmaCredit_pos _ (by decide)
  · exact fun x => (blk1_emb (m (a5Loc d)) L (k1_off1_eq L) _ x).symm
  repeat
    first
      | (refine n1_idx fun v hv => ?_)
      | (refine n1_old fun _ => ?_)
      | (refine n1_put (by rfl) hv (fun l => by rfl) ?_)
  refine step_pure ?_
  refine step_bind ?_
  rw [k1_part2_eq_skeleton, k1_part2_skel]
  repeat
    first
      | (refine n1_put (by rfl) hv (fun l => by rfl) ?_)
      | (refine n1_idx fun v hv => ?_)
      | (refine n1_old fun _ => ?_)
  refine step_gathers_op (F := F) (d := d) (L := L) (m := m) (O := O) (W := W) (rs := rs) (ri := ri) (q := q) (f2 := f2) (f3 := f3) (f4 := f4) (f5 := f5)
    (S := NRest d L g3 g4) (hp := rfl) (hp' := rfl) (hsp := .inl rfl) (hsp2 := .inl rfl) (hr' := by decide) (hr2 := by decide) hr ?_
  repeat
    first
      | (refine n2_idx fun v hv => ?_)
      | (refine n2_old fun _ => ?_)
      | (refine n2_old' fun _ => ?_)
      | (refine n2_rows fun w hw => ?_)
      | (refine n2_rows' fun w' hw' => ?_)
      | (refine n2_put (by rfl) hw (rows_of (by decide)) (fun l => congrArg loW (hv l)) ?_)
      | (refine n2_put' (by rfl) hw' (rows_of (by decide)) (fun l => congrArg loW (hv l)) ?_)
      | (refine step_chk ⟨idx_lt (by decide) (rows_of (by decide)) (fun l => congrArg loW (hv l)), idx_lt (by decide) (rows_of (by decide)) (fun l => congrArg loW (hv l))⟩ ?_)
  refine step_pure ?_
  refine step_bind ?_
  rw [k1_part3_eq_skeleton, k1_part3_skel]
  repeat
    first
      | (refine n2_idx fun v hv => ?_)
      | (refine n2_old fun _ => ?_)
      | (refine n2_old' fun _ => ?_)
      | (refine n2_rows fun w hw => ?_)
      | (refine n2_rows' fun w' hw' => ?_)
      | (refine n2_put (by rfl) hw (rows_of (by decide)) (fun l => congrArg loW (hv l)) ?_)
      | (refine n2_put' (by rfl) hw' (rows_of (by decide)) (fun l => congrArg loW (hv l)) ?_)
      | (refine step_chk ⟨idx_lt (by decide) (rows_of (by decide)) (fun l => congrArg loW (hv l)), idx_lt (by decide) (rows_of (by decide)) (fun l => congrArg loW (hv l))⟩ ?_)
  refine step_pure ?_
  refine step_bind ?_
  rw [k1_part4_eq_skeleton, k1_part4_skel]
  repeat
    first
      | (refine n2_idx fun v hv => ?_)
      | (refine n2_old fun _ => ?_)
      | (refine n2_old' fun _ => ?_)
      | (refine n2_rows fun w hw => ?_)
      | (refine n2_rows' fun w' hw' => ?_)
      | (refine n2_put (by rfl) hw (rows_of (by decide)) (fun l => congrArg loW (hv l)) ?_)
      | (refine n2_put' (by rfl) hw' (rows_of (by decide)) (fun l => congrArg loW (hv l)) ?_)
      | (refine step_chk ⟨idx_lt (by decide) (rows_of (by decide)) (fun l => congrArg loW (hv l)), idx_lt (by decide) (rows_of (by decide)) (fun l => congrArg loW (hv l))⟩ ?_)
  refine step_unbind ?_
  refine step_copy (F := F) (d := d) (L := L) (O := O) (W := W) (src := n4W) (dst := p3M L) (p := fullShare)
    (fs := fun x : S128.Idx => sel rs (ixs d m) L (x 0).val) (fd := g3) (G := pick rs (ixs d m)) ?_ ?_ (N_end.trans out_a) out_b ?_
  · exact View.dmaCredit_pos _ (by decide)
  · exact fun x => blk1_emb (pick rs (ixs d m)) L (k1_off2_eq L) _ x
  refine step_copy (F := F) (d := d) (L := L) (O := O) (W := W) (src := n5W) (dst := p4M L) (p := fullShare)
    (fs := fun x : S128.Idx => sel ri (ixs d m) L (x 0).val) (fd := g4) (G := pick ri (ixs d m)) ?_ ?_ (Entails.refl _) out_c ?_
  · exact View.dmaCredit_pos _ (by decide)
  · exact fun x => blk1_emb (pick ri (ixs d m)) L (k1_off2_eq L) _ x
  exact step_pure (Entails.refl _)

end Cert.Proof
-- ==== Proof.Tiles.lean ====
/-
  What the handshakes carry to each tile and back, and the two calls' programs run from it: a tile is handed read
  tokens of the tables and of its part of the index list, and its blocks of the results whole; it hands back the blocks
  holding the gathered rows.
-/
module

public import proofs.«01_k».proof.Proof.NarrowTile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 2) (Elt F) ℕ UU ℕ

variable (m : (ℓ : Loc nD τ sig) → Buf (Elt F) ℓ) (d : Dev nD) (L : grid0.Coords)

/-! ## A tile's own semaphores and buffers -/

/-- The members of a set that a one-to-one function names, and the rest. -/
theorem named_and_rest {I J : Type} [DecidableEq I] [DecidableEq J] {s : Finset I} {t : Finset J} {f : J → I} (inj : Function.Injective f)
    (sub : ∀ j ∈ t, f j ∈ s) (Φ : I → sProp 𝕄) : bigSep s Φ = iprop(bigSep t (fun j => Φ (f j)) ∗ bigSep (s \ t.image f) Φ) := by
  have h : t.image f ⊆ s := fun x hx => by obtain ⟨j, hj, rfl⟩ := Finset.mem_image.mp hx; exact sub j hj
  rw [SparseCore.bigSep_sdiff_split' h, SparseCore.bigSep_image_of_injOn inj.injOn]

/-- Some of a tile's own semaphores, and the rest. -/
theorem take_sems (S : Finset (SemLoc sig)) (hS : ∀ s ∈ S, s.isScoped .scVector = true) :
    (ownSems0 (thr d L) : sProp 𝕄)
      = iprop(bigSep S (fun s => semVal (thr d L, s) 0) ∗ bigSep (ownCells (thr d L) \ S.image fun s => (thr d L, s)) fun g => semVal g 0) := by
  unfold SparseCore.Cfg.ownSems0
  exact named_and_rest (f := fun s : SemLoc sig => ((thr d L, s) : GSem nD τ sig)) (fun a b e => (Prod.ext_iff.mp e).2) (fun s hs => mem_ownCells.mpr ⟨rfl, hS s hs⟩) _

/-- Some of a tile's own buffers, and the rest. -/
theorem take_bufs (B : Finset (Ref sig .scVector)) (hB : ∀ b ∈ B, ((Proc.scVector (cV L) (jV L)).devRef b : DevRef τ sig).owner = .proc (.scVector (cV L) (jV L))) :
    (ownBufs (thr d L) : sProp 𝕄)
      = iprop(bigSep B (fun b => iprop(∃ f, (thr d L).loc b ↦{fullShare} f))
        ∗ bigSep (ownRefs (τ := τ) (.scVector (cV L) (jV L)) \ B.image fun b => (Proc.scVector (cV L) (jV L)).devRef b)
            fun b => iprop(∃ f, ((d, b) : Loc nD τ sig) ↦{fullShare} f)) := by
  unfold SparseCore.Cfg.ownBufs
  exact named_and_rest (f := fun b : Ref sig .scVector => (Proc.scVector (cV L) (jV L)).devRef b) (fun a b e => Proc.devRef_injective _ e) (fun b hb => SparseCore.Cfg.mem_ownRefs_of_owner (hB b hb)) _

/-! ## What a tile is handed and hands back -/

/-- The tile's number. -/
def wid : Fin 32 := ⟨2 * (L 1).val + (L 0).val, by
  have h2 : (L 0).val < 2 := (L 0).isLt
  have h3 : (L 1).val < 16 := (L 1).isLt
  omega⟩

/-- The tile's share of what the first call reads, and of what the second does. -/
abbrev tokW : PosShare TreeShare := shareTok fullShare.right.left 32 (wid L)
abbrev tokN : PosShare TreeShare := shareTok fullShare.right.right 32 (wid L)

/-- The tile's block of a result of the first call. -/
abbrev outW {w : ℕ} (out : Memref sig .scVector .hbm ⟨2, ![4096, w]⟩ .f32) (off : Fin 2 → ℕ)
    (inb : ∀ a, off a + (⟨2, ![128, w]⟩ : Shape).size a ≤ (⟨2, ![4096, w]⟩ : Shape).size a) (g : Buf (Elt F) (out.view.loc (thr d L))) : sProp 𝕄 :=
  out.view.loc (thr d L) ↦[(blk out off inb).view.set]{fullShare} g

/-- The first call's reads. -/
def rdW : sProp 𝕄 :=
  iprop((a0W.view.loc (thr d L) ↦[a0W.view.set]{tokW L} m (a0Loc d)) ∗ (a1W.view.loc (thr d L) ↦[a1W.view.set]{tokW L} m (a1Loc d))
    ∗ (a2W.view.loc (thr d L) ↦[a2W.view.set]{tokW L} m (a2Loc d)) ∗ ((idxM L).view.loc (thr d L) ↦[(idxM L).view.set]{tokW L} m (a5Loc d)))

/-- The first call's result blocks at given contents. -/
def wrW (g0 : Buf (Elt F) (v20Loc d)) (g1 : Buf (Elt F) (v21Loc d)) (g2 : Buf (Elt F) (v22Loc d)) : sProp 𝕄 :=
  iprop((outW d L o0W (k0_off261 L) (k0_off261_inb L) g0)
    ∗ (outW d L o1W (k0_off261 L) (k0_off261_inb L) g1) ∗ (outW d L o2W (k0_off262 L) (k0_off262_inb L) g2))

abbrev v30Loc (d : Dev nD) : Loc nD τ sig := (SparseCore.T d).loc main_v3_0
abbrev v31Loc (d : Dev nD) : Loc nD τ sig := (SparseCore.T d).loc main_v3_1

/-- The second call's reads, its tables at given contents. -/
def rdN (rs : S62500x16.Idx → Elt F .f32) (ri : S62500x16.Idx → Elt F .i32) : sProp 𝕄 :=
  iprop((t3M.view.loc (thr d L) ↦[t3M.view.set]{tokN L} rs) ∗ (t4M.view.loc (thr d L) ↦[t4M.view.set]{tokN L} ri)
    ∗ ((idxM1 L).view.loc (thr d L) ↦[(idxM1 L).view.set]{tokN L} m (a5Loc d)))

/-- The second call's result blocks at given contents. -/
def wrN (g3 : Buf (Elt F) (v30Loc d)) (g4 : Buf (Elt F) (v31Loc d)) : sProp 𝕄 :=
  iprop(((p3M L).view.loc (thr d L) ↦[(p3M L).view.set]{fullShare} g3) ∗ ((p4M L).view.loc (thr d L) ↦[(p4M L).view.set]{fullShare} g4))

/-! ## The first call on a tile -/

/-- A buffer held whole is its view held. -/
theorem own_view {sp : Space} {s : Shape} {e : EltTy} (M : Memref sig .scVector sp s e) (h : M.view.set = Finset.univ) {q : PosShare TreeShare} {f : Buf (Elt F) (M.view.loc (thr d L))} :
    (M.view.loc (thr d L) ↦{q} f : sProp 𝕄) = (M.view.loc (thr d L) ↦[M.view.set]{q} f) := by rw [h]

theorem ownW_sems : (ownSems0 (thr d L) : sProp 𝕄)
    = iprop((semVal (thr d L, .dma cc0_scoped0.sem) 0 ∗ semVal (thr d L, .dma cc0_scoped1.sem) 0 ∗ semVal (thr d L, .dma cc0_scoped2.sem) 0 ∗ semVal (thr d L, .dma cc0_scoped3.sem) 0
        ∗ semVal (thr d L, .dma cc0_scratch5.sem) 0 ∗ semVal (thr d L, .dma cc0_scratch6.sem) 0)
      ∗ bigSep (ownCells (thr d L) \ ({.dma cc0_scoped0.sem, .dma cc0_scoped1.sem, .dma cc0_scoped2.sem, .dma cc0_scoped3.sem,
          .dma cc0_scratch5.sem, .dma cc0_scratch6.sem} : Finset (SemLoc sig)).image fun s => (thr d L, s)) fun g => semVal g 0) := by
  rw [take_sems d L {.dma cc0_scoped0.sem, .dma cc0_scoped1.sem, .dma cc0_scoped2.sem, .dma cc0_scoped3.sem, .dma cc0_scratch5.sem, .dma cc0_scratch6.sem} (by decide),
    SparseCore.bigSep_insert' (by decide), SparseCore.bigSep_insert' (by decide), SparseCore.bigSep_insert' (by decide), SparseCore.bigSep_insert' (by decide),
    SparseCore.bigSep_insert' (by decide), bigSep_singleton]

theorem ownW_bufs : (ownBufs (thr d L) : sProp 𝕄)
    = iprop(((∃ f, s0W.view.loc (thr d L) ↦{fullShare} f) ∗ (∃ f, s1W.view.loc (thr d L) ↦{fullShare} f) ∗ (∃ f, s2W.view.loc (thr d L) ↦{fullShare} f) ∗ (∃ f, s3W.view.loc (thr d L) ↦{fullShare} f))
      ∗ bigSep (ownRefs (τ := τ) (.scVector (cV L) (jV L)) \ ({cc0_scratch0, cc0_scratch1, cc0_scratch2, cc0_scratch3} : Finset (Ref sig .scVector)).image fun b => (Proc.scVector (cV L) (jV L)).devRef b)
            fun b => iprop(∃ f, ((d, b) : Loc nD τ sig) ↦{fullShare} f)) := by
  rw [take_bufs d L {cc0_scratch0, cc0_scratch1, cc0_scratch2, cc0_scratch3} (by
      intro b hb; simp only [Finset.mem_insert, Finset.mem_singleton] at hb; rcases hb with rfl | rfl | rfl | rfl <;> rfl),
    SparseCore.bigSep_insert' (by decide), SparseCore.bigSep_insert' (by decide), SparseCore.bigSep_insert' (by decide), bigSep_singleton]

variable {O : CellTallies nD τ sig (HIx 2)} {W : Waits sig (HIx 2)}

/-- A call's program, from what it needs, beside what it leaves alone. -/
theorem run_beside {P P' R : sProp 𝕄} {α : Type} {p : Prog (TpuEff nD τ sig (Elt F) Λ₀ (thr d L).2) α} {Q Q' : α → sProp 𝕄}
    (h₁ : P ⊢ |={Set.univ}=> iprop(P' ∗ R)) (h₂ : P' ⊢ wp frame (wpE (defs₀ (F := F)) 𝒱₀ (thr d L) none) Set.univ p Q)
    (h₃ : ∀ a, iprop(Q a ∗ R) ⊢ Q' a) : P ⊢ wp frame (wpE (defs₀ (F := F)) 𝒱₀ (thr d L) none) Set.univ p Q' :=
  wp_of_fupd frame _ Set.univ h₁ ((sep_mono_left h₂).trans ((wp_frame_r frame _ Set.univ).trans (wp_mono frame _ _ h₃)))

/-- What a tile may wait for, and what it owes. -/
theorem om_start (hO : ∀ g, O g none = 0) : iprop(levAts (K (F := F)).L (K (F := F)).lev ∗ owes (thr d L) O W) ⊢ (OM d L O W : sProp 𝕄) := by
  unfold OM
  iintro ⟨#Hlv, HO⟩
  isplitl [HO]; · iapply (owed_start (F := F)) $$ HO
  iapply (show levAts (K (F := F)).L (K (F := F)).lev ⊢ MayWaits (thr d L) (none : HIx 2) O from (K (F := F)).mayWaits_none (thr := thr d L) hO) $$ Hlv

theorem om_end : (OM d L O W : sProp 𝕄) ⊢ iprop(∃ W', ⌜∀ p ∈ W', p ∈ W ∨ p.2 = none⌝ ∗ owes (thr d L) O W') := by
  unfold OM
  exact sep_elim_left.trans owed_elim

/-- A whole buffer, opened at its view and put back. -/
theorem open_view {sp : Space} {s : Shape} {e : EltTy} {M : Memref sig .scVector sp s e} (h : M.view.set = Finset.univ) {f : Buf (Elt F) (M.view.loc (thr d L))} :
    (M.view.loc (thr d L) ↦{fullShare} f : sProp 𝕄) ⊢ (M.view.loc (thr d L) ↦[M.view.set]{fullShare} f) := .of_eq (own_view d L M h)

theorem shut_view {sp : Space} {s : Shape} {e : EltTy} {M : Memref sig .scVector sp s e} (h : M.view.set = Finset.univ) {f : Buf (Elt F) (M.view.loc (thr d L))} :
    (M.view.loc (thr d L) ↦[M.view.set]{fullShare} f : sProp 𝕄) ⊢ iprop(∃ f, M.view.loc (thr d L) ↦{fullShare} f) := by
  rw [← own_view d L M h]
  iintro H
  iexists f
  iexact H

variable {d L} in
/-- The first call's start, from what the tile is handed and owns. -/
theorem wide_before {f0 : Buf (Elt F) (s0W.view.loc (thr d L))} {f1 : Buf (Elt F) (s1W.view.loc (thr d L))} {f2 : Buf (Elt F) (s2W.view.loc (thr d L))} {f3 : Buf (Elt F) (s3W.view.loc (thr d L))}
    {g0 : Buf (Elt F) (v20Loc d)} {g1 : Buf (Elt F) (v21Loc d)} {g2 : Buf (Elt F) (v22Loc d)} {S B : sProp 𝕄} :
    iprop(OM d L O W ∗ (rdW m d L ∗ wrW d L g0 g1 g2)
        ∗ (((s0W.view.loc (thr d L) ↦{fullShare} f0) ∗ (s1W.view.loc (thr d L) ↦{fullShare} f1) ∗ (s2W.view.loc (thr d L) ↦{fullShare} f2) ∗ (s3W.view.loc (thr d L) ↦{fullShare} f3)) ∗ B)
        ∗ ((semVal (thr d L, .dma cc0_scoped0.sem) 0 ∗ semVal (thr d L, .dma cc0_scoped1.sem) 0 ∗ semVal (thr d L, .dma cc0_scoped2.sem) 0 ∗ semVal (thr d L, .dma cc0_scoped3.sem) 0
        ∗ semVal (thr d L, .dma cc0_scratch5.sem) 0 ∗ semVal (thr d L, .dma cc0_scratch6.sem) 0) ∗ S))
      ⊢ |={Set.univ}=> iprop(WideStart d L m (tokW L) f1 f2 f3 f0 O W iprop(Dest d L o0W (k0_off261 L) (k0_off261_inb L) cc0_scoped1.sem g0
          ∗ Dest d L o1W (k0_off261 L) (k0_off261_inb L) cc0_scoped2.sem g1 ∗ Dest d L o2W (k0_off262 L) (k0_off262_inb L) cc0_scoped3.sem g2)
        ∗ (B ∗ S) : sProp 𝕄) := by
  unfold rdW wrW WideStart OM Dest
  iintro ⟨⟨HO, HM⟩, ⟨⟨H0, H1, H2, H5⟩, ⟨O0, O1, O2⟩⟩, ⟨⟨S0, S1, S2, S3⟩, HB⟩, ⟨⟨V0, V1, V2, V3, V5, V6⟩, HS⟩⟩
  ihave S0 := (open_view d L (M := s0W) (View.set_whole _)) $$ S0
  ihave S1 := (open_view d L (M := s1W) (View.set_whole _)) $$ S1
  ihave S2 := (open_view d L (M := s2W) (View.set_whole _)) $$ S2
  ihave S3 := (open_view d L (M := s3W) (View.set_whole _)) $$ S3
  imod (batch_alloc' countersEmb (thr d L) (none : HIx 2) (rowN s1W) (pairRow d L m) (E := Set.univ)) $$ V5 with HP
  imod (batch_alloc' countersEmb (thr d L) (none : HIx 2) (rowN s3W) (scrRow d L s3W squeezes_S1x16_S16 (got3 d L m)) (E := Set.univ)) $$ V6 with HT
  ihave T0 := (Pend_start (d := d) (L := L) (src := a0W) (dst := s1W) (hq := squeezes_S1x64_S64)) $$ [H0 S1]
  · isplitl [H0]; · iexact H0
    iexact S1
  ihave T1 := (Pend_start (d := d) (L := L) (src := a1W) (dst := s2W) (hq := squeezes_S1x64_S64)) $$ [H1 S2]
  · isplitl [H1]; · iexact H1
    iexact S2
  ihave T2 := (Pend_start (d := d) (L := L) (src := a2W) (dst := s3W) (hq := squeezes_S1x16_S16)) $$ [H2 S3]
  · isplitl [H2]; · iexact H2
    iexact S3
  imodintro
  isplitr [HB HS]
  · isplitl [H5]; · iexact H5
    isplitl [S0]; · iexact S0
    isplitl [V0]; · iexact V0
    isplitl [HO]; · iexact HO
    isplitl [HM]; · iexact HM
    isplitl [HP]; · iexact HP
    isplitl [HT]; · iexact HT
    isplitl [T0]; · iexact T0
    isplitl [T1]; · iexact T1
    isplitl [T2]; · iexact T2
    isplitl [O0 V1]
    · isplitl [O0]; · iexact O0
      iexact V1
    isplitl [O1 V2]
    · isplitl [O1]; · iexact O1
      iexact V2
    isplitl [O2]; · iexact O2
    iexact V3
  isplitl [HB]; · iexact HB
  iexact HS

/-- The first call on a tile. -/
theorem tile_wide (hF : (K (F := F)).Facts) (hr : InRange (ixs d m)) (hO : ∀ g, O g none = 0) {g0 : Buf (Elt F) (v20Loc d)} {g1 : Buf (Elt F) (v21Loc d)} {g2 : Buf (Elt F) (v22Loc d)} :
    iprop(levAts (K (F := F)).L (K (F := F)).lev ∗ emp ∗ (rdW m d L ∗ wrW d L g0 g1 g2)
        ∗ scopedBufs (thr d L) ∗ scopedSems0 (thr d L) ∗ owes (thr d L) O W)
      ⊢ wp frame (wpE (defs₀ (F := F)) 𝒱₀ (thr d L) none) Set.univ (wideProg F L) fun _ =>
        iprop(wrW d L (gath (m (a0Loc d)) (ixs d m)) (gath (m (a1Loc d)) (ixs d m)) (gath (m (a2Loc d)) (ixs d m))
          ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownW_sems, ownW_bufs]
  iintro ⟨#Hlv, -, HR, ⟨⟨⟨%f0, S0⟩, ⟨%f1, S1⟩, ⟨%f2, S2⟩, ⟨%f3, S3⟩⟩, HB⟩, HS, HO⟩
  ihave HM := (om_start (F := F) d L hO) $$ [HO]
  · isplitr; · iexact Hlv
    iexact HO
  iapply (run_beside (F := F) d L (wide_before m (f0 := f0) (f1 := f1) (f2 := f2) (f3 := f3)) (wide_spec (F := F) hr) fun _ => ?_) $$ [HM HR S0 S1 S2 S3 HB HS]
  · unfold Held Dest wrW
    iintro ⟨⟨⟨S1, ⟨O0, V1⟩⟩, ⟨S2, ⟨O1, V2⟩⟩, ⟨S3, ⟨O2, V3⟩⟩, HM, S0, V5, V6, V0⟩, HB, HS⟩
    ihave S1 := (shut_view d L (M := s1W) (View.set_whole _)) $$ S1
    ihave S2 := (shut_view d L (M := s2W) (View.set_whole _)) $$ S2
    ihave S3 := (shut_view d L (M := s3W) (View.set_whole _)) $$ S3
    isplitl [O0 O1 O2]
    · isplitl [O0]; · iexact O0
      isplitl [O1]; · iexact O1
      iexact O2
    isplitl [S0 S1 S2 S3 HB]
    · isplitr [HB]
      · isplitl [S0]
        · iexists lst d L m
          iexact S0
        isplitl [S1]; · iexact S1
        isplitl [S2]; · iexact S2
        iexact S3
      iexact HB
    isplitr [HM]
    · isplitr [HS]
      · isplitl [V0]; · iexact V0
        isplitl [V1]; · iexact V1
        isplitl [V2]; · iexact V2
        isplitl [V3]; · iexact V3
        isplitl [V5]; · iexact V5
        iexact V6
      iexact HS
    iapply (om_end (F := F) d L) $$ HM
  isplitl [HM]; · iexact HM
  isplitl [HR]; · iexact HR
  isplitr [HS]
  · isplitr [HB]
    · isplitl [S0]; · iexact S0
      isplitl [S1]; · iexact S1
      isplitl [S2]; · iexact S2
      iexact S3
    iexact HB
  iexact HS

/-! ## The second call on a tile -/

theorem ownN_sems : (ownSems0 (thr d L) : sProp 𝕄)
    = iprop((semVal (thr d L, .dma cc1_scratch6.sem) 0 ∗ semVal (thr d L, .dma cc1_scoped0.sem) 0 ∗ semVal (thr d L, .dma cc1_scoped1.sem) 0 ∗ semVal (thr d L, .dma cc1_scoped2.sem) 0)
      ∗ bigSep (ownCells (thr d L) \ ({.dma cc1_scratch6.sem, .dma cc1_scoped0.sem, .dma cc1_scoped1.sem, .dma cc1_scoped2.sem} : Finset (SemLoc sig)).image fun s => (thr d L, s)) fun g => semVal g 0) := by
  rw [take_sems d L {.dma cc1_scratch6.sem, .dma cc1_scoped0.sem, .dma cc1_scoped1.sem, .dma cc1_scoped2.sem} (by decide),
    SparseCore.bigSep_insert' (by decide), SparseCore.bigSep_insert' (by decide), SparseCore.bigSep_insert' (by decide), bigSep_singleton]

theorem ownN_bufs : (ownBufs (thr d L) : sProp 𝕄)
    = iprop(((∃ f, n0W.view.loc (thr d L) ↦{fullShare} f) ∗ (∃ f, n1W.view.loc (thr d L) ↦{fullShare} f) ∗ (∃ f, n2W.view.loc (thr d L) ↦{fullShare} f) ∗ (∃ f, n3W.view.loc (thr d L) ↦{fullShare} f) ∗ (∃ f, n4W.view.loc (thr d L) ↦{fullShare} f) ∗ (∃ f, n5W.view.loc (thr d L) ↦{fullShare} f))
      ∗ bigSep (ownRefs (τ := τ) (.scVector (cV L) (jV L)) \ ({cc1_scratch0, cc1_scratch1, cc1_scratch2, cc1_scratch3, cc1_scratch4, cc1_scratch5} : Finset (Ref sig .scVector)).image fun b => (Proc.scVector (cV L) (jV L)).devRef b)
            fun b => iprop(∃ f, ((d, b) : Loc nD τ sig) ↦{fullShare} f)) := by
  rw [take_bufs d L {cc1_scratch0, cc1_scratch1, cc1_scratch2, cc1_scratch3, cc1_scratch4, cc1_scratch5} (by
      intro b hb; simp only [Finset.mem_insert, Finset.mem_singleton] at hb; rcases hb with rfl | rfl | rfl | rfl | rfl | rfl <;> rfl),
    SparseCore.bigSep_insert' (by decide), SparseCore.bigSep_insert' (by decide), SparseCore.bigSep_insert' (by decide), SparseCore.bigSep_insert' (by decide), SparseCore.bigSep_insert' (by decide), bigSep_singleton]

variable {d L} in
/-- The second call's start, from what the tile is handed and owns. -/
theorem narrow_before {f0 : Buf (Elt F) (n0W.view.loc (thr d L))} {f1 : Buf (Elt F) (n1W.view.loc (thr d L))} {f2 : Buf (Elt F) (n2W.view.loc (thr d L))} {f3 : Buf (Elt F) (n3W.view.loc (thr d L))} {f4 : Buf (Elt F) (n4W.view.loc (thr d L))} {f5 : Buf (Elt F) (n5W.view.loc (thr d L))}
    {rs : S62500x16.Idx → Elt F .f32} {ri : S62500x16.Idx → Elt F .i32} {g3 : Buf (Elt F) (v30Loc d)} {g4 : Buf (Elt F) (v31Loc d)} {S B : sProp 𝕄} :
    iprop(OM d L O W ∗ (rdN m d L rs ri ∗ wrN d L g3 g4)
        ∗ (((n0W.view.loc (thr d L) ↦{fullShare} f0) ∗ (n1W.view.loc (thr d L) ↦{fullShare} f1) ∗ (n2W.view.loc (thr d L) ↦{fullShare} f2) ∗ (n3W.view.loc (thr d L) ↦{fullShare} f3) ∗ (n4W.view.loc (thr d L) ↦{fullShare} f4) ∗ (n5W.view.loc (thr d L) ↦{fullShare} f5)) ∗ B)
        ∗ ((semVal (thr d L, .dma cc1_scratch6.sem) 0 ∗ semVal (thr d L, .dma cc1_scoped0.sem) 0 ∗ semVal (thr d L, .dma cc1_scoped1.sem) 0 ∗ semVal (thr d L, .dma cc1_scoped2.sem) 0) ∗ S))
      ⊢ |={Set.univ}=> iprop(NStart d L m O W rs ri (tokN L) f0 f1 f2 f3 f4 f5 g3 g4 ∗ (B ∗ S) : sProp 𝕄) := by
  unfold rdN wrN NStart
  iintro ⟨HM, ⟨⟨T3, T4, H5⟩, ⟨O3, O4⟩⟩, ⟨⟨S0, S1, S2, S3, S4, S5⟩, HB⟩, ⟨⟨V6, V0, V1, V2⟩, HS⟩⟩
  ihave S0 := (open_view d L (M := n0W) (View.set_whole _)) $$ S0
  ihave S1 := (open_view d L (M := n1W) (View.set_whole _)) $$ S1
  ihave S2 := (open_view d L (M := n2W) (View.set_whole _)) $$ S2
  ihave S3 := (open_view d L (M := n3W) (View.set_whole _)) $$ S3
  ihave S4 := (open_view d L (M := n4W) (View.set_whole _)) $$ S4
  ihave S5 := (open_view d L (M := n5W) (View.set_whole _)) $$ S5
  imodintro
  isplitr [HB HS]
  · isplitl [H5]; · iexact H5
    isplitl [S0]; · iexact S0
    isplitl [V0]; · iexact V0
    isplitl [HM]; · iexact HM
    isplitl [S1]; · iexact S1
    isplitl [T3]; · iexact T3
    isplitl [T4]; · iexact T4
    isplitl [S2]; · iexact S2
    isplitl [S3]; · iexact S3
    isplitl [V6]; · iexact V6
    isplitl [S4]; · iexact S4
    isplitl [S5]; · iexact S5
    isplitl [O3]; · iexact O3
    isplitl [V1]; · iexact V1
    isplitl [O4]; · iexact O4
    iexact V2
  isplitl [HB]; · iexact HB
  iexact HS

/-- The second call on a tile. -/
theorem tile_narrow (hF : (K (F := F)).Facts) (hr : InRange (ixs d m)) (hO : ∀ g, O g none = 0)
    {rs : S62500x16.Idx → Elt F .f32} {ri : S62500x16.Idx → Elt F .i32} {g3 : Buf (Elt F) (v30Loc d)} {g4 : Buf (Elt F) (v31Loc d)} :
    iprop(levAts (K (F := F)).L (K (F := F)).lev ∗ emp ∗ (rdN m d L rs ri ∗ wrN d L g3 g4)
        ∗ scopedBufs (thr d L) ∗ scopedSems0 (thr d L) ∗ owes (thr d L) O W)
      ⊢ wp frame (wpE (defs₀ (F := F)) 𝒱₀ (thr d L) none) Set.univ (narrowProg F L) fun _ =>
        iprop(wrN d L (pick rs (ixs d m)) (pick ri (ixs d m))
          ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownN_sems, ownN_bufs]
  iintro ⟨#Hlv, -, HR, ⟨⟨⟨%f0, S0⟩, ⟨%f1, S1⟩, ⟨%f2, S2⟩, ⟨%f3, S3⟩, ⟨%f4, S4⟩, ⟨%f5, S5⟩⟩, HB⟩, HS, HO⟩
  ihave HM := (om_start (F := F) d L hO) $$ [HO]
  · isplitr; · iexact Hlv
    iexact HO
  iapply (run_beside (F := F) d L (narrow_before m (f0 := f0) (f1 := f1) (f2 := f2) (f3 := f3) (f4 := f4) (f5 := f5)) (narrow_spec (F := F) hr) fun _ => ?_) $$ [HM HR S0 S1 S2 S3 S4 S5 HB HS]
  · unfold NEnd wrN
    iintro ⟨⟨O4, O3, HM, S0, S1, S2, S3, S4, S5, V6, V0, V1, V2⟩, HB, HS⟩
    ihave S0 := (shut_view d L (M := n0W) (View.set_whole _)) $$ S0
    ihave S1 := (shut_view d L (M := n1W) (View.set_whole _)) $$ S1
    ihave S2 := (shut_view d L (M := n2W) (View.set_whole _)) $$ S2
    ihave S3 := (shut_view d L (M := n3W) (View.set_whole _)) $$ S3
    ihave S4 := (shut_view d L (M := n4W) (View.set_whole _)) $$ S4
    ihave S5 := (shut_view d L (M := n5W) (View.set_whole _)) $$ S5
    isplitl [O3 O4]
    · isplitl [O3]; · iexact O3
      iexact O4
    isplitl [S0 S1 S2 S3 S4 S5 HB]
    · isplitr [HB]
      · isplitl [S0]; · iexact S0
        isplitl [S1]; · iexact S1
        isplitl [S2]; · iexact S2
        isplitl [S3]; · iexact S3
        isplitl [S4]; · iexact S4
        iexact S5
      iexact HB
    isplitr [HM]
    · isplitr [HS]
      · isplitl [V6]; · iexact V6
        isplitl [V0]; · iexact V0
        isplitl [V1]; · iexact V1
        iexact V2
      iexact HS
    iapply (om_end (F := F) d L) $$ HM
  isplitl [HM]; · iexact HM
  isplitl [HR]; · iexact HR
  isplitr [HS]
  · isplitr [HB]
    · isplitl [S0]; · iexact S0
      isplitl [S1]; · iexact S1
      isplitl [S2]; · iexact S2
      isplitl [S3]; · iexact S3
      isplitl [S4]; · iexact S4
      iexact S5
    iexact HB
  iexact HS

end Cert.Proof
-- ==== Proof.Handshakes.lean ====
/-
  The two calls as the launch theorem takes them: what each handshake carries, the tiles' obligations, and the launch's
  ghost state.
-/
module

public import proofs.«01_k».proof.Proof.Tiles

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 2) (Elt F) ℕ UU ℕ

variable (m : (ℓ : Loc nD τ sig) → Buf (Elt F) ℓ) (d : Dev nD)

/-- The tile at SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A one-column table laid out sixteen words to a row. -/
def rows16 {α : Type} (t : S1000000x1.Idx → α) : S62500x16.Idx → α := shapeCast S62500x16 t shapeCasts_S1000000x1_S62500x16

/-- The second call's tables. -/
abbrev tabS : S62500x16.Idx → Elt F .f32 := rows16 (m (a3Loc d))
abbrev tabI : S62500x16.Idx → Elt F .i32 := rows16 (m (a4Loc d))

/-! ## What a tile is handed and hands back -/

/-- The first call. -/
def goW (L : grid0.Coords) : sProp 𝕄 := iprop(rdW m d L ∗ wrW d L (m (v20Loc d)) (m (v21Loc d)) (m (v22Loc d)))
def tdW (L : grid0.Coords) : sProp 𝕄 :=
  wrW d L (gath (m (a0Loc d)) (ixs d m)) (gath (m (a1Loc d)) (ixs d m)) (gath (m (a2Loc d)) (ixs d m))

/-- The second call. -/
def goN (L : grid0.Coords) : sProp 𝕄 := iprop(rdN m d L (tabS m d) (tabI m d) ∗ wrN d L (m (v30Loc d)) (m (v31Loc d)))
def tdN (L : grid0.Coords) : sProp 𝕄 := wrN d L (pick (tabS m d) (ixs d m)) (pick (tabI m d) (ixs d m))

instance goW_storable (L : grid0.Coords) : BI.Storable (upEmb : UEmb _ 𝕄) (goW m d L) := by
  unfold goW rdW wrW; infer_instance
instance tdW_storable (L : grid0.Coords) : BI.Storable (upEmb : UEmb _ 𝕄) (tdW m d L) := by
  unfold tdW wrW; infer_instance
instance goN_storable (L : grid0.Coords) : BI.Storable (upEmb : UEmb _ 𝕄) (goN m d L) := by
  unfold goN rdN wrN; infer_instance
instance tdN_storable (L : grid0.Coords) : BI.Storable (upEmb : UEmb _ 𝕄) (tdN m d L) := by
  unfold tdN wrN; infer_instance

theorem tiles_storable {Φ : Fin 16 → sProp 𝕄} (h : ∀ i, BI.Storable (upEmb : UEmb _ 𝕄) (Φ i)) : BI.Storable (upEmb : UEmb _ 𝕄) (bigSep Finset.univ Φ) :=
  BI.Storable.bigSep _ _ _

/-- What the handshakes carry: to a SparseCore what its sixteen tiles are handed, back what they hand back. -/
def P : (K (F := F)).Pay (nD := nD) (Val := Elt F) (Name := ℕ) (U := UU) where
  st q d c := match q with
    | 0 => bigSep Finset.univ fun i : Fin 16 => goW m d (coordsV c i)
    | 1 => bigSep Finset.univ fun i : Fin 16 => goN m d (coordsV c i)
  dn q d c := match q with
    | 0 => bigSep Finset.univ fun i : Fin 16 => tdW m d (coordsV c i)
    | 1 => bigSep Finset.univ fun i : Fin 16 => tdN m d (coordsV c i)
  go q d c i := match q with
    | 0 => goW m d (coordsV c i)
    | 1 => goN m d (coordsV c i)
  td q d c i := match q with
    | 0 => tdW m d (coordsV c i)
    | 1 => tdN m d (coordsV c i)
  x _ _ := iprop(emp)

instance P_storable : (P (F := F) m).IsStorable where
  st q d c := match q with
    | 0 => tiles_storable fun i => goW_storable m d (coordsV c i)
    | 1 => tiles_storable fun i => goN_storable m d (coordsV c i)
  dn q d c := match q with
    | 0 => tiles_storable fun i => tdW_storable m d (coordsV c i)
    | 1 => tiles_storable fun i => tdN_storable m d (coordsV c i)
  go q d c i := match q with
    | 0 => goW_storable m d (coordsV c i)
    | 1 => goN_storable m d (coordsV c i)
  td q d c i := match q with
    | 0 => tdW_storable m d (coordsV c i)
    | 1 => tdN_storable m d (coordsV c i)

/-! ## A SparseCore's share dealt to its tiles -/

theorem deal_as_is {A B : sProp 𝕄} : A ⊢ |={Set.univ}=> iprop(A ∗ (B -∗ B)) := by
  iintro H
  imodintro
  isplitl [H]; · iexact H
  iintro H'
  iexact H'

theorem vecSplit0 : (K (F := F)).VecSplit' (P m) 0 := fun d c => deal_as_is
theorem vecSplit1 : (K (F := F)).VecSplit' (P m) 1 := fun d c => deal_as_is

/-! ## The tiles' obligations -/

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  iexact HO

theorem wide_at (c : Fin τ.nSC) (s : Fin τ.nSub) :
    defs₀ (F := F) (.scVector c s) 0 () = SparseCore.onTile hcore0 hsub0 (fun c s => wideProg F (coordsV c s)) ⟨⟩ c s := rfl

theorem narrow_at (c : Fin τ.nSC) (s : Fin τ.nSub) :
    defs₀ (F := F) (.scVector c s) 1 () = SparseCore.onTile hcore1 hsub1 (fun c s => narrowProg F (coordsV c s)) ⟨⟩ c s := rfl

set_option maxRecDepth 16384 in
theorem tileObl0 (hr : ∀ d, InRange (ixs d m)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [wide_at]; simp only [SparseCore.onTile, hci, and_self, ↓reduceDIte]
  exact (tile_wide m d (coordsV ⟨_, hci.1⟩ ⟨_, hci.2⟩) facts (hr d) hO).trans (wp_mono frame _ _ fun _ => obl_post)

set_option maxRecDepth 16384 in
theorem tileObl1 (hr : ∀ d, InRange (ixs d m)) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [narrow_at]; simp only [SparseCore.onTile, hci, and_self, ↓reduceDIte]
  exact (tile_narrow m d (coordsV ⟨_, hci.1⟩ ⟨_, hci.2⟩) facts (hr d) hO).trans (wp_mono frame _ _ fun _ => obl_post)

/-! ## The launch's ghost state -/

theorem emp_all {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 2 => (P (F := F) m).x q thr) = bigSep Finset.univ fun _ => iprop(emp) from
    bigSep_congr fun _ _ => emp_all _, emp_all]
  iempintro

end Cert.Proof
-- ==== Proof.Deal.lean ====
/-
  The TensorCore's arrays dealt to the thirty-two tiles and collected again: a read token of each table and of the index
  list for every tile, and the results block by block.
-/
module

public import proofs.«01_k».proof.Proof.Handshakes

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 2) (Elt F) ℕ UU ℕ

variable (m : (ℓ : Loc nD τ sig) → Buf (Elt F) ℓ) (d : Dev nD)

/-! ## All the tiles -/

/-- Something for every tile. -/
abbrev tiles (Φ : grid0.Coords → sProp 𝕄) : sProp 𝕄 :=
  bigSep Finset.univ fun c : Fin 2 => bigSep Finset.univ fun i : Fin 16 => Φ (coordsV c i)

theorem tiles_pairs (Φ : grid0.Coords → sProp 𝕄) :
    tiles Φ = bigSep Finset.univ fun p : Fin 2 × Fin 16 => Φ (coordsV p.1 p.2) :=
  (SparseCore.bigSep_product Finset.univ Finset.univ fun p : Fin 2 × Fin 16 => Φ (coordsV p.1 p.2)).symm

theorem tiles_sep (Φ Ψ : grid0.Coords → sProp 𝕄) : tiles (fun L => iprop(Φ L ∗ Ψ L)) = iprop(tiles Φ ∗ tiles Ψ) := by
  rw [tiles_pairs, tiles_pairs, tiles_pairs, ← bigSep_sep']

/-- The tiles, numbered. -/
def tileNo : Fin 2 × Fin 16 ≃ Fin 32 := (Equiv.prodComm (Fin 2) (Fin 16)).trans finProdFinEquiv

theorem tileNo_eq (p : Fin 2 × Fin 16) : wid (coordsV p.1 p.2) = tileNo p := by
  refine Fin.ext ?_
  show 2 * p.2.val + p.1.val = p.1.val + 2 * p.2.val
  omega

/-- Every tile's read token of part of an array, out of a share of it all. -/
theorem tokens {ℓ : Loc nD τ sig} {q : PosShare TreeShare} {f : Buf (Elt F) ℓ} (S : grid0.Coords → Finset (Idx ℓ)) :
    (ℓ ↦{q} f : sProp 𝕄) ⊢ tiles fun L => ℓ ↦[S L]{shareTok q 32 (wid L)} f := by
  rw [tiles_pairs]
  refine (pointsTo_toks_split q 32).trans (sep_elim_right.trans ?_)
  rw [bigSep_univ_equiv tileNo]
  refine bigSep_mono fun p _ => ?_
  rw [tileNo_eq]
  exact (pointsTo_split_subset (Finset.subset_univ _)).1.trans sep_elim_left

/-! ## The results' blocks -/

theorem unit_congr {s : Shape} {off off' size : Fin s.rank → ℕ} (h : off = off') (inb inb') :
    Rect.unit (s := s) off size inb = Rect.unit (s := s) off' size inb' := by
  subst h
  rfl

theorem wid_mul (L : grid0.Coords) : 256 * (L 1).val + 128 * (L 0).val = 128 * (wid L).val := by
  show _ = 128 * (2 * (L 1).val + (L 0).val)
  omega

theorem wid_le (L : grid0.Coords) : 128 * (wid L).val + 128 ≤ 4096 := by
  have := (wid L).isLt
  omega

theorem wid_ne {p p' : Fin 2 × Fin 16} (h : p ≠ p') : (wid (coordsV p.1 p.2)).val ≠ (wid (coordsV p'.1 p'.2)).val := by
  rw [tileNo_eq, tileNo_eq]
  exact fun e => h (tileNo.injective (Fin.ext e))

/-- A rank-two result is its blocks. -/
theorem blocks_two {w : ℕ} (out : Memref sig .scVector .hbm ⟨2, ![4096, w]⟩ .f32) {off : grid0.Coords → Fin 2 → ℕ}
    (hoff : ∀ L, off L = ![256 * (L 1).val + 128 * (L 0).val, 0])
    (inb : ∀ L a, off L a + (⟨2, ![128, w]⟩ : Shape).size a ≤ (⟨2, ![4096, w]⟩ : Shape).size a) (L₀ : grid0.Coords) (g : Buf (Elt F) (out.view.loc (thr d L₀))) :
    (out.view.loc (thr d L₀) ↦[out.view.set]{fullShare} g : sProp 𝕄)
      = tiles fun L => out.view.loc (thr d L₀) ↦[(blk out (off L) (inb L)).view.set]{fullShare} g := by
  have e : ∀ L, Rect.unit (s := (⟨2, ![4096, w]⟩ : Shape)) (off L) (⟨2, ![128, w]⟩ : Shape).size (inb L) = blockR (w := w) (wid L).val (wid_le L) :=
    fun L => unit_congr ((hoff L).trans (by rw [wid_mul])) _ _
  rw [tiles_pairs]
  refine pieces (c := thr d L₀) out (fun p : Fin 2 × Fin 16 => Rect.unit (s := (⟨2, ![4096, w]⟩ : Shape)) (off (coordsV p.1 p.2)) (⟨2, ![128, w]⟩ : Shape).size (inb _)) ?_ ?_ _ _
  · intro p p' h
    rw [e, e]
    exact blockR_disjoint _ _ (wid_ne h)
  · intro x
    obtain ⟨i, hi⟩ := blockR_cover (w := w) (b := 128) (k := 32) rfl (by decide) x
    refine ⟨tileNo.symm i, ?_⟩
    rw [e]
    have h : wid (coordsV (tileNo.symm i).1 (tileNo.symm i).2) = i := (tileNo_eq _).trans (tileNo.apply_symm_apply i)
    rw [mem_blockR] at hi ⊢
    rw [h]
    exact hi

/-- A rank-one result is its blocks. -/
theorem blocks_one {t : EltTy} (out : Memref sig .scVector .hbm ⟨1, ![4096]⟩ t) {off : grid0.Coords → Fin 1 → ℕ}
    (hoff : ∀ L, off L = ![256 * (L 1).val + 128 * (L 0).val])
    (inb : ∀ L a, off L a + (⟨1, ![128]⟩ : Shape).size a ≤ (⟨1, ![4096]⟩ : Shape).size a) (L₀ : grid0.Coords) (g : Buf (Elt F) (out.view.loc (thr d L₀))) :
    (out.view.loc (thr d L₀) ↦[out.view.set]{fullShare} g : sProp 𝕄)
      = tiles fun L => out.view.loc (thr d L₀) ↦[(out.view.slice (Rect.unit (s := (⟨1, ![4096]⟩ : Shape)) (off L) (⟨1, ![128]⟩ : Shape).size (inb L))).set]{fullShare} g := by
  have e : ∀ L, Rect.unit (s := (⟨1, ![4096]⟩ : Shape)) (off L) (⟨1, ![128]⟩ : Shape).size (inb L) = blockR1 (wid L).val (wid_le L) :=
    fun L => unit_congr ((hoff L).trans (by rw [wid_mul])) _ _
  rw [tiles_pairs]
  refine pieces (c := thr d L₀) out (fun p : Fin 2 × Fin 16 => Rect.unit (s := (⟨1, ![4096]⟩ : Shape)) (off (coordsV p.1 p.2)) (⟨1, ![128]⟩ : Shape).size (inb _)) ?_ ?_ _ _
  · intro p p' h
    rw [e, e]
    exact blockR1_disjoint _ _ (wid_ne h)
  · intro x
    obtain ⟨i, hi⟩ := blockR1_cover (b := 128) (k := 32) rfl (by decide) x
    refine ⟨tileNo.symm i, ?_⟩
    rw [e]
    have h : wid (coordsV (tileNo.symm i).1 (tileNo.symm i).2) = i := (tileNo_eq _).trans (tileNo.apply_symm_apply i)
    rw [mem_blockR1] at hi ⊢
    rw [h]
    exact hi

/-- The first call's results, whole, are the tiles' blocks. -/
theorem results_wide (g0 : Buf (Elt F) (v20Loc d)) (g1 : Buf (Elt F) (v21Loc d)) (g2 : Buf (Elt F) (v22Loc d)) :
    (tiles fun L => wrW d L g0 g1 g2) = (iprop((v20Loc d ↦{fullShare} g0) ∗ (v21Loc d ↦{fullShare} g1) ∗ (v22Loc d ↦{fullShare} g2)) : sProp 𝕄) := by
  have e0 := (own_view d (coordsV (0 : Fin 2) (0 : Fin 16)) o0W (View.set_whole _)).trans (blocks_two (F := F) d o0W k0_off261_eq k0_off261_inb (coordsV (0 : Fin 2) (0 : Fin 16)) g0)
  have e1 := (own_view d (coordsV (0 : Fin 2) (0 : Fin 16)) o1W (View.set_whole _)).trans (blocks_two (F := F) d o1W k0_off261_eq k0_off261_inb (coordsV (0 : Fin 2) (0 : Fin 16)) g1)
  have e2 := (own_view d (coordsV (0 : Fin 2) (0 : Fin 16)) o2W (View.set_whole _)).trans (blocks_two (F := F) d o2W k0_off262_eq k0_off262_inb (coordsV (0 : Fin 2) (0 : Fin 16)) g2)
  rw [show (v20Loc d ↦{fullShare} g0 : sProp 𝕄) = _ from e0, show (v21Loc d ↦{fullShare} g1 : sProp 𝕄) = _ from e1, show (v22Loc d ↦{fullShare} g2 : sProp 𝕄) = _ from e2,
    ← tiles_sep, ← tiles_sep]
  rfl

/-- The second call's. -/
theorem results_narrow (g3 : Buf (Elt F) (v30Loc d)) (g4 : Buf (Elt F) (v31Loc d)) :
    (tiles fun L => wrN d L g3 g4) = (iprop((v30Loc d ↦{fullShare} g3) ∗ (v31Loc d ↦{fullShare} g4)) : sProp 𝕄) := by
  have e0 := (own_view d (coordsV (0 : Fin 2) (0 : Fin 16)) p3W (View.set_whole _)).trans (blocks_one (F := F) d p3W k1_off2_eq k1_off2_inb (coordsV (0 : Fin 2) (0 : Fin 16)) g3)
  have e1 := (own_view d (coordsV (0 : Fin 2) (0 : Fin 16)) p4W (View.set_whole _)).trans (blocks_one (F := F) d p4W k1_off2_eq k1_off2_inb (coordsV (0 : Fin 2) (0 : Fin 16)) g4)
  rw [show (v30Loc d ↦{fullShare} g3 : sProp 𝕄) = _ from e0, show (v31Loc d ↦{fullShare} g4 : sProp 𝕄) = _ from e1, ← tiles_sep]
  rfl

/-! ## The calls' operands -/

/-- The first call's. -/
theorem operands_wide :
    iprop(((a0Loc d ↦{fullShare.right.left} m (a0Loc d)) ∗ (a1Loc d ↦{fullShare.right.left} m (a1Loc d)) ∗ (a2Loc d ↦{fullShare.right.left} m (a2Loc d))
        ∗ (a5Loc d ↦{fullShare.right.left} m (a5Loc d)))
      ∗ (v20Loc d ↦{fullShare} m (v20Loc d)) ∗ (v21Loc d ↦{fullShare} m (v21Loc d)) ∗ (v22Loc d ↦{fullShare} m (v22Loc d)))
    ⊢ (tiles fun L => goW m d L : sProp 𝕄) := by
  have t0 : (a0Loc d ↦{fullShare.right.left} m (a0Loc d) : sProp 𝕄) ⊢ tiles fun L => a0W.view.loc (thr d L) ↦[a0W.view.set]{tokW L} m (a0Loc d) :=
    tokens (ℓ := a0Loc d) (f := m (a0Loc d)) fun _ => a0W.view.set
  have t1 : (a1Loc d ↦{fullShare.right.left} m (a1Loc d) : sProp 𝕄) ⊢ tiles fun L => a1W.view.loc (thr d L) ↦[a1W.view.set]{tokW L} m (a1Loc d) :=
    tokens (ℓ := a1Loc d) (f := m (a1Loc d)) fun _ => a1W.view.set
  have t2 : (a2Loc d ↦{fullShare.right.left} m (a2Loc d) : sProp 𝕄) ⊢ tiles fun L => a2W.view.loc (thr d L) ↦[a2W.view.set]{tokW L} m (a2Loc d) :=
    tokens (ℓ := a2Loc d) (f := m (a2Loc d)) fun _ => a2W.view.set
  have t5 : (a5Loc d ↦{fullShare.right.left} m (a5Loc d) : sProp 𝕄) ⊢ tiles fun L => (idxM L).view.loc (thr d L) ↦[(idxM L).view.set]{tokW L} m (a5Loc d) :=
    tokens (ℓ := a5Loc d) (f := m (a5Loc d)) fun L => (idxM L).view.set
  unfold goW
  rw [tiles_sep, results_wide]
  unfold rdW
  rw [tiles_sep, tiles_sep, tiles_sep]
  exact sep_mono_left (BI.sep_mono t0 (BI.sep_mono t1 (BI.sep_mono t2 t5)))

/-- The second call's. -/
theorem operands_narrow {rs : S62500x16.Idx → Elt F .f32} {ri : S62500x16.Idx → Elt F .i32} {g3 : Buf (Elt F) (v30Loc d)} {g4 : Buf (Elt F) (v31Loc d)} :
    iprop((((SparseCore.T d).loc main_v0 ↦{fullShare.right.right} rs) ∗ ((SparseCore.T d).loc main_v1 ↦{fullShare.right.right} ri)
        ∗ (a5Loc d ↦{fullShare.right.right} m (a5Loc d)))
      ∗ (v30Loc d ↦{fullShare} g3) ∗ (v31Loc d ↦{fullShare} g4))
    ⊢ (tiles fun L => iprop(rdN m d L rs ri ∗ wrN d L g3 g4) : sProp 𝕄) := by
  have t3 : ((SparseCore.T d).loc main_v0 ↦{fullShare.right.right} rs : sProp 𝕄) ⊢ tiles fun L => t3M.view.loc (thr d L) ↦[t3M.view.set]{tokN L} rs :=
    tokens (ℓ := (SparseCore.T d).loc main_v0) (f := rs) fun _ => t3M.view.set
  have t4 : ((SparseCore.T d).loc main_v1 ↦{fullShare.right.right} ri : sProp 𝕄) ⊢ tiles fun L => t4M.view.loc (thr d L) ↦[t4M.view.set]{tokN L} ri :=
    tokens (ℓ := (SparseCore.T d).loc main_v1) (f := ri) fun _ => t4M.view.set
  have t5 : (a5Loc d ↦{fullShare.right.right} m (a5Loc d) : sProp 𝕄) ⊢ tiles fun L => (idxM1 L).view.loc (thr d L) ↦[(idxM1 L).view.set]{tokN L} m (a5Loc d) :=
    tokens (ℓ := a5Loc d) (f := m (a5Loc d)) fun L => (idxM1 L).view.set
  rw [tiles_sep, results_narrow]
  unfold rdN
  rw [tiles_sep, tiles_sep]
  exact sep_mono_left (BI.sep_mono t3 (BI.sep_mono t4 t5))

end Cert.Proof
-- ==== Proof.Main.lean ====
/-
  The whole program's run: the host reshapes the two one-column tables to rows of sixteen words, the two calls gather,
  and the host reshapes the second call's results to one column; every result ends as the reference's gather of its table.
-/
module

public import proofs.«01_k».proof.Proof.Deal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 2) (Elt F) ℕ UU ℕ

variable (m : (ℓ : Loc nD τ sig) → Buf (Elt F) ℓ) (ρ : Dev nD → PrngReg) (d : Dev nD)

/-! ## A one-column table by rows of sixteen words -/

/-- Row `r`, column `c` of the rows of sixteen is word `16 r + c` of the column. -/
theorem rows16_at {α : Type} (t : S1000000x1.Idx → α) (r : Fin 62500) (c : Fin 16) (k : Fin 1000000) (z : Fin 1) (h : k.val = r.val * 16 + c.val) :
    rows16 t (rc r c) = t (rc k z) := by
  refine congrArg t (Shape.reshapeEquiv_eq_of_rowMajor _ ?_)
  refine (Shape.rowMajor_val_two _).trans (Eq.trans ?_ (Shape.rowMajor_val_two _).symm)
  show k.val * 1 + z.val = r.val * 16 + c.val
  omega

/-- The words picked, as one column, are the table's rows at the list's row numbers. -/
theorem column {α : Type} (t : S1000000x1.Idx → α) {ix : S4096.Idx → BitVec 32} (hr : InRange ix) :
    shapeCast S4096x1 (pick (rows16 t) ix) shapeCasts_S4096_S4096x1 = gath t ix := by
  funext i
  have hi : Shape.reshapeEquiv shapeCasts_S4096_S4096x1 i = ix1 (n := 4096) (i 0) := by
    refine Shape.reshapeEquiv_eq_of_rowMajor _ ?_
    refine (Shape.rowMajor_val_one _).trans (Eq.trans ?_ (Shape.rowMajor_val_two _).symm)
    have h1 : (i 1).val < 1 := (i 1).isLt
    show (i 0).val = (i 0).val * 1 + (i 1).val
    omega
  show pick (rows16 t) ix (Shape.reshapeEquiv shapeCasts_S4096_S4096x1 i) = _
  rw [hi]
  have hlt := hr (ix1 (n := 4096) (i 0))
  refine rows16_at t _ _ _ _ ?_
  show (ix (ix1 (i 0))).toNat % 1000000 = (hiW (ix (ix1 (i 0)))).toNat % 62500 * 16 + (loW (ix (ix1 (i 0)))).toNat % 16
  rw [hiW_toNat hlt, loW_toNat]
  omega

/-! ## The host's steps -/

include m in
/-- A host reshape of one array into another. -/
theorem step_reshape {x y : Ref sig .tc} {he : x.ty.elt = y.ty.elt} {hn : x.ty.shape.ShapeCasts y.ty.shape} {hx hy} (hxy : x ≠ y)
    {fx : Buf (Elt F) ((SparseCore.T d).loc x)} {fy : Buf (Elt F) ((SparseCore.T d).loc y)} {Λ : Labels} {defs : Defs nD τ sig (Elt F) Λ}
    {𝒱' : Variants} {α : Type}
    {k : ((b : (StableHlo.reshape (τ := τ) (Val := Elt F) x y he hn hx hy).writes) → b.1.ty.Contents (Elt F)) → Prog (TpuEff nD τ sig (Elt F) Λ .tc) α}
    {Q : α → sProp 𝕄} :
    iprop(boundary (SparseCore.T d) ∗ ((SparseCore.T d).loc x ↦{fullShare} fx) ∗ ((SparseCore.T d).loc y ↦{fullShare} fy)
      ∗ ((boundary (SparseCore.T d) ∗ ((SparseCore.T d).loc x ↦{fullShare} fx)
          ∗ ((SparseCore.T d).loc y ↦{fullShare} fun i => he ▸ shapeCast y.ty.shape fx hn i)) -∗ ∀ v, wp frame (wpE defs 𝒱' (SparseCore.T d) none) Set.univ (k v) Q))
    ⊢ wp frame (wpE defs 𝒱' (SparseCore.T d) none) Set.univ (hlo rfl (StableHlo.reshape x y he hn hx hy) k) Q := by
  have hne : (Proc.devRef .tc x : DevRef τ sig) ≠ Proc.devRef .tc y := StableHlo.devRef_ne_of_ne hxy
  let G : Valuation τ sig (Elt F) := Function.update (Function.update (fun b => m (d, b)) (Proc.devRef .tc x) fx) (Proc.devRef .tc y) fy
  have hGx : G (Proc.devRef .tc x) = fx := (Function.update_of_ne hne _ _).trans (Function.update_self _ _ _)
  have hGy : G (Proc.devRef .tc y) = fy := Function.update_self _ _ _
  have hbufs : ∀ V : Valuation τ sig (Elt F), (bigSep (StableHlo.reshape (τ := τ) (Val := Elt F) x y he hn hx hy).bufs (fun b => ((d, b) : Loc nD τ sig) ↦{fullShare} V b) : sProp 𝕄)
      = iprop(((SparseCore.T d).loc x ↦{fullShare} V (Proc.devRef .tc x)) ∗ ((SparseCore.T d).loc y ↦{fullShare} V (Proc.devRef .tc y))) := by
    intro V
    rw [StableHlo.reshape_bufs, SparseCore.bigSep_insert' (by rwa [Finset.mem_singleton]), bigSep_singleton]
  have hres : (StableHlo.reshape (τ := τ) (Val := Elt F) x y he hn hx hy).result G (Proc.devRef .tc y) = fun i => he ▸ shapeCast y.ty.shape fx hn i := by
    rw [← hGx]
    exact StableHlo.reshape_result x y he hn hx hy G
  have hkeep : (StableHlo.reshape (τ := τ) (Val := Elt F) x y he hn hx hy).result G (Proc.devRef .tc x) = fx :=
    (StableHlo.reshape_result_ne x y he hn hx hy G hxy).trans hGx
  iintro ⟨Hb, Hx, Hy, Hk⟩
  iapply (wp_hlo 𝒱' (SparseCore.T d) none Set.univ (op := StableHlo.reshape (τ := τ) (Val := Elt F) x y he hn hx hy) (q := fun _ => fullShare) (F := G) (fun _ _ => rfl)) $$ [Hb Hx Hy]
  · isplitl [Hb]; · iexact Hb
    rw [hbufs, hGx, hGy]
    isplitl [Hx]; · iexact Hx
    iexact Hy
  rw [hbufs, hres, hkeep]
  iintro ⟨Hb, Hx, Hy⟩
  iapply Hk $$ [Hb Hx Hy]
  isplitl [Hb]; · iexact Hb
  isplitl [Hx]; · iexact Hx
  iexact Hy

/-- The TensorCore's arrays. -/
theorem unscopedBufs_eq (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
        ∗ (a3Loc d ↦{fullShare} W main_arg3) ∗ (a4Loc d ↦{fullShare} W main_arg4) ∗ (a5Loc d ↦{fullShare} W main_arg5)
        ∗ ((SparseCore.T d).loc main_v0 ↦{fullShare} W main_v0) ∗ ((SparseCore.T d).loc main_v1 ↦{fullShare} W main_v1)
        ∗ (v20Loc d ↦{fullShare} W main_v2_0) ∗ (v21Loc d ↦{fullShare} W main_v2_1) ∗ (v22Loc d ↦{fullShare} W main_v2_2)
        ∗ (v30Loc d ↦{fullShare} W main_v3_0) ∗ (v31Loc d ↦{fullShare} W main_v3_1)
        ∗ ((SparseCore.T d).loc main_v4 ↦{fullShare} W main_v4) ∗ ((SparseCore.T d).loc main_v5 ↦{fullShare} W main_v5)) := by
  unfold unscopedBufs
  rw [show (Finset.univ.filter fun b : Ref sig .tc => ¬ b.isScoped)
      = {main_arg0, main_arg1, main_arg2, main_arg3, main_arg4, main_arg5, main_v0, main_v1, main_v2_0, main_v2_1, main_v2_2, main_v3_0, main_v3_1, main_v4, main_v5} by decide]
  repeat rw [SparseCore.bigSep_insert' (by decide)]
  rw [bigSep_singleton]

/-- An array's full share: the half @main keeps, and one of the other quarters for each call. -/
theorem halves {ℓ : Loc nD τ sig} {f : Buf (Elt F) ℓ} :
    (ℓ ↦{fullShare} f : sProp 𝕄) ⊢ iprop((ℓ ↦{fullShare.left} f) ∗ (ℓ ↦{fullShare.right.left} f) ∗ (ℓ ↦{fullShare.right.right} f)) :=
  (pointsTo_share (PosShare.mem_left_op_right _)).1.trans (BI.sep_mono (.refl _) (pointsTo_share (PosShare.mem_left_op_right _)).1)

/-! ## What the run leaves -/

/-- What @main leaves the claim: every argument as it was, every result its table's rows. -/
abbrev FIN : sProp 𝕄 :=
  iprop((a0Loc d ↦{fullShare.left} m (a0Loc d)) ∗ (a1Loc d ↦{fullShare.left} m (a1Loc d)) ∗ (a2Loc d ↦{fullShare.left} m (a2Loc d))
    ∗ (a3Loc d ↦{fullShare} m (a3Loc d)) ∗ (a4Loc d ↦{fullShare} m (a4Loc d)) ∗ (a5Loc d ↦{fullShare.left} m (a5Loc d))
    ∗ (v20Loc d ↦{fullShare} gath (m (a0Loc d)) (ixs d m)) ∗ (v21Loc d ↦{fullShare} gath (m (a1Loc d)) (ixs d m))
    ∗ (v22Loc d ↦{fullShare} gath (m (a2Loc d)) (ixs d m))
    ∗ ((SparseCore.T d).loc main_v4 ↦{fullShare} gath (m (a3Loc d)) (ixs d m)) ∗ ((SparseCore.T d).loc main_v5 ↦{fullShare} gath (m (a4Loc d)) (ixs d m)))

/-- The same of a final memory. -/
def fq (s' : Phys nD τ sig (Elt F)) : Prop :=
  s'.mem.mem (a0Loc d) = m (a0Loc d) ∧ s'.mem.mem (a1Loc d) = m (a1Loc d) ∧ s'.mem.mem (a2Loc d) = m (a2Loc d)
  ∧ s'.mem.mem (a3Loc d) = m (a3Loc d) ∧ s'.mem.mem (a4Loc d) = m (a4Loc d) ∧ s'.mem.mem (a5Loc d) = m (a5Loc d)
  ∧ s'.mem.mem (v20Loc d) = gath (m (a0Loc d)) (ixs d m) ∧ s'.mem.mem (v21Loc d) = gath (m (a1Loc d)) (ixs d m)
  ∧ s'.mem.mem (v22Loc d) = gath (m (a2Loc d)) (ixs d m)
  ∧ s'.mem.mem ((SparseCore.T d).loc main_v4) = gath (m (a3Loc d)) (ixs d m) ∧ s'.mem.mem ((SparseCore.T d).loc main_v5) = gath (m (a4Loc d)) (ixs d m)

/-- A held array is what the memory holds. -/
theorem read_last {s' : Phys nD τ sig (Elt F)} {ℓ : Loc nD τ sig} {q : PosShare TreeShare} {f : Buf (Elt F) ℓ} :
    iprop((ℓ ↦{q} f) ∗ SI s') ⊢ (⌜s'.mem.mem ℓ = f⌝ : sProp 𝕄) := by
  iintro ⟨Hx, HSI⟩
  ihave H := (SI_pointsTo_agree (st := s') (ℓ := ℓ) (I := Finset.univ) (q := q) (f := f)) $$ [HSI Hx]
  · isplitl [HSI] <;> iassumption
  icases H with %h
  ipureintro
  exact funext fun i => h i (Finset.mem_univ i)

theorem read_more {s' : Phys nD τ sig (Elt F)} {ℓ : Loc nD τ sig} {q : PosShare TreeShare} {f : Buf (Elt F) ℓ} {A : sProp 𝕄} {φ : Prop}
    (h : iprop(A ∗ SI s') ⊢ (⌜φ⌝ : sProp 𝕄)) : iprop(((ℓ ↦{q} f) ∗ A) ∗ SI s') ⊢ (⌜s'.mem.mem ℓ = f ∧ φ⌝ : sProp 𝕄) := by
  iintro ⟨⟨Hx, HA⟩, HSI⟩
  ihave H := (persistent_entails_right (SI_pointsTo_agree (st := s') (ℓ := ℓ) (I := Finset.univ) (q := q) (f := f))) $$ [HSI Hx]
  · isplitl [HSI] <;> iassumption
  icases H with ⟨%hx, HSI, -⟩
  ihave H := h $$ [HSI HA]
  · isplitl [HA] <;> iassumption
  icases H with %hφ
  ipureintro
  exact ⟨funext fun i => hx i (Finset.mem_univ i), hφ⟩

theorem hfin (s' : Phys nD τ sig (Elt F)) : iprop(FIN m d ∗ SI s') ⊢ (⌜fq m d s'⌝ : sProp 𝕄) :=
  read_more (read_more (read_more (read_more (read_more (read_more (read_more (read_more (read_more (read_more read_last)))))))))

/-! ## @main on the TensorCore -/

/-- Each call's operands and results, its tiles'. -/
theorem st_wide : (bigSep Finset.univ fun c : Fin ((K (F := F)).nCore 0) => (P m).st 0 d c) = (tiles fun L => goW m d L) := rfl
theorem dn_wide : (bigSep Finset.univ fun c : Fin ((K (F := F)).nCore 0) => (P m).dn 0 d c) = (tiles fun L => tdW m d L) := rfl
theorem st_narrow : (bigSep Finset.univ fun c : Fin ((K (F := F)).nCore 1) => (P m).st 1 d c) = (tiles fun L => goN m d L) := rfl
theorem dn_narrow : (bigSep Finset.univ fun c : Fin ((K (F := F)).nCore 1) => (P m).dn 1 d c) = (tiles fun L => tdN m d L) := rfl

/-- @main: the two reshapes of the one-column tables, the two calls, the two reshapes of the second call's results. -/
theorem hmain (hr : ∀ d, InRange (ixs d m)) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨A0, A1, A2, A3, A4, A5, T0, T1, R0, R1, R2, W0, W1, R3, R4⟩, Hts, -⟩, -⟩
  -- the one-column tables, by rows of sixteen words
  iapply (step_reshape (F := F) m d (x := main_arg3) (y := main_v0) (by decide))
  isplitl [Hb]; · iexact Hb
  isplitl [A3]; · iexact A3
  isplitl [T0]; · iexact T0
  iintro ⟨Hb, A3, T0⟩ %v
  rw [wp_ret]; imodintro
  iapply (step_reshape (F := F) m d (x := main_arg4) (y := main_v1) (by decide))
  isplitl [Hb]; · iexact Hb
  isplitl [A4]; · iexact A4
  isplitl [T1]; · iexact T1
  iintro ⟨Hb, A4, T1⟩ %v'
  rw [wp_ret]; imodintro
  -- a part of each operand to each call, the rest kept
  ihave A0 := halves $$ A0
  icases A0 with ⟨A0, Q0, -⟩
  ihave A1 := halves $$ A1
  icases A1 with ⟨A1, Q1, -⟩
  ihave A2 := halves $$ A2
  icases A2 with ⟨A2, Q2, -⟩
  ihave A5 := halves $$ A5
  icases A5 with ⟨A5, Q5, Q6⟩
  ihave T0 := halves $$ T0
  icases T0 with ⟨-, -, T0⟩
  ihave T1 := halves $$ T1
  icases T1 with ⟨-, -, T1⟩
  -- the wide call
  iapply ((K (F := F)).wp_run (D (F := F)) 𝒱 (EH := EH) (P := P m) κ d 0) $$ [Hst Q0 Q1 Q2 Q5 R0 R1 R2 Hb A0 A1 A2 A3 A4 A5 T0 T1 Q6 W0 W1 R3 R4 Hts]
  isplitr; · iexact Hctx
  isplitl [Hst]; · iexact Hst
  isplitl [Q0 Q1 Q2 Q5 R0 R1 R2]
  · rw [st_wide]
    iapply (operands_wide m d)
    isplitl [Q0 Q1 Q2 Q5]
    · isplitl [Q0]; · iexact Q0
      isplitl [Q1]; · iexact Q1
      isplitl [Q2]; · iexact Q2
      iexact Q5
    isplitl [R0]; · iexact R0
    isplitl [R1]; · iexact R1
    iexact R2
  iintro ⟨Hst, Hdn⟩
  ihave Hdn := (Entails.of_eq ((dn_wide m d).trans (results_wide d _ _ _))) $$ Hdn
  icases Hdn with ⟨R0, R1, R2⟩
  -- the narrow call
  iapply ((K (F := F)).wp_run (D (F := F)) 𝒱 (EH := EH) (P := P m) κ d 1) $$ [Hst T0 T1 Q6 W0 W1 Hb A0 A1 A2 A3 A4 A5 R0 R1 R2 R3 R4 Hts]
  isplitr; · iexact Hctx
  isplitl [Hst]; · iexact Hst
  isplitl [T0 T1 Q6 W0 W1]
  · rw [st_narrow]
    iapply (operands_narrow m d)
    isplitl [T0 T1 Q6]
    · isplitl [T0]; · iexact T0
      isplitl [T1]; · iexact T1
      iexact Q6
    isplitl [W0]; · iexact W0
    iexact W1
  iintro ⟨Hst, Hdn⟩
  ihave Hdn := (Entails.of_eq ((dn_narrow m d).trans (results_narrow d _ _))) $$ Hdn
  icases Hdn with ⟨W0, W1⟩
  -- its results, as one column each
  iapply (step_reshape (F := F) m d (x := main_v3_0) (y := main_v4) (by decide))
  isplitl [Hb]; · iexact Hb
  isplitl [W0]; · iexact W0
  isplitl [R3]; · iexact R3
  iintro ⟨Hb, -, R3⟩ %v''
  rw [wp_ret]; imodintro
  iapply (step_reshape (F := F) m d (x := main_v3_1) (y := main_v5) (by decide))
  isplitl [Hb]; · iexact Hb
  isplitl [W1]; · iexact W1
  isplitl [R4]; · iexact R4
  iintro ⟨Hb, -, R4⟩ %w
  rw [wp_ret]; imodintro; imodintro
  ihave R3 := (Entails.of_eq (congrArg (fun f => ((SparseCore.T d).loc main_v4 ↦{fullShare} f : sProp 𝕄)) (column (m (a3Loc d)) (hr d)))) $$ R3
  ihave R4 := (Entails.of_eq (congrArg (fun f => ((SparseCore.T d).loc main_v5 ↦{fullShare} f : sProp 𝕄)) (column (m (a4Loc d)) (hr d)))) $$ R4
  isplitl [Hst]; · iexact Hst
  isplitr [Hb Hts]
  · isplitl [A0]; · iexact A0
    isplitl [A1]; · iexact A1
    isplitl [A2]; · iexact A2
    isplitl [A3]; · iexact A3
    isplitl [A4]; · iexact A4
    isplitl [A5]; · iexact A5
    isplitl [R0]; · iexact R0
    isplitl [R1]; · iexact R1
    isplitl [R2]; · iexact R2
    isplitl [R3]; · iexact R3
    iexact R4
  isplitl [Hb] <;> iassumption

/-! ## The program's run -/

/-- What the run ends in: on every device each argument as it was and each result its table's rows; every counter zero. -/
def QC : PUnit × MemSt nD τ sig (Elt F) → Prop := fun r =>
  (∀ d : Dev nD, r.2.mem (a0Loc d) = m (a0Loc d) ∧ r.2.mem (a1Loc d) = m (a1Loc d) ∧ r.2.mem (a2Loc d) = m (a2Loc d)
    ∧ r.2.mem (a3Loc d) = m (a3Loc d) ∧ r.2.mem (a4Loc d) = m (a4Loc d) ∧ r.2.mem (a5Loc d) = m (a5Loc d)
    ∧ r.2.mem (v20Loc d) = gath (m (a0Loc d)) (ixs d m) ∧ r.2.mem (v21Loc d) = gath (m (a1Loc d)) (ixs d m)
    ∧ r.2.mem (v22Loc d) = gath (m (a2Loc d)) (ixs d m)
    ∧ r.2.mem ((SparseCore.T d).loc main_v4) = gath (m (a3Loc d)) (ixs d m)
    ∧ r.2.mem ((SparseCore.T d).loc main_v5) = gath (m (a4Loc d)) (ixs d m))
  ∧ r.2.sem = fun _ => 0

/-- From any memory whose row numbers are in range, for any floats: every fair execution of @main and of the two kernels
    on all thirty-two tiles ends, nothing faulting, in such a state. -/
theorem run_main [∀ e, Nonempty (Elt F e)] (hr : ∀ d, InRange (ixs d m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hr | 1 => tileObl1 m hr)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ hr) (fq m) (hfin m) (QC m) (fun _ h hz => ⟨h, hz⟩)

end Cert.Proof
-- ==== Proof.Ref.lean ====
/-
  The reference's side: each of its five `jnp.take`s, at row numbers in range, is the table's rows at those row numbers.
  A take counts a negative row number from the table's end and puts a fill value where the number is out of range; in range it does
  neither. Last, what the precondition says of the row numbers.
-/
module

public import proofs.«01_k».proof.Proof.Gen.ReferenceIdeal
public import proofs.«01_k».proof.Proof.Gen.Pre_idx_in_range
public import proofs.«01_k».proof.Proof.WideSteps
public import Idealize.ShloMosaic.Lib.ReduceAll
public import Idealize.ShloMosaic.Lib.Routing.Ops

@[expose] public section

noncomputable section

namespace Cert.Proof.Take

open Cert.ReferenceIdeal Cert.ReferenceIdeal.Gen
open Idealize.ShloMosaic

/-! ## Signed comparisons of a row number in range -/

theorem not_negative {v : BitVec 32} (h : v.toNat < 1000000) : IntOp.cmpi .slt v 0#32 = 0#1 := by
  have : v.slt 0#32 = false := by
    simp only [BitVec.slt_eq_decide, decide_eq_false_iff_not, BitVec.toInt_eq_toNat_cond, BitVec.toNat_ofNat, Nat.reducePow, Nat.reduceMod]
    omega
  simp only [IntOp.cmpi, this]
  rfl

theorem at_least_zero {v : BitVec 32} (h : v.toNat < 1000000) : IntOp.cmpi .sge v 0#32 = 1#1 := by
  have : (0#32).sle v = true := by
    simp only [BitVec.sle_eq_decide, decide_eq_true_eq, BitVec.toInt_eq_toNat_cond, BitVec.toNat_ofNat, Nat.reducePow, Nat.reduceMod]
    omega
  simp only [IntOp.cmpi, this]
  rfl

theorem at_most_last {v : BitVec 32} (h : v.toNat < 1000000) : IntOp.cmpi .sle v 999999#32 = 1#1 := by
  have : v.sle 999999#32 = true := by
    simp only [BitVec.sle_eq_decide, decide_eq_true_eq, BitVec.toInt_eq_toNat_cond, BitVec.toNat_ofNat, Nat.reducePow, Nat.reduceMod]
    omega
  simp only [IntOp.cmpi, this]
  rfl

/-! ## One take -/

/-- The row numbers as a take reads them: a negative one counted from the table's end, all as one column. -/
abbrev wrapped (ix : IVec S4096 32) : IVec S4096x1 32 :=
  broadcastInDim S4096x1 ![0] bcast_S4096_S4096x1_0
    (select (cmpi .slt ix (broadcastInDim S4096 ![] bcast_S_S4096 (constantI S_ 32 0#32)))
      (addi ix (broadcastInDim S4096 ![] bcast_S_S4096 (constantI S_ 32 1000000#32))) ix)

/-- Which of them are in range. -/
abbrev inside (ix : IVec S4096 32) : IVec S4096 1 :=
  Host.reduce IntOp.andi
    (andi (cmpi .sge (wrapped ix) (broadcastInDim S4096x1 ![] bcast_S_S4096x1 (constantI S_ 32 0#32)))
      (cmpi .sle (wrapped ix) (broadcastInDim S4096x1 ![0, 1] bcast_S1x1_S4096x1_0_1 (broadcastInDim S1x1 ![1] bcast_S1_S1x1_1 (constantI S1 32 999999#32)))))
    (constantI S_ 1 1#1) reducesTo_S4096x1_S4096_d1 h_S_

variable {ix : IVec S4096 32} (hr : InRange ix)
include hr

/-- In range, a row number is read as it is. -/
theorem wrapped_at (k : S4096x1.Idx) : wrapped ix k = ix (ix1 (n := 4096) (k 0)) := by
  have hk : ∀ j : S4096.Idx, select (cmpi .slt ix (broadcastInDim S4096 ![] bcast_S_S4096 (constantI S_ 32 0#32)))
      (addi ix (broadcastInDim S4096 ![] bcast_S_S4096 (constantI S_ 32 1000000#32))) ix j = ix j := fun j => by
    show Scalar.select (IntOp.cmpi .slt (ix j) 0#32) _ (ix j) = ix j
    rw [not_negative (hr j)]
    rfl
  refine (hk _).trans (congrArg ix (funext fun a => ?_))
  match a with
  | 0 => rfl

/-- All are in range. -/
theorem inside_at (j : S4096.Idx) : inside ix j = 1#1 := by
  refine Host.reduce_andi_one _ _ _ _ j rfl fun k => ?_
  show IntOp.andi (IntOp.cmpi .sge (wrapped ix k) 0#32) (IntOp.cmpi .sle (wrapped ix k) 999999#32) = 1#1
  rw [wrapped_at hr k, at_least_zero (hr _), at_most_last (hr _)]
  rfl

/-- A take at row numbers in range is the table's rows at those numbers, whatever the table's width and the fill value. -/
theorem take_eq {α : Type} {w : ℕ} (d : GatherDims ⟨2, ![1000000, w]⟩ S4096x1 ⟨2, ![4096, w]⟩) (hoff : d.offsetDims = [1])
    (hcoll : d.collapsedSliceDims = [0]) (hob : d.operandBatchingDims = []) (hsim : d.startIndexMap = [0]) (hivd : d.indexVectorDim = 1)
    (hb : S4096.BroadcastsInDim ⟨2, ![4096, w]⟩ (![0] : Fin 1 → Fin 2)) (t : (⟨2, ![1000000, w]⟩ : Shape).Idx → α)
    (fill : (⟨2, ![4096, w]⟩ : Shape).Idx → α) :
    select (broadcastInDim ⟨2, ![4096, w]⟩ ![0] hb (inside ix)) (Host.gather d t (wrapped ix)) fill = gath t ix := by
  funext i
  show Scalar.select (inside ix _) (Host.gather d t (wrapped ix) i) (fill i) = _
  rw [inside_at hr]
  show Host.gather d t (wrapped ix) i = _
  have hlt := hr (ix1 (n := 4096) (i 0))
  rw [ValueIdx.eq_ix2 i]
  refine (Routing.gather_row d hoff hcoll hob hsim hivd t (wrapped ix) (i 0) (i 1) ⟨_, hlt⟩ ?_ (by norm_num)).trans ?_
  · rw [wrapped_at hr]
    exact ((BitVec.ofNat_toNat 32 _).trans (BitVec.setWidth_eq _)).symm
  · refine congrArg t (funext fun a => ?_)
    match a with
    | 0 => exact Fin.ext (Nat.mod_eq_of_lt hlt).symm
    | 1 => rfl

/-! ## The precondition -/

omit hr in
/-- What the precondition says: every row number is in range. -/
theorem inRange_of_pre {F : FTy → Type} [FloatOps F] {a0 a1 : FVec F S1000000x64 .f32} {a2 : FVec F S1000000x16 .f32} {a3 : FVec F S1000000x1 .f32}
    {a4 : IVec S1000000x1 32} (h : Cert.Pre_idx_in_range.fn a0 a1 a2 a3 a4 ix = fun _ => 1#1) : InRange ix := by
  intro i
  have both : IntOp.andi (IntOp.cmpi .sge (ix i) 0#32) (IntOp.cmpi .slt (ix i) 1000000#32) = 1#1 := congrFun h i
  obtain ⟨h1, h2⟩ := IntOp.andi_eq_one.1 both
  have e1 : ∀ p : Bool, BitVec.ofBool p = 1#1 → p = true := by decide
  have h1 := e1 _ h1
  have h2 := e1 _ h2
  simp only [BitVec.sle_eq_decide, BitVec.slt_eq_decide, decide_eq_true_eq, BitVec.toInt_eq_toNat_cond, BitVec.toNat_ofNat, Nat.reducePow,
    Nat.reduceMod] at h1 h2
  omega

end Cert.Proof.Take
-- ==== Proof.Same.lean ====
/-
  The kernel as printed and the kernel printed for the ideal reading are one text: no operation was rewritten. So a run of the
  second, over any floats, is a run of the first.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

set_option maxHeartbeats 4000000 in
/-- The two programs' bodies are one. -/
theorem defs_same : Cert.Kernel.defs (F := F) = Cert.KernelIdeal.defs (F := F) := rfl

/-- The two programs' threads are one. -/
theorem threads_same : Cert.Kernel.threads (F := F) = Cert.KernelIdeal.threads (F := F) := rfl

/-- A run of the one is a run of the other. -/
theorem run_same {m : (ℓ : Loc Cert.Kernel.nD Cert.Kernel.τ Cert.Kernel.sig) → Buf (Elt F) ℓ} {ρ : Dev Cert.Kernel.nD → PrngReg}
    {Q : PUnit × MemSt Cert.Kernel.nD Cert.Kernel.τ Cert.Kernel.sig (Elt F) → Prop}
    (h : θ_run (Cert.KernelIdeal.defs (F := F)) (Cert.KernelIdeal.threads (F := F)) ⟨m, fun _ => 0, ρ⟩ Q) :
    θ_run (Cert.Kernel.defs (F := F)) (Cert.Kernel.threads (F := F)) ⟨m, fun _ => 0, ρ⟩ Q := by
  rw [defs_same, threads_same]
  exact h

end Cert.Proof
-- ==== Proof.lean ====
/-
  The proof of `Cert.Claim`: the two frames of the kernel and the value claim from its one run (Proof/Main.lean, for any
  floats), the reference's frame and values from its run and Proof/Ref.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_range
public import proofs.«01_k».proof.Proof.Main
public import proofs.«01_k».proof.Proof.Ref
public import proofs.«01_k».proof.Proof.Same
public import Idealize.ShloMosaic.Adequacy
public import Idealize.ShloMosaic.Init

@[expose] public section

noncomputable section

namespace Cert.Proof

open Idealize.ShloMosaic Idealize.SL.Sem

/-- The kernel's frame: the run, read at the arguments and at the counters. -/
theorem frame_kernel : Cert.quiescent_Kernel := fun m ρ hpre => run_same <|
  (θ_run Cert.KernelIdeal.defs _ _).mono
    (fun _ h => ⟨fun c => let ⟨h0, h1, h2, h3, h4, h5, _⟩ := h.1 c; ⟨h0, h1, h2, h3, h4, h5⟩, h.2⟩)
    (run_main (F := Bits) m ρ fun d => Take.inRange_of_pre (hpre d))

/-- The idealized kernel's frame, the same way. -/
theorem frame_ideal : Cert.quiescent_KernelIdeal := fun m ρ hpre =>
  (θ_run Cert.KernelIdeal.defs _ _).mono
    (fun _ h => ⟨fun c => let ⟨h0, h1, h2, h3, h4, h5, _⟩ := h.1 c; ⟨h0, h1, h2, h3, h4, h5⟩, h.2⟩)
    (run_main (F := Ideal) m ρ fun d => Take.inRange_of_pre (hpre d))

/-- The reference's frame; it declares no semaphore. -/
theorem frame_ref : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The value claim: both runs end with each table's rows at the row numbers. -/
theorem value : Cert.algebraic_KernelIdeal_ReferenceIdeal := by
  intro m ρ m' ρ' hpre hagree
  have hr : ∀ d, InRange (ixs d m) := fun d => Take.inRange_of_pre (hpre d)
  refine ⟨fun c => gath (m (a0Loc c)) (ixs c m), fun c => gath (m (a1Loc c)) (ixs c m), fun c => gath (m (a2Loc c)) (ixs c m),
    fun c => gath (m (a3Loc c)) (ixs c m), fun c => gath (m (a4Loc c)) (ixs c m),
    (θ_run Cert.KernelIdeal.defs _ _).mono (fun _ h c => ?_) (run_main (F := Ideal) m ρ hr),
    (θ_run Cert.ReferenceIdeal.defs _ _).mono (fun _ h c => ?_) (Cert.ReferenceIdeal.Value.run (F := Ideal) m' ρ')⟩
  · obtain ⟨h0, h1, h2, h3, h4, h5, g0, g1, g2, g3, g4⟩ := h.1 c
    exact ⟨g0, g1, g2, g3, g4, h0, h1, h2, h3, h4, h5⟩
  · obtain ⟨g0, g1, g2, g3, g4, hargs⟩ := h c
    obtain ⟨e0, e1, e2, e3, e4, e5⟩ := hagree c
    rw [e0, e5] at g0
    rw [e1, e5] at g1
    rw [e2, e5] at g2
    rw [e3, e5] at g3
    rw [e4, e5] at g4
    exact ⟨g0.trans (Take.take_eq (hr c) _ rfl rfl rfl rfl rfl _ _ _), g1.trans (Take.take_eq (hr c) _ rfl rfl rfl rfl rfl _ _ _),
      g2.trans (Take.take_eq (hr c) _ rfl rfl rfl rfl rfl _ _ _), g3.trans (Take.take_eq (hr c) _ rfl rfl rfl rfl rfl _ _ _),
      g4.trans (Take.take_eq (hr c) _ rfl rfl rfl rfl rfl _ _ _), hargs⟩

/-- Everything the certificate claims. -/
theorem claim : Cert.Claim :=
  ⟨Cert.Kernel.Gen.facts, Cert.KernelIdeal.Gen.facts, Cert.ReferenceIdeal.Gen.facts, Cert.Pre_idx_in_range.Gen.facts,
    frame_kernel, frame_ideal, frame_ref, fun m ρ _ => frame_ref m ρ trivial, trivial, value⟩

end Cert.Proof

end
